-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_padded_tables [hPre_padded_tables : Cert.Pre_padded_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_padded_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_padded_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_padded_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.1 = (fun _ => 1#1)
    ∧ (Cert.Pre_padded_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_padded_tables [hPre_padded_tables : Cert.Pre_padded_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_padded_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_padded_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_padded_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.1 = (fun _ => 1#1)
    ∧ (Cert.Pre_padded_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_padded_tables [hKernel3Ideal : Cert.Kernel3Ideal.Facts] [hPre_padded_tables : Cert.Pre_padded_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_padded_tables m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_padded_tables [hReference3Ideal : Cert.Reference3Ideal.Facts] [hPre_padded_tables : Cert.Pre_padded_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_padded_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "inv_sqrt_two" .f32 0x3F3504F3#32 (((Real.sqrt 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  IdealRules.named_const.Statement Cert.Kernel3Ideal.κ "q_scale" .f32 0x3E16C740#32 (((Real.sqrt 96)⁻¹ * (Real.log 2)⁻¹ : ℝ) : EReal)
  ∧ IdealRules.named_const.Statement Cert.Kernel3Ideal.κ "log2_e" .f32 0x3FB8AA3B#32 (((Real.log 2)⁻¹ : ℝ) : EReal)

def algebraic_Kernel3Ideal_Reference3Ideal_pre_padded_tables [hKernel3Ideal : Cert.Kernel3Ideal.Facts] [hReference3Ideal : Cert.Reference3Ideal.Facts] [hPre_padded_tables : Cert.Pre_padded_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_padded_tables m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_v117) = v1 c
          ∧ r.2.mem ((c.tc : Thread Cert.Reference3Ideal.nD Cert.Reference3Ideal.τ).loc Cert.Reference3Ideal.main_v118) = v2 c
          ∧ r.2.mem ((c.tc : Thread Cert.Reference3Ideal.nD Cert.Reference3Ideal.τ).loc Cert.Reference3Ideal.main_v119) = v3 c
          ∧ r.2.mem ((c.tc : Thread Cert.Reference3Ideal.nD Cert.Reference3Ideal.τ).loc Cert.Reference3Ideal.main_v120) = v4 c
          ∧ r.2.mem ((c.tc : Thread Cert.Reference3Ideal.nD Cert.Reference3Ideal.τ).loc Cert.Reference3Ideal.main_v121) = v5 c
          ∧ r.2.mem ((c.tc : Thread Cert.Reference3Ideal.nD Cert.Reference3Ideal.τ).loc Cert.Reference3Ideal.main_v122) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "inv_sqrt_two" .f32 0x3F3504F3#32 (((Real.sqrt 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v110) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_padded_tables : Cert.Pre_padded_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_padded_tables (hKernel3Ideal := hKernel3Ideal) (hPre_padded_tables := hPre_padded_tables)
    ∧ quiescent_Reference3Ideal (hReference3Ideal := hReference3Ideal)
    ∧ quiescent_Reference3Ideal_pre_padded_tables (hReference3Ideal := hReference3Ideal) (hPre_padded_tables := hPre_padded_tables)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_padded_tables (hKernel3Ideal := hKernel3Ideal) (hReference3Ideal := hReference3Ideal) (hPre_padded_tables := hPre_padded_tables)
    ∧ preserves_Kernel4_Kernel4Ideal
    ∧ algebraic_Kernel4Ideal_Reference4Ideal (hKernel4Ideal := hKernel4Ideal) (hReference4Ideal := hReference4Ideal)
-- ==== Pre_finite_scores.lean ====
abbrev S1024x16384 : Shape := ⟨2, ![1024, 16384]⟩
abbrev S16384x1024 : Shape := ⟨2, ![16384, 1024]⟩
abbrev S512x16384 : Shape := ⟨2, ![512, 16384]⟩
abbrev S256x1024 : Shape := ⟨2, ![256, 1024]⟩
abbrev S512x256 : Shape := ⟨2, ![512, 256]⟩
abbrev S_ : Shape := ⟨0, ![]⟩

class Facts : Prop where
  bcast_S_S1024x16384 : S_.BroadcastsInDim S1024x16384 (![] : Fin 0 → Fin S1024x16384.rank)
  bcast_S_S16384x1024 : S_.BroadcastsInDim S16384x1024 (![] : Fin 0 → Fin S16384x1024.rank)
  bcast_S_S256x1024 : S_.BroadcastsInDim S256x1024 (![] : Fin 0 → Fin S256x1024.rank)

variable [Facts]

def fn {F : FTy → Type} [FloatOps F] (main_arg0 : FVec F S1024x16384 .bf16) (main_arg1 : FVec F S16384x1024 .bf16) (main_arg2 : FVec F S512x16384 .bf16) (main_arg3 : FVec F S256x1024 .bf16) (main_arg4 : FVec F S512x256 .bf16) : IVec S1024x16384 1 × IVec S16384x1024 1 × IVec S256x1024 1 :=
  let main_v0 : FVec F S1024x16384 .bf16 := Host.absf main_arg0
  let main_cst : FVec F S_ .bf16 := constant S_ .bf16 0x7F80#16
  let main_v1 : FVec F S1024x16384 .bf16 := broadcastInDim S1024x16384 ![] bcast_S_S1024x16384 main_cst
  let main_v2 : IVec S1024x16384 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  let main_v6 : FVec F S256x1024 .bf16 := Host.absf main_arg3
  let main_cst_1 : FVec F S_ .bf16 := constant S_ .bf16 0x7F80#16
  let main_v7 : FVec F S256x1024 .bf16 := broadcastInDim S256x1024 ![] bcast_S_S256x1024 main_cst_1
  let main_v8 : IVec S256x1024 1 := cmpf .olt main_v6 main_v7
  (main_v2, main_v5, main_v8)
-- ==== Pre_padded_tables.lean ====
abbrev S16384x1024 : Shape := ⟨2, ![16384, 1024]⟩
abbrev S8x3072 : Shape := ⟨2, ![8, 3072]⟩
abbrev S1x1024 : Shape := ⟨2, ![1, 1024]⟩
abbrev S1024x3712 : Shape := ⟨2, ![1024, 3712]⟩
abbrev S1x768 : Shape := ⟨2, ![1, 768]⟩
abbrev S768x1024 : Shape := ⟨2, ![768, 1024]⟩
abbrev S1x256 : Shape := ⟨2, ![1, 256]⟩
abbrev S256x1024 : Shape := ⟨2, ![256, 1024]⟩
abbrev S256x512 : Shape := ⟨2, ![256, 512]⟩
abbrev S16384x128 : Shape := ⟨2, ![16384, 128]⟩
abbrev S16384x64 : Shape := ⟨2, ![16384, 64]⟩
abbrev S_ : Shape := ⟨0, ![]⟩
abbrev S16384x32 : Shape := ⟨2, ![16384, 32]⟩

class Facts : Prop where
  slices_S16384x128_S16384x64_0_0 : S16384x128.Slices ![0, 0] S16384x64
  bcast_S_S16384x64 : S_.BroadcastsInDim S16384x64 (![] : Fin 0 → Fin S16384x64.rank)
  slices_S16384x128_S16384x32_0_96 : S16384x128.Slices ![0, 96] S16384x32
  bcast_S_S16384x32 : S_.BroadcastsInDim S16384x32 (![] : Fin 0 → Fin S16384x32.rank)

variable [Facts]

def fn {F : FTy → Type} [FloatOps F] (main_arg0 : FVec F S16384x1024 .f32) (main_arg1 : FVec F S8x3072 .f32) (main_arg2 : FVec F S1x1024 .f32) (main_arg3 : FVec F S1024x3712 .bf16) (main_arg4 : FVec F S1x768 .f32) (main_arg5 : FVec F S768x1024 .bf16) (main_arg6 : FVec F S1x256 .f32) (main_arg7 : FVec F S256x1024 .bf16) (main_arg8 : FVec F S256x512 .bf16) (main_arg9 : FVec F S16384x128 .f32) (main_arg10 : FVec F S16384x128 .f32) : IVec S16384x64 1 × IVec S16384x32 1 × IVec S16384x64 1 × IVec S16384x32 1 :=
  let main_v0 : FVec F S16384x64 .f32 := (extractStridedSlice S16384x64 ![0, 0] · slices_S16384x128_S16384x64_0_0) main_arg9
  let main_cst : FVec F S_ .f32 := constant S_ .f32 0x00000000#32
  let main_v1 : FVec F S16384x64 .f32 := broadcastInDim S16384x64 ![] bcast_S_S16384x64 main_cst
  let main_v2 : IVec S16384x64 1 := cmpf .oeq main_v0 main_v1
  let main_v3 : FVec F S16384x32 .f32 := (extractStridedSlice S16384x32 ![0, 96] · slices_S16384x128_S16384x32_0_96) main_arg9
  let main_cst_0 : FVec F S_ .f32 := constant S_ .f32 0x00000000#32
  let main_v4 : FVec F S16384x32 .f32 := broadcastInDim S16384x32 ![] bcast_S_S16384x32 main_cst_0
  let main_v5 : IVec S16384x32 1 := cmpf .oeq main_v3 main_v4
  let main_v6 : FVec F S16384x64 .f32 := (extractStridedSlice S16384x64 ![0, 0] · slices_S16384x128_S16384x64_0_0) main_arg10
  let main_cst_1 : FVec F S_ .f32 := constant S_ .f32 0x00000000#32
  let main_v7 : FVec F S16384x64 .f32 := broadcastInDim S16384x64 ![] bcast_S_S16384x64 main_cst_1
  let main_v8 : IVec S16384x64 1 := cmpf .oeq main_v6 main_v7
  let main_v9 : FVec F S16384x32 .f32 := (extractStridedSlice S16384x32 ![0, 96] · slices_S16384x128_S16384x32_0_96) main_arg10
  let main_cst_2 : FVec F S_ .f32 := constant S_ .f32 0x00000000#32
  let main_v10 : FVec F S16384x32 .f32 := broadcastInDim S16384x32 ![] bcast_S_S16384x32 main_cst_2
  let main_v11 : IVec S16384x32 1 := cmpf .oeq main_v9 main_v10
  (main_v2, main_v5, main_v8, main_v11)
-- ==== Kernel.lean ====
abbrev S1024x16384 : Shape := ⟨2, ![1024, 16384]⟩
abbrev S16384x1024 : Shape := ⟨2, ![16384, 1024]⟩
abbrev S512x16384 : Shape := ⟨2, ![512, 16384]⟩
abbrev S256x1024 : Shape := ⟨2, ![256, 1024]⟩
abbrev S512x256 : Shape := ⟨2, ![512, 256]⟩
abbrev S16384x512 : Shape := ⟨2, ![16384, 512]⟩
abbrev S16384x256 : Shape := ⟨2, ![16384, 256]⟩
abbrev S128x16384 : Shape := ⟨2, ![128, 16384]⟩
abbrev S256x256 : Shape := ⟨2, ![256, 256]⟩
abbrev S128x256 : Shape := ⟨2, ![128, 256]⟩
abbrev S1024x128 : Shape := ⟨2, ![1024, 128]⟩
abbrev S80x1024 : Shape := ⟨2, ![80, 1024]⟩
abbrev S512x1024 : Shape := ⟨2, ![512, 1024]⟩
abbrev S1x1024 : Shape := ⟨2, ![1, 1024]⟩
abbrev S512x128 : Shape := ⟨2, ![512, 128]⟩
abbrev S128x1024 : Shape := ⟨2, ![128, 1024]⟩
abbrev S1024 : Shape := ⟨1, ![1024]⟩
abbrev S64x512 : Shape := ⟨2, ![64, 512]⟩
abbrev S16x512 : Shape := ⟨2, ![16, 512]⟩
abbrev S80x512 : Shape := ⟨2, ![80, 512]⟩
abbrev S256x128 : Shape := ⟨2, ![256, 128]⟩
abbrev S64x256 : Shape := ⟨2, ![64, 256]⟩
abbrev S16x256 : Shape := ⟨2, ![16, 256]⟩
abbrev S80x256 : Shape := ⟨2, ![80, 256]⟩
abbrev S64x1024 : Shape := ⟨2, ![64, 1024]⟩

abbrev nBuf : Space → Nat
  | .hbm => 6
  | .vmem => 18
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S512x16384, .bf16⟩
  | .hbm, ⟨3, _⟩ => ⟨S256x1024, .bf16⟩
  | .hbm, ⟨4, _⟩ => ⟨S512x256, .bf16⟩
  | .hbm, ⟨5, _⟩ => ⟨S16384x512, .bf16⟩
  | .local _ .vmem, ⟨0, _⟩ => ⟨S256x1024, .bf16⟩
  | .local _ .vmem, ⟨1, _⟩ => ⟨S256x1024, .bf16⟩
  | .local _ .vmem, ⟨2, _⟩ => ⟨S16384x256, .bf16⟩
  | .local _ .vmem, ⟨3, _⟩ => ⟨S16384x256, .bf16⟩
  | .local _ .vmem, ⟨4, _⟩ => ⟨S128x16384, .bf16⟩
  | .local _ .vmem, ⟨5, _⟩ => ⟨S128x16384, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S1024x128, .bf16⟩
  | .local _ .vmem, ⟨11, _⟩ => ⟨S1024x128, .bf16⟩
  | .local _ .vmem, ⟨12, _⟩ => ⟨S80x1024, .f32⟩
  | .local _ .vmem, ⟨13, _⟩ => ⟨S80x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c3_i32 : BitVec 32 := 3#32
  let v26 : BitVec 32 := Scalar.addi c0_i32 c3_i32
  let c1_i32 : BitVec 32 := 1#32
  ⟨c0_i32, v26, c1_i32⟩
def k0_mult1 (k0_t1 : Fin k0_t1_loop.trips) : BitVec 32 :=
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let c0_i32_323 : BitVec 32 := 0#32
  let v593 : BitVec 32 := Scalar.addi v592 c0_i32_323
  let c1_i32_324 : BitVec 32 := 1#32
  let v594 : BitVec 32 := Scalar.addi v593 c1_i32_324
  let c512_i32 : BitVec 32 := 512#32
  let v595 : BitVec 32 := Scalar.muli v594 c512_i32
  v595
def k0_off1 (k0_t1 : Fin k0_t1_loop.trips) (c0_i32_323 : BitVec 32) : Fin 2 → Nat :=
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let v593 : BitVec 32 := Scalar.addi v592 c0_i32_323
  let c1_i32_324 : BitVec 32 := 1#32
  let v594 : BitVec 32 := Scalar.addi v593 c1_i32_324
  let c512_i32 : BitVec 32 := 512#32
  let v595 : BitVec 32 := Scalar.muli v594 c512_i32
  let v596 : BitVec 32 := v595
  let v597 : Index := Scalar.indexCast v596
  let c0_325 : Index := 0#32
  ![v597.toNat, 0]
def k0_mult2 (k0_t1 : Fin k0_t1_loop.trips) : BitVec 32 :=
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let c0_i32_323 : BitVec 32 := 0#32
  let v593 : BitVec 32 := Scalar.addi v592 c0_i32_323
  let c512_i32_334 : BitVec 32 := 512#32
  let v607 : BitVec 32 := Scalar.muli v593 c512_i32_334
  v607
def k0_off2 (k0_t1 : Fin k0_t1_loop.trips) (c0_i32_323 : BitVec 32) : Fin 2 → Nat :=
  let c0_335 : Index := 0#32
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let v593 : BitVec 32 := Scalar.addi v592 c0_i32_323
  let c512_i32_334 : BitVec 32 := 512#32
  let v607 : BitVec 32 := Scalar.muli v593 c512_i32_334
  let v608 : BitVec 32 := v607
  let v609 : Index := Scalar.indexCast v608
  ![0, v609.toNat]
def k0_mult3 (k0_t1 : Fin k0_t1_loop.trips) : BitVec 32 :=
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let c0_i32_323 : BitVec 32 := 0#32
  let v593 : BitVec 32 := Scalar.addi v592 c0_i32_323
  let c1_i32_342 : BitVec 32 := 1#32
  let v633 : BitVec 32 := Scalar.addi v593 c1_i32_342
  let c512_i32_343 : BitVec 32 := 512#32
  let v634 : BitVec 32 := Scalar.muli v633 c512_i32_343
  v634
def k0_off3 (k0_t1 : Fin k0_t1_loop.trips) (c0_i32_323 : BitVec 32) : Fin 2 → Nat :=
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let v593 : BitVec 32 := Scalar.addi v592 c0_i32_323
  let c1_i32_342 : BitVec 32 := 1#32
  let v633 : BitVec 32 := Scalar.addi v593 c1_i32_342
  let c512_i32_343 : BitVec 32 := 512#32
  let v634 : BitVec 32 := Scalar.muli v633 c512_i32_343
  let v635 : BitVec 32 := v634
  let v636 : Index := Scalar.indexCast v635
  let c128_344 : Index := 128#32
  ![v636.toNat, 128]
def k0_mult4 (k0_t1 : Fin k0_t1_loop.trips) : BitVec 32 :=
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let c0_i32_323 : BitVec 32 := 0#32
  let v593 : BitVec 32 := Scalar.addi v592 c0_i32_323
  let c512_i32_353 : BitVec 32 := 512#32
  let v646 : BitVec 32 := Scalar.muli v593 c512_i32_353
  v646
def k0_off4 (k0_t1 : Fin k0_t1_loop.trips) (c0_i32_323 : BitVec 32) : Fin 2 → Nat :=
  let c64_354 : Index := 64#32
  let c8_i32 : BitVec 32 := 8#32
  let c0_i32 : BitVec 32 := 0#32
  let c1_i32 : BitVec 32 := 1#32
  let arg14 : BitVec 32 := Scf.iv c0_i32 c1_i32 k0_t1
  let v592 : BitVec 32 := Scalar.muli c8_i32 arg14
  let v593 : BitVec 32 := Scalar.addi v592 c0_i32_323
  let c512_i32_353 : BitVec 32 := 512#32
  let v646 : BitVec 32 := Scalar.muli v593 c512_i32_353
  let v647 : BitVec 32 := v646
  let v648 : Index := Scalar.indexCast v647
  ![64, v648.toNat]
def k0_mult5 (k0_t1 : Fin k0_t1_loop.trips) : BitVec 32 :=
  let c8_i32_361 : BitVec 32 := 8#32
  let c0_i32 : BitVec 32 := 0#32
  let c1_i32 : BitVec 32 := 1#32
  let arg14 : BitVec 32 := Scf.iv c0_i32 c1_i32 k0_t1
  let v672 : BitVec 32 := Scalar.muli c8_i32_361 arg14
  let c1_i32_362 : BitVec 32 := 1#32
  let v673 : BitVec 32 := Scalar.addi v672 c1_i32_362
  let c1_i32_363 : BitVec 32 := 1#32
  let v674 : BitVec 32 := Scalar.addi v673 c1_i32_363
  let c512_i32_364 : BitVec 32 := 512#32
  let v675 : BitVec 32 := Scalar.muli v674 c512_i32_364
  v675
def k0_mult6 (k0_t1 : Fin k0_t1_loop.trips) : BitVec 32 :=
  let c8_i32_361 : BitVec 32 := 8#32
  let c0_i32 : BitVec 32 := 0#32
  let c1_i32 : BitVec 32 := 1#32
  let arg14 : BitVec 32 := Scf.iv c0_i32 c1_i32 k0_t1
  let v672 : BitVec 32 := Scalar.muli c8_i32_361 arg14
  let c1_i32_362 : BitVec 32 := 1#32
  let v673 : BitVec 32 := Scalar.addi v672 c1_i32_362
  let c512_i32_374 : BitVec 32 := 512#32
  let v687 : BitVec 32 := Scalar.muli v673 c512_i32_374
  v687
def k0_mult7 (k0_t1 : Fin k0_t1_loop.trips) : BitVec 32 :=
  let c8_i32_361 : BitVec 32 := 8#32
  let c0_i32 : BitVec 32 := 0#32
  let c1_i32 : BitVec 32 := 1#32
  let arg14 : BitVec 32 := Scf.iv c0_i32 c1_i32 k0_t1
  let v672 : BitVec 32 := Scalar.muli c8_i32_361 arg14
  let c1_i32_362 : BitVec 32 := 1#32
  let v673 : BitVec 32 := Scalar.addi v672 c1_i32_362
  let c1_i32_382 : BitVec 32 := 1#32
  let v713 : BitVec 32 := Scalar.addi v673 c1_i32_382
  let c512_i32_383 : BitVec 32 := 512#32
  let v714 : BitVec 32 := Scalar.muli v713 c512_i32_383
  v714
def k0_mult8 (k0_t1 : Fin k0_t1_loop.trips) : BitVec 32 :=
  let c8_i32_361 : BitVec 32 := 8#32
  let c0_i32 : BitVec 32 := 0#32
  let c1_i32 : BitVec 32 := 1#32
  let arg14 : BitVec 32 := Scf.iv c0_i32 c1_i32 k0_t1
  let v672 : BitVec 32 := Scalar.muli c8_i32_361 arg14
  let c1_i32_362 : BitVec 32 := 1#32
  let v673 : BitVec 32 := Scalar.addi v672 c1_i32_362
  let c512_i32_393 : BitVec 32 := 512#32
  let v726 : BitVec 32 := Scalar.muli v673 c512_i32_393
  v726
def k0_mult9 (k0_t1 : Fin k0_t1_loop.trips) : BitVec 32 :=
  let c8_i32_401 : BitVec 32 := 8#32
  let c0_i32 : BitVec 32 := 0#32
  let c1_i32 : BitVec 32 := 1#32
  let arg14 : BitVec 32 := Scf.iv c0_i32 c1_i32 k0_t1
  let v752 : BitVec 32 := Scalar.muli c8_i32_401 arg14
  let c2_i32 : BitVec 32 := 2#32
  let v753 : BitVec 32 := Scalar.addi v752 c2_i32
  let c1_i32_402 : BitVec 32 := 1#32
  let v754 : BitVec 32 := Scalar.addi v753 c1_i32_402
  let c512_i32_403 : BitVec 32 := 512#32
  let v755 : BitVec 32 := Scalar.muli v754 c512_i32_403
  v755
def k0_mult10 (k0_t1 : Fin k0_t1_loop.trips) : BitVec 32 :=
  let c8_i32_401 : BitVec 32 := 8#32
  let c0_i32 : BitVec 32 := 0#32
  let c1_i32 : BitVec 32 := 1#32
  let arg14 : BitVec 32 := Scf.iv c0_i32 c1_i32 k0_t1
  let v752 : BitVec 32 := Scalar.muli c8_i32_401 arg14
  let c2_i32 : BitVec 32 := 2#32
  let v753 : BitVec 32 := Scalar.addi v752 c2_i32
  let c512_i32_413 : BitVec 32 := 512#32
  let v767 : BitVec 32 := Scalar.muli v753 c512_i32_413
  v767
def k0_mult11 (k0_t1 : Fin k0_t1_loop.trips) : BitVec 32 :=
  let c8_i32_401 : BitVec 32 := 8#32
  let c0_i32 : BitVec 32 := 0#32
  let c1_i32 : BitVec 32 := 1#32
  let arg14 : BitVec 32 := Scf.iv c0_i32 c1_i32 k0_t1
  let v752 : BitVec 32 := Scalar.muli c8_i32_401 arg14
  let c2_i32 : BitVec 32 := 2#32
  let v753 : BitVec 32 := Scalar.addi v752 c2_i32
  let c1_i32_421 : BitVec 32 := 1#32
  let v793 : BitVec 32 := Scalar.addi v753 c1_i32_421
  let c512_i32_422 : BitVec 32 := 512#32
  let v794 : BitVec 32 := Scalar.muli v793 c512_i32_422
  v794
def k0_mult12 (k0_t1 : Fin k0_t1_loop.trips) : BitVec 32 :=
  let c8_i32_401 : BitVec 32 := 8#32
  let c0_i32 : BitVec 32 := 0#32
  let c1_i32 : BitVec 32 := 1#32
  let arg14 : BitVec 32 := Scf.iv c0_i32 c1_i32 k0_t1
  let v752 : BitVec 32 := Scalar.muli c8_i32_401 arg14
  let c2_i32 : BitVec 32 := 2#32
  let v753 : BitVec 32 := Scalar.addi v752 c2_i32
  let c512_i32_432 : BitVec 32 := 512#32
  let v806 : BitVec 32 := Scalar.muli v753 c512_i32_432
  v806
def k0_mult13 (k0_t1 : Fin k0_t1_loop.trips) : BitVec 32 :=
  let c8_i32_440 : BitVec 32 := 8#32
  let c0_i32 : BitVec 32 := 0#32
  let c1_i32 : BitVec 32 := 1#32
  let arg14 : BitVec 32 := Scf.iv c0_i32 c1_i32 k0_t1
  let v832 : BitVec 32 := Scalar.muli c8_i32_440 arg14
  let c3_i32_441 : BitVec 32 := 3#32
  let v833 : BitVec 32 := Scalar.addi v832 c3_i32_441
  let c1_i32_442 : BitVec 32 := 1#32
  let v834 : BitVec 32 := Scalar.addi v833 c1_i32_442
  let c512_i32_443 : BitVec 32 := 512#32
  let v835 : BitVec 32 := Scalar.muli v834 c512_i32_443
  v835
def k0_mult14 (k0_t1 : Fin k0_t1_loop.trips) : BitVec 32 :=
  let c8_i32_440 : BitVec 32 := 8#32
  let c0_i32 : BitVec 32 := 0#32
  let c1_i32 : BitVec 32 := 1#32
  let arg14 : BitVec 32 := Scf.iv c0_i32 c1_i32 k0_t1
  let v832 : BitVec 32 := Scalar.muli c8_i32_440 arg14
  let c3_i32_441 : BitVec 32 := 3#32
  let v833 : BitVec 32 := Scalar.addi v832 c3_i32_441
  let c512_i32_453 : BitVec 32 := 512#32
  let v847 : BitVec 32 := Scalar.muli v833 c512_i32_453
  v847
def k0_mult15 (k0_t1 : Fin k0_t1_loop.trips) : BitVec 32 :=
  let c8_i32_440 : BitVec 32 := 8#32
  let c0_i32 : BitVec 32 := 0#32
  let c1_i32 : BitVec 32 := 1#32
  let arg14 : BitVec 32 := Scf.iv c0_i32 c1_i32 k0_t1
  let v832 : BitVec 32 := Scalar.muli c8_i32_440 arg14
  let c3_i32_441 : BitVec 32 := 3#32
  let v833 : BitVec 32 := Scalar.addi v832 c3_i32_441
  let c1_i32_461 : BitVec 32 := 1#32
  let v873 : BitVec 32 := Scalar.addi v833 c1_i32_461
  let c512_i32_462 : BitVec 32 := 512#32
  let v874 : BitVec 32 := Scalar.muli v873 c512_i32_462
  v874
def k0_mult16 (k0_t1 : Fin k0_t1_loop.trips) : BitVec 32 :=
  let c8_i32_440 : BitVec 32 := 8#32
  let c0_i32 : BitVec 32 := 0#32
  let c1_i32 : BitVec 32 := 1#32
  let arg14 : BitVec 32 := Scf.iv c0_i32 c1_i32 k0_t1
  let v832 : BitVec 32 := Scalar.muli c8_i32_440 arg14
  let c3_i32_441 : BitVec 32 := 3#32
  let v833 : BitVec 32 := Scalar.addi v832 c3_i32_441
  let c512_i32_472 : BitVec 32 := 512#32
  let v886 : BitVec 32 := Scalar.muli v833 c512_i32_472
  v886
def k0_mult17 (k0_t1 : Fin k0_t1_loop.trips) : BitVec 32 :=
  let c8_i32_480 : BitVec 32 := 8#32
  let c0_i32 : BitVec 32 := 0#32
  let c1_i32 : BitVec 32 := 1#32
  let arg14 : BitVec 32 := Scf.iv c0_i32 c1_i32 k0_t1
  let v912 : BitVec 32 := Scalar.muli c8_i32_480 arg14
  let c4_i32 : BitVec 32 := 4#32
  let v913 : BitVec 32 := Scalar.addi v912 c4_i32
  let c1_i32_481 : BitVec 32 := 1#32
  let v914 : BitVec 32 := Scalar.addi v913 c1_i32_481
  let c512_i32_482 : BitVec 32 := 512#32
  let v915 : BitVec 32 := Scalar.muli v914 c512_i32_482
  v915
def k0_mult18 (k0_t1 : Fin k0_t1_loop.trips) : BitVec 32 :=
  let c8_i32_480 : BitVec 32 := 8#32
  let c0_i32 : BitVec 32 := 0#32
  let c1_i32 : BitVec 32 := 1#32
  let arg14 : BitVec 32 := Scf.iv c0_i32 c1_i32 k0_t1
  let v912 : BitVec 32 := Scalar.muli c8_i32_480 arg14
  let c4_i32 : BitVec 32 := 4#32
  let v913 : BitVec 32 := Scalar.addi v912 c4_i32
  let c512_i32_492 : BitVec 32 := 512#32
  let v927 : BitVec 32 := Scalar.muli v913 c512_i32_492
  v927
def k0_mult19 (k0_t1 : Fin k0_t1_loop.trips) : BitVec 32 :=
  let c8_i32_480 : BitVec 32 := 8#32
  let c0_i32 : BitVec 32 := 0#32
  let c1_i32 : BitVec 32 := 1#32
  let arg14 : BitVec 32 := Scf.iv c0_i32 c1_i32 k0_t1
  let v912 : BitVec 32 := Scalar.muli c8_i32_480 arg14
  let c4_i32 : BitVec 32 := 4#32
  let v913 : BitVec 32 := Scalar.addi v912 c4_i32
  let c1_i32_500 : BitVec 32 := 1#32
  let v953 : BitVec 32 := Scalar.addi v913 c1_i32_500
  let c512_i32_501 : BitVec 32 := 512#32
  let v954 : BitVec 32 := Scalar.muli v953 c512_i32_501
  v954
def k0_mult20 (k0_t1 : Fin k0_t1_loop.trips) : BitVec 32 :=
  let c8_i32_480 : BitVec 32 := 8#32
  let c0_i32 : BitVec 32 := 0#32
  let c1_i32 : BitVec 32 := 1#32
  let arg14 : BitVec 32 := Scf.iv c0_i32 c1_i32 k0_t1
  let v912 : BitVec 32 := Scalar.muli c8_i32_480 arg14
  let c4_i32 : BitVec 32 := 4#32
  let v913 : BitVec 32 := Scalar.addi v912 c4_i32
  let c512_i32_511 : BitVec 32 := 512#32
  let v966 : BitVec 32 := Scalar.muli v913 c512_i32_511
  v966
def k0_mult21 (k0_t1 : Fin k0_t1_loop.trips) : BitVec 32 :=
  let c8_i32_519 : BitVec 32 := 8#32
  let c0_i32 : BitVec 32 := 0#32
  let c1_i32 : BitVec 32 := 1#32
  let arg14 : BitVec 32 := Scf.iv c0_i32 c1_i32 k0_t1
  let v992 : BitVec 32 := Scalar.muli c8_i32_519 arg14
  let c5_i32 : BitVec 32 := 5#32
  let v993 : BitVec 32 := Scalar.addi v992 c5_i32
  let c1_i32_520 : BitVec 32 := 1#32
  let v994 : BitVec 32 := Scalar.addi v993 c1_i32_520
  let c512_i32_521 : BitVec 32 := 512#32
  let v995 : BitVec 32 := Scalar.muli v994 c512_i32_521
  v995
def k0_mult22 (k0_t1 : Fin k0_t1_loop.trips) : BitVec 32 :=
  let c8_i32_519 : BitVec 32 := 8#32
  let c0_i32 : BitVec 32 := 0#32
  let c1_i32 : BitVec 32 := 1#32
  let arg14 : BitVec 32 := Scf.iv c0_i32 c1_i32 k0_t1
  let v992 : BitVec 32 := Scalar.muli c8_i32_519 arg14
  let c5_i32 : BitVec 32 := 5#32
  let v993 : BitVec 32 := Scalar.addi v992 c5_i32
  let c512_i32_531 : BitVec 32 := 512#32
  let v1007 : BitVec 32 := Scalar.muli v993 c512_i32_531
  v1007
def k0_mult23 (k0_t1 : Fin k0_t1_loop.trips) : BitVec 32 :=
  let c8_i32_519 : BitVec 32 := 8#32
  let c0_i32 : BitVec 32 := 0#32
  let c1_i32 : BitVec 32 := 1#32
  let arg14 : BitVec 32 := Scf.iv c0_i32 c1_i32 k0_t1
  let v992 : BitVec 32 := Scalar.muli c8_i32_519 arg14
  let c5_i32 : BitVec 32 := 5#32
  let v993 : BitVec 32 := Scalar.addi v992 c5_i32
  let c1_i32_539 : BitVec 32 := 1#32
  let v1033 : BitVec 32 := Scalar.addi v993 c1_i32_539
  let c512_i32_540 : BitVec 32 := 512#32
  let v1034 : BitVec 32 := Scalar.muli v1033 c512_i32_540
  v1034
def k0_mult24 (k0_t1 : Fin k0_t1_loop.trips) : BitVec 32 :=
  let c8_i32_519 : BitVec 32 := 8#32
  let c0_i32 : BitVec 32 := 0#32
  let c1_i32 : BitVec 32 := 1#32
  let arg14 : BitVec 32 := Scf.iv c0_i32 c1_i32 k0_t1
  let v992 : BitVec 32 := Scalar.muli c8_i32_519 arg14
  let c5_i32 : BitVec 32 := 5#32
  let v993 : BitVec 32 := Scalar.addi v992 c5_i32
  let c512_i32_550 : BitVec 32 := 512#32
  let v1046 : BitVec 32 := Scalar.muli v993 c512_i32_550
  v1046
def k0_mult25 (k0_t1 : Fin k0_t1_loop.trips) : BitVec 32 :=
  let c8_i32_558 : BitVec 32 := 8#32
  let c0_i32 : BitVec 32 := 0#32
  let c1_i32 : BitVec 32 := 1#32
  let arg14 : BitVec 32 := Scf.iv c0_i32 c1_i32 k0_t1
  let v1072 : BitVec 32 := Scalar.muli c8_i32_558 arg14
  let c6_i32 : BitVec 32 := 6#32
  let v1073 : BitVec 32 := Scalar.addi v1072 c6_i32
  let c1_i32_559 : BitVec 32 := 1#32
  let v1074 : BitVec 32 := Scalar.addi v1073 c1_i32_559
  let c512_i32_560 : BitVec 32 := 512#32
  let v1075 : BitVec 32 := Scalar.muli v1074 c512_i32_560
  v1075
def k0_mult26 (k0_t1 : Fin k0_t1_loop.trips) : BitVec 32 :=
  let c8_i32_558 : BitVec 32 := 8#32
  let c0_i32 : BitVec 32 := 0#32
  let c1_i32 : BitVec 32 := 1#32
  let arg14 : BitVec 32 := Scf.iv c0_i32 c1_i32 k0_t1
  let v1072 : BitVec 32 := Scalar.muli c8_i32_558 arg14
  let c6_i32 : BitVec 32 := 6#32
  let v1073 : BitVec 32 := Scalar.addi v1072 c6_i32
  let c512_i32_570 : BitVec 32 := 512#32
  let v1087 : BitVec 32 := Scalar.muli v1073 c512_i32_570
  v1087
def k0_mult27 (k0_t1 : Fin k0_t1_loop.trips) : BitVec 32 :=
  let c8_i32_558 : BitVec 32 := 8#32
  let c0_i32 : BitVec 32 := 0#32
  let c1_i32 : BitVec 32 := 1#32
  let arg14 : BitVec 32 := Scf.iv c0_i32 c1_i32 k0_t1
  let v1072 : BitVec 32 := Scalar.muli c8_i32_558 arg14
  let c6_i32 : BitVec 32 := 6#32
  let v1073 : BitVec 32 := Scalar.addi v1072 c6_i32
  let c1_i32_578 : BitVec 32 := 1#32
  let v1113 : BitVec 32 := Scalar.addi v1073 c1_i32_578
  let c512_i32_579 : BitVec 32 := 512#32
  let v1114 : BitVec 32 := Scalar.muli v1113 c512_i32_579
  v1114
def k0_mult28 (k0_t1 : Fin k0_t1_loop.trips) : BitVec 32 :=
  let c8_i32_558 : BitVec 32 := 8#32
  let c0_i32 : BitVec 32 := 0#32
  let c1_i32 : BitVec 32 := 1#32
  let arg14 : BitVec 32 := Scf.iv c0_i32 c1_i32 k0_t1
  let v1072 : BitVec 32 := Scalar.muli c8_i32_558 arg14
  let c6_i32 : BitVec 32 := 6#32
  let v1073 : BitVec 32 := Scalar.addi v1072 c6_i32
  let c512_i32_589 : BitVec 32 := 512#32
  let v1126 : BitVec 32 := Scalar.muli v1073 c512_i32_589
  v1126
def k0_mult29 (k0_t1 : Fin k0_t1_loop.trips) : BitVec 32 :=
  let c8_i32_597 : BitVec 32 := 8#32
  let c0_i32 : BitVec 32 := 0#32
  let c1_i32 : BitVec 32 := 1#32
  let arg14 : BitVec 32 := Scf.iv c0_i32 c1_i32 k0_t1
  let v1152 : BitVec 32 := Scalar.muli c8_i32_597 arg14
  let c7_i32 : BitVec 32 := 7#32
  let v1153 : BitVec 32 := Scalar.addi v1152 c7_i32
  let c1_i32_598 : BitVec 32 := 1#32
  let v1154 : BitVec 32 := Scalar.addi v1153 c1_i32_598
  let c512_i32_599 : BitVec 32 := 512#32
  let v1155 : BitVec 32 := Scalar.muli v1154 c512_i32_599
  v1155
def k0_mult30 (k0_t1 : Fin k0_t1_loop.trips) : BitVec 32 :=
  let c8_i32_597 : BitVec 32 := 8#32
  let c0_i32 : BitVec 32 := 0#32
  let c1_i32 : BitVec 32 := 1#32
  let arg14 : BitVec 32 := Scf.iv c0_i32 c1_i32 k0_t1
  let v1152 : BitVec 32 := Scalar.muli c8_i32_597 arg14
  let c7_i32 : BitVec 32 := 7#32
  let v1153 : BitVec 32 := Scalar.addi v1152 c7_i32
  let c512_i32_609 : BitVec 32 := 512#32
  let v1167 : BitVec 32 := Scalar.muli v1153 c512_i32_609
  v1167
def k0_mult31 (k0_t1 : Fin k0_t1_loop.trips) : BitVec 32 :=
  let c8_i32_597 : BitVec 32 := 8#32
  let c0_i32 : BitVec 32 := 0#32
  let c1_i32 : BitVec 32 := 1#32
  let arg14 : BitVec 32 := Scf.iv c0_i32 c1_i32 k0_t1
  let v1152 : BitVec 32 := Scalar.muli c8_i32_597 arg14
  let c7_i32 : BitVec 32 := 7#32
  let v1153 : BitVec 32 := Scalar.addi v1152 c7_i32
  let c1_i32_617 : BitVec 32 := 1#32
  let v1193 : BitVec 32 := Scalar.addi v1153 c1_i32_617
  let c512_i32_618 : BitVec 32 := 512#32
  let v1194 : BitVec 32 := Scalar.muli v1193 c512_i32_618
  v1194
def k0_mult32 (k0_t1 : Fin k0_t1_loop.trips) : BitVec 32 :=
  let c8_i32_597 : BitVec 32 := 8#32
  let c0_i32 : BitVec 32 := 0#32
  let c1_i32 : BitVec 32 := 1#32
  let arg14 : BitVec 32 := Scf.iv c0_i32 c1_i32 k0_t1
  let v1152 : BitVec 32 := Scalar.muli c8_i32_597 arg14
  let c7_i32 : BitVec 32 := 7#32
  let v1153 : BitVec 32 := Scalar.addi v1152 c7_i32
  let c512_i32_628 : BitVec 32 := 512#32
  let v1206 : BitVec 32 := Scalar.muli v1153 c512_i32_628
  v1206
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1024x16384 : Shape := ⟨2, ![1024, 16384]⟩
abbrev S16384x1024 : Shape := ⟨2, ![16384, 1024]⟩
abbrev S512x16384 : Shape := ⟨2, ![512, 16384]⟩
abbrev S256x1024 : Shape := ⟨2, ![256, 1024]⟩
abbrev S512x256 : Shape := ⟨2, ![512, 256]⟩
abbrev S16384x8x128 : Shape := ⟨3, ![16384, 8, 128]⟩
abbrev S16640x1024 : Shape := ⟨2, ![16640, 1024]⟩
abbrev S16640x8x128 : Shape := ⟨3, ![16640, 8, 128]⟩
abbrev S512x16640 : Shape := ⟨2, ![512, 16640]⟩
abbrev S16640x512 : Shape := ⟨2, ![16640, 512]⟩
abbrev S16640x8x64 : Shape := ⟨3, ![16640, 8, 64]⟩
abbrev S8x16384x16640 : Shape := ⟨3, ![8, 16384, 16640]⟩
abbrev S_ : Shape := ⟨0, ![]⟩
abbrev S8x16384 : Shape := ⟨2, ![8, 16384]⟩
abbrev S8x16384x1 : Shape := ⟨3, ![8, 16384, 1]⟩
abbrev S8x64x16384 : Shape := ⟨3, ![8, 64, 16384]⟩
abbrev S16384x8x64 : Shape := ⟨3, ![16384, 8, 64]⟩
abbrev S16384x512 : Shape := ⟨2, ![16384, 512]⟩

abbrev nBuf : Space → Nat
  | .hbm => 38
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S512x16384, .bf16⟩
  | .hbm, ⟨3, _⟩ => ⟨S256x1024, .bf16⟩
  | .hbm, ⟨4, _⟩ => ⟨S512x256, .bf16⟩
  | .hbm, ⟨5, _⟩ => ⟨S1024x16384, .f32⟩
  | .hbm, ⟨6, _⟩ => ⟨S16384x1024, .f32⟩
  | .hbm, ⟨7, _⟩ => ⟨S16384x8x128, .f32⟩
  | .hbm, ⟨8, _⟩ => ⟨S16640x1024, .bf16⟩
  | .hbm, ⟨9, _⟩ => ⟨S16640x1024, .f32⟩
  | .hbm, ⟨10, _⟩ => ⟨S16640x8x128, .f32⟩
  | .hbm, ⟨11, _⟩ => ⟨S512x16640, .bf16⟩
  | .hbm, ⟨12, _⟩ => ⟨S512x16640, .f32⟩
  | .hbm, ⟨13, _⟩ => ⟨S16640x512, .f32⟩
  | .hbm, ⟨14, _⟩ => ⟨S16640x8x64, .f32⟩
  | .hbm, ⟨15, _⟩ => ⟨S8x16384x16640, .f32⟩
  | .hbm, ⟨16, _⟩ => ⟨S_, .f32⟩
  | .hbm, ⟨17, _⟩ => ⟨S_, .f32⟩
  | .hbm, ⟨18, _⟩ => ⟨S8x16384x16640, .f32⟩
  | .hbm, ⟨19, _⟩ => ⟨S8x16384x16640, .f32⟩
  | .hbm, ⟨20, _⟩ => ⟨S_, .f32⟩
  | .hbm, ⟨21, _⟩ => ⟨S8x16384, .f32⟩
  | .hbm, ⟨22, _⟩ => ⟨S_, .f32⟩
  | .hbm, ⟨23, _⟩ => ⟨S8x16384, .f32⟩
  | .hbm, ⟨24, _⟩ => ⟨S8x16384, .f32⟩
  | .hbm, ⟨25, _⟩ => ⟨S8x16384x1, .f32⟩
  | .hbm, ⟨26, _⟩ => ⟨S8x16384x16640, .f32⟩
  | .hbm, ⟨27, _⟩ => ⟨S8x16384x16640, .f32⟩
  | .hbm, ⟨28, _⟩ => ⟨S8x16384x16640, .f32⟩
  | .hbm, ⟨29, _⟩ => ⟨S_, .f32⟩
  | .hbm, ⟨30, _⟩ => ⟨S8x16384, .f32⟩
  | .hbm, ⟨31, _⟩ => ⟨S8x16384x1, .f32⟩
  | .hbm, ⟨32, _⟩ => ⟨S8x16384x16640, .f32⟩
  | .hbm, ⟨33, _⟩ => ⟨S8x16384x16640, .f32⟩
  | .hbm, ⟨34, _⟩ => ⟨S8x64x16384, .f32⟩
  | .hbm, ⟨35, _⟩ => ⟨S16384x8x64, .f32⟩
  | .hbm, ⟨36, _⟩ => ⟨S16384x512, .f32⟩
  | .hbm, ⟨37, _⟩ => ⟨S16384x512, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S8x3072 : Shape := ⟨2, ![8, 3072]⟩
abbrev S1024x1024 : Shape := ⟨2, ![1024, 1024]⟩
abbrev S1x1024 : Shape := ⟨2, ![1, 1024]⟩
abbrev S1024x6144 : Shape := ⟨2, ![1024, 6144]⟩
abbrev S1x2048 : Shape := ⟨2, ![1, 2048]⟩
abbrev S8x128x128 : Shape := ⟨3, ![8, 128, 128]⟩
abbrev S8x128x1 : Shape := ⟨3, ![8, 128, 1]⟩
abbrev S2048x1024 : Shape := ⟨2, ![2048, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1024x256 : Shape := ⟨2, ![1024, 256]⟩
abbrev S512x256 : Shape := ⟨2, ![512, 256]⟩
abbrev S1x128x128 : Shape := ⟨3, ![1, 128, 128]⟩
abbrev S128x128 : Shape := ⟨2, ![128, 128]⟩
abbrev S128x256 : Shape := ⟨2, ![128, 256]⟩
abbrev S1x128x1 : Shape := ⟨3, ![1, 128, 1]⟩
abbrev S128x1 : Shape := ⟨2, ![128, 1]⟩
abbrev S256x1024 : Shape := ⟨2, ![256, 1024]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S8x3072, .f32⟩
  | .hbm, ⟨5, _⟩ => ⟨S1024x1024, .bf16⟩
  | .hbm, ⟨6, _⟩ => ⟨S8x3072, .f32⟩
  | .hbm, ⟨7, _⟩ => ⟨S1x1024, .f32⟩
  | .hbm, ⟨8, _⟩ => ⟨S1024x6144, .bf16⟩
  | .hbm, ⟨9, _⟩ => ⟨S1x2048, .f32⟩
  | .hbm, ⟨10, _⟩ => ⟨S1x2048, .f32⟩
  | .hbm, ⟨11, _⟩ => ⟨S8x128x128, .bf16⟩
  | .hbm, ⟨12, _⟩ => ⟨S8x128x1, .f32⟩
  | .hbm, ⟨13, _⟩ => ⟨S2048x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S8x3072, .f32⟩
  | .local _ .vmem, ⟨9, _⟩ => ⟨S1024x1024, .bf16⟩
  | .local _ .vmem, ⟨10, _⟩ => ⟨S8x3072, .f32⟩
  | .local _ .vmem, ⟨11, _⟩ => ⟨S1x1024, .f32⟩
  | .local _ .vmem, ⟨12, _⟩ => ⟨S1024x6144, .bf16⟩
  | .local _ .vmem, ⟨13, _⟩ => ⟨S1x2048, .f32⟩
  | .local _ .vmem, ⟨14, _⟩ => ⟨S1x2048, .f32⟩
  | .local _ .vmem, ⟨15, _⟩ => ⟨S8x128x128, .bf16⟩
  | .local _ .vmem, ⟨16, _⟩ => ⟨S8x128x1, .f32⟩
  | .local _ .vmem, ⟨17, _⟩ => ⟨S2048x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "inv_sqrt_two" => some (((Real.sqrt 2)⁻¹ : ℝ) : EReal)
  | _ => none
-- ==== Reference2Ideal.lean ====
abbrev S16384x1024 : Shape := ⟨2, ![16384, 1024]⟩
abbrev S16384x512 : Shape := ⟨2, ![16384, 512]⟩
abbrev S8x3072 : Shape := ⟨2, ![8, 3072]⟩
abbrev S1024x1024 : Shape := ⟨2, ![1024, 1024]⟩
abbrev S1x1024 : Shape := ⟨2, ![1, 1024]⟩
abbrev S1024x6144 : Shape := ⟨2, ![1024, 6144]⟩
abbrev S1x2048 : Shape := ⟨2, ![1, 2048]⟩
abbrev S8x128x128 : Shape := ⟨3, ![8, 128, 128]⟩
abbrev S8x128x1 : Shape := ⟨3, ![8, 128, 1]⟩
abbrev S2048x1024 : Shape := ⟨2, ![2048, 1024]⟩
abbrev S1024 : Shape := ⟨1, ![1024]⟩
abbrev S1x3072 : Shape := ⟨2, ![1, 3072]⟩
abbrev S3072 : Shape := ⟨1, ![3072]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S16384x2048 : Shape := ⟨2, ![16384, 2048]⟩
abbrev S2048 : Shape := ⟨1, ![2048]⟩
abbrev S128x128x8x256 : Shape := ⟨4, ![128, 128, 8, 256]⟩
abbrev S8x128x256x128 : Shape := ⟨4, ![8, 128, 256, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 166
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x1024, .bf16⟩
  | 4 => ⟨S8x3072, .f32⟩
  | 5 => ⟨S1024x1024, .bf16⟩
  | 6 => ⟨S8x3072, .f32⟩
  | 7 => ⟨S1x1024, .f32⟩
  | 8 => ⟨S1024x6144, .bf16⟩
  | 9 => ⟨S1x2048, .f32⟩
  | 10 => ⟨S1x2048, .f32⟩
  | 11 => ⟨S8x128x128, .bf16⟩
  | 12 => ⟨S8x128x1, .f32⟩
  | 13 => ⟨S2048x1024, .bf16⟩
  | 14 => ⟨S1x1024, .f32⟩
  | 15 => ⟨S16384x512, .f32⟩
  | 16 => ⟨S16384x512, .f32⟩
  | 17 => ⟨S16384x1024, .f32⟩
  | 18 => ⟨S1024x1024, .f32⟩
  | 19 => ⟨S1024x6144, .f32⟩
  | 20 => ⟨S8x128x128, .f32⟩
  | 21 => ⟨S2048x1024, .f32⟩
  | 22 => ⟨S16384x512, .f32⟩
  | 23 => ⟨S16384x512, .f32⟩
  | 24 => ⟨S16384x512, .f32⟩
  | 25 => ⟨S16384x512, .f32⟩
  | 26 => ⟨S16384x1024, .f32⟩
  | 27 => ⟨S16384x1024, .f32⟩
  | 28 => ⟨S1x1024, .f32⟩
  | 29 => ⟨S1024, .f32⟩
  | 30 => ⟨S1x1024, .f32⟩
  | 31 => ⟨S16384x1024, .f32⟩
  | 32 => ⟨S16384x1024, .f32⟩
  | 33 => ⟨S16384x1024, .f32⟩
  | 34 => ⟨S1x3072, .f32⟩
  | 35 => ⟨S3072, .f32⟩
  | 36 => ⟨S1024, .f32⟩
  | 37 => ⟨S1024, .f32⟩
  | 38 => ⟨S1024, .f32⟩
  | 39 => ⟨S1024, .f32⟩
  | 40 => ⟨S16384x1024, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S16384x1, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S_, .f32⟩
  | 57 => ⟨S1024, .f32⟩
  | 58 => ⟨S1024, .f32⟩
  | 59 => ⟨S1x1024, .f32⟩
  | 60 => ⟨S16384x1024, .f32⟩
  | 61 => ⟨S16384x1024, .f32⟩
  | 62 => ⟨S1x1024, .f32⟩
  | 63 => ⟨S16384x1024, .f32⟩
  | 64 => ⟨S16384x1024, .f32⟩
  | 65 => ⟨S16384x6144, .f32⟩
  | 66 => ⟨S16384x2048, .f32⟩
  | 67 => ⟨S16384x2048, .f32⟩
  | 68 => ⟨S16384x2048, .f32⟩
  | 69 => ⟨S_, .f32⟩
  | 70 => ⟨S16384x2048, .f32⟩
  | 71 => ⟨S16384x2048, .f32⟩
  | 72 => ⟨S_, .f32⟩
  | 73 => ⟨S_, .f32⟩
  | 74 => ⟨S16384x2048, .f32⟩
  | 75 => ⟨S16384x2048, .f32⟩
  | 76 => ⟨S16384x2048, .f32⟩
  | 77 => ⟨S_, .f32⟩
  | 78 => ⟨S16384x2048, .f32⟩
  | 79 => ⟨S16384x2048, .f32⟩
  | 80 => ⟨S16384x2048, .f32⟩
  | 81 => ⟨S_, .f32⟩
  | 82 => ⟨S16384x2048, .f32⟩
  | 83 => ⟨S16384x2048, .f32⟩
  | 84 => ⟨S_, .f32⟩
  | 85 => ⟨S_, .f32⟩
  | 86 => ⟨S16384x2048, .f32⟩
  | 87 => ⟨S16384x2048, .f32⟩
  | 88 => ⟨S16384x2048, .f32⟩
  | 89 => ⟨S_, .f32⟩
  | 90 => ⟨S16384x2048, .f32⟩
  | 91 => ⟨S16384x2048, .f32⟩
  | 92 => ⟨S16384x2048, .f32⟩
  | 93 => ⟨S2048, .f32⟩
  | 94 => ⟨S2048, .f32⟩
  | 95 => ⟨S_, .f32⟩
  | 96 => ⟨S16384, .f32⟩
  | 97 => ⟨S16384x1, .f32⟩
  | 98 => ⟨S_, .f32⟩
  | 99 => ⟨S16384x1, .f32⟩
  | 100 => ⟨S16384x1, .f32⟩
  | 101 => ⟨S16384x2048, .f32⟩
  | 102 => ⟨S16384x2048, .f32⟩
  | 103 => ⟨S16384x2048, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x2048, .f32⟩
  | 111 => ⟨S16384x2048, .f32⟩
  | 112 => ⟨S_, .f32⟩
  | 113 => ⟨S16384x1, .f32⟩
  | 114 => ⟨S16384x1, .f32⟩
  | 115 => ⟨S16384x1, .f32⟩
  | 116 => ⟨S16384x2048, .f32⟩
  | 117 => ⟨S16384x2048, .f32⟩
  | 118 => ⟨S1x2048, .f32⟩
  | 119 => ⟨S16384x2048, .f32⟩
  | 120 => ⟨S16384x2048, .f32⟩
  | 121 => ⟨S1x2048, .f32⟩
  | 122 => ⟨S16384x2048, .f32⟩
  | 123 => ⟨S16384x2048, .f32⟩
  | 124 => ⟨S128x128x8x256, .f32⟩
  | 125 => ⟨S8x128x256x128, .f32⟩
  | 126 => ⟨S128x128x8x256, .f32⟩
  | 127 => ⟨S8x128, .f32⟩
  | _ => ⟨S16384x1024, .f32⟩

abbrev hbmTy0_1 (i : Nat) : BufTy := match i % 128 with
  | 0 => ⟨S128x8, .f32⟩
  | 1 => ⟨S1x128x8x1, .f32⟩
  | 2 => ⟨S128x128x8x256, .f32⟩
  | 3 => ⟨S128x128x8x256, .f32⟩
  | 4 => ⟨S16384x2048, .f32⟩
  | 5 => ⟨S16384x2048, .f32⟩
  | 6 => ⟨S16384x2048, .f32⟩
  | 7 => ⟨S16384x2048, .f32⟩
  | 8 => ⟨S_, .f32⟩
  | 9 => ⟨S16384x2048, .f32⟩
  | 10 => ⟨S16384x2048, .f32⟩
  | 11 => ⟨S_, .f32⟩
  | 12 => ⟨S16384x2048, .f32⟩
  | 13 => ⟨S16384x2048, .f32⟩
  | 14 => ⟨S16384x2048, .f32⟩
  | 15 => ⟨S16384x2048, .f32⟩
  | 16 => ⟨S16384x1024, .f32⟩
  | 17 => ⟨S1x1024, .f32⟩
  | 18 => ⟨S16384x1024, .f32⟩
  | 19 => ⟨S16384x1024, .f32⟩
  | 20 => ⟨S16384x1024, .f32⟩
  | 21 => ⟨S1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1024, .f32⟩
  | 34 => ⟨S16384x1024, .f32⟩
  | 35 => ⟨S1x1024, .f32⟩
  | 36 => ⟨S16384x1024, .f32⟩
  | 37 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_v51 : Ref sig .tc := ⟨.hbm, 71, rfl⟩
abbrev main_cst_4 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_11 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_call0_v0 : Ref sig .tc := ⟨.hbm, 134, rfl⟩
abbrev main_call0_v1 : Ref sig .tc := ⟨.hbm, 135, rfl⟩
abbrev main_call0_cst : Ref sig .tc := ⟨.hbm, 136, rfl⟩
abbrev main_call0_v2 : Ref sig .tc := ⟨.hbm, 137, rfl⟩
abbrev main_call0_v3 : Ref sig .tc := ⟨.hbm, 138, rfl⟩
abbrev main_call0_cst_0 : Ref sig .tc := ⟨.hbm, 139, rfl⟩
abbrev main_call0_v4 : Ref sig .tc := ⟨.hbm, 140, rfl⟩
abbrev main_call0_v5 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_14 : Ref sig .tc := ⟨.hbm, 151, rfl⟩
abbrev main_v113 : Ref sig .tc := ⟨.hbm, 152, rfl⟩
abbrev main_v114 : Ref sig .tc := ⟨.hbm, 153, rfl⟩
abbrev main_cst_15 : Ref sig .tc := ⟨.hbm, 154, rfl⟩
abbrev main_v115 : Ref sig .tc := ⟨.hbm, 155, rfl⟩
abbrev main_v116 : Ref sig .tc := ⟨.hbm, 156, rfl⟩
abbrev main_cst_16 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩

abbrev nD : Nat := 1
abbrev τ : Topo := Topo.v7x

variable {F : FTy → Type} [FloatOps F]
-- ==== Kernel3.lean ====
abbrev S16384x1024 : Shape := ⟨2, ![16384, 1024]⟩
abbrev S8x3072 : Shape := ⟨2, ![8, 3072]⟩
abbrev S1x1024 : Shape := ⟨2, ![1, 1024]⟩
abbrev S1024x3712 : Shape := ⟨2, ![1024, 3712]⟩
abbrev S1x768 : Shape := ⟨2, ![1, 768]⟩
abbrev S768x1024 : Shape := ⟨2, ![768, 1024]⟩
abbrev S1x256 : Shape := ⟨2, ![1, 256]⟩
abbrev S256x1024 : Shape := ⟨2, ![256, 1024]⟩
abbrev S256x512 : Shape := ⟨2, ![256, 512]⟩
abbrev S16384x128 : Shape := ⟨2, ![16384, 128]⟩
abbrev S1024x16384 : Shape := ⟨2, ![1024, 16384]⟩
abbrev S512x16384 : Shape := ⟨2, ![512, 16384]⟩
abbrev S16384x512 : Shape := ⟨2, ![16384, 512]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x128 : Shape := ⟨2, ![1, 128]⟩
abbrev S128x512 : Shape := ⟨2, ![128, 512]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 18
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S8x3072, .f32⟩
  | .hbm, ⟨2, _⟩ => ⟨S1x1024, .f32⟩
  | .hbm, ⟨3, _⟩ => ⟨S1024x3712, .bf16⟩
  | .hbm, ⟨4, _⟩ => ⟨S1x768, .f32⟩
  | .hbm, ⟨5, _⟩ => ⟨S768x1024, .bf16⟩
  | .hbm, ⟨6, _⟩ => ⟨S1x256, .f32⟩
  | .hbm, ⟨7, _⟩ => ⟨S256x1024, .bf16⟩
  | .hbm, ⟨8, _⟩ => ⟨S256x512, .bf16⟩
  | .hbm, ⟨9, _⟩ => ⟨S16384x128, .f32⟩
  | .hbm, ⟨10, _⟩ => ⟨S16384x128, .f32⟩
  | .hbm, ⟨11, _⟩ => ⟨S1024x16384, .bf16⟩
  | .hbm, ⟨12, _⟩ => ⟨S16384x1024, .bf16⟩
  | .hbm, ⟨13, _⟩ => ⟨S512x16384, .bf16⟩
  | .hbm, ⟨14, _⟩ => ⟨S512x16384, .bf16⟩
  | .hbm, ⟨15, _⟩ => ⟨S16384x512, .bf16⟩
  | .hbm, ⟨16, _⟩ => ⟨S512x16384, .bf16⟩
  | .hbm, ⟨17, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S8x3072, .f32⟩
  | .local _ .vmem, ⟨3, _⟩ => ⟨S1x1024, .f32⟩
  | .local _ .vmem, ⟨4, _⟩ => ⟨S1024x3712, .bf16⟩
  | .local _ .vmem, ⟨5, _⟩ => ⟨S1x768, .f32⟩
  | .local _ .vmem, ⟨6, _⟩ => ⟨S768x1024, .bf16⟩
  | .local _ .vmem, ⟨7, _⟩ => ⟨S1x256, .f32⟩
  | .local _ .vmem, ⟨8, _⟩ => ⟨S256x1024, .bf16⟩
  | .local _ .vmem, ⟨9, _⟩ => ⟨S256x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel3Ideal.lean ====
variable {F : FTy → Type} [FloatOps F] [Named F]
def κ : String → Option EReal := fun
  | "log2_e" => some (((Real.log 2)⁻¹ : ℝ) : EReal)
  | "q_scale" => some (((Real.sqrt 96)⁻¹ * (Real.log 2)⁻¹ : ℝ) : EReal)
  | _ => none
-- ==== Reference3Ideal.lean ====
abbrev S16384x1024 : Shape := ⟨2, ![16384, 1024]⟩
abbrev S8x3072 : Shape := ⟨2, ![8, 3072]⟩
abbrev S1x1024 : Shape := ⟨2, ![1, 1024]⟩
abbrev S1024x3712 : Shape := ⟨2, ![1024, 3712]⟩
abbrev S1x768 : Shape := ⟨2, ![1, 768]⟩
abbrev S768x1024 : Shape := ⟨2, ![768, 1024]⟩
abbrev S1x256 : Shape := ⟨2, ![1, 256]⟩
abbrev S256x1024 : Shape := ⟨2, ![256, 1024]⟩
abbrev S256x512 : Shape := ⟨2, ![256, 512]⟩
abbrev S16384x128 : Shape := ⟨2, ![16384, 128]⟩
abbrev S1x3072 : Shape := ⟨2, ![1, 3072]⟩
abbrev S3072 : Shape := ⟨1, ![3072]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x3712 : Shape := ⟨2, ![16384, 3712]⟩
abbrev S16384x768 : Shape := ⟨2, ![16384, 768]⟩
abbrev S16384x256 : Shape := ⟨2, ![16384, 256]⟩
abbrev S16384x512 : Shape := ⟨2, ![16384, 512]⟩
abbrev S16384x32 : Shape := ⟨2, ![16384, 32]⟩
abbrev S768 : Shape := ⟨1, ![768]⟩
abbrev S16384x8x128 : Shape := ⟨3, ![16384, 8, 128]⟩
abbrev S16384x8x32 : Shape := ⟨3, ![16384, 8, 32]⟩
abbrev S16384x1x32 : Shape := ⟨3, ![16384, 1, 32]⟩
abbrev S16384x8x64 : Shape := ⟨3, ![16384, 8, 64]⟩
abbrev S256 : Shape := ⟨1, ![256]⟩
abbrev S16384x64 : Shape := ⟨2, ![16384, 64]⟩
abbrev S16384x1x128 : Shape := ⟨3, ![16384, 1, 128]⟩
abbrev S1024x16384 : Shape := ⟨2, ![1024, 16384]⟩
abbrev S512x16384 : Shape := ⟨2, ![512, 16384]⟩

abbrev nBuf : Space → Nat
  | .hbm => 166
  | .vmem => 0
  | .smem => 0
  | _ => 0

abbrev hbmTy0_0 (i : Nat) : BufTy := match i % 128 with
  | 0 => ⟨S16384x1024, .f32⟩
  | 1 => ⟨S8x3072, .f32⟩
  | 2 => ⟨S1x1024, .f32⟩
  | 3 => ⟨S1024x3712, .bf16⟩
  | 4 => ⟨S1x768, .f32⟩
  | 5 => ⟨S768x1024, .bf16⟩
  | 6 => ⟨S1x256, .f32⟩
  | 7 => ⟨S256x1024, .bf16⟩
  | 8 => ⟨S256x512, .bf16⟩
  | 9 => ⟨S16384x128, .f32⟩
  | 10 => ⟨S16384x128, .f32⟩
  | 11 => ⟨S1024x3712, .f32⟩
  | 12 => ⟨S768x1024, .f32⟩
  | 13 => ⟨S256x1024, .f32⟩
  | 14 => ⟨S256x512, .f32⟩
  | 15 => ⟨S1x3072, .f32⟩
  | 16 => ⟨S3072, .f32⟩
  | 17 => ⟨S1024, .f32⟩
  | 18 => ⟨S1024, .f32⟩
  | 19 => ⟨S1024, .f32⟩
  | 20 => ⟨S1024, .f32⟩
  | 21 => ⟨S16384x1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x1024, .f32⟩
  | 33 => ⟨S16384x1024, .f32⟩
  | 34 => ⟨S1x1024, .f32⟩
  | 35 => ⟨S16384x1024, .f32⟩
  | 36 => ⟨S16384x1024, .f32⟩
  | 37 => ⟨S_, .f32⟩
  | 38 => ⟨S1024, .f32⟩
  | 39 => ⟨S1024, .f32⟩
  | 40 => ⟨S1x1024, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S16384x3712, .f32⟩
  | 47 => ⟨S16384x768, .f32⟩
  | 48 => ⟨S16384x256, .f32⟩
  | 49 => ⟨S16384x128, .f32⟩
  | 50 => ⟨S16384x512, .f32⟩
  | 51 => ⟨S16384x512, .f32⟩
  | 52 => ⟨S16384x512, .f32⟩
  | 53 => ⟨S16384x512, .f32⟩
  | 54 => ⟨S16384x512, .f32⟩
  | 55 => ⟨S16384x32, .f32⟩
  | 56 => ⟨S16384x32, .f32⟩
  | 57 => ⟨S768, .f32⟩
  | 58 => ⟨S16384x768, .f32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x1, .f32⟩
  | 69 => ⟨S16384x768, .f32⟩
  | 70 => ⟨S16384x768, .f32⟩
  | 71 => ⟨S1x768, .f32⟩
  | 72 => ⟨S16384x768, .f32⟩
  | 73 => ⟨S16384x768, .f32⟩
  | 74 => ⟨S16384x1024, .f32⟩
  | 75 => ⟨S16384x8x128, .f32⟩
  | 76 => ⟨S16384x8x32, .f32⟩
  | 77 => ⟨S16384x1x32, .f32⟩
  | 78 => ⟨S16384x8x32, .f32⟩
  | 79 => ⟨S16384x8x32, .f32⟩
  | 80 => ⟨S16384x8x32, .f32⟩
  | 81 => ⟨S16384x1x32, .f32⟩
  | 82 => ⟨S16384x8x32, .f32⟩
  | 83 => ⟨S16384x8x32, .f32⟩
  | 84 => ⟨S16384x8x32, .f32⟩
  | 85 => ⟨S16384x8x64, .f32⟩
  | 86 => ⟨S_, .f32⟩
  | 87 => ⟨S16384x8x32, .f32⟩
  | 88 => ⟨S16384x8x128, .f32⟩
  | 89 => ⟨S_, .f32⟩
  | 90 => ⟨S_, .f32⟩
  | 91 => ⟨S16384x8x128, .f32⟩
  | 92 => ⟨S16384x8x128, .f32⟩
  | 93 => ⟨S_, .f32⟩
  | 94 => ⟨S_, .f32⟩
  | 95 => ⟨S16384x8x128, .f32⟩
  | 96 => ⟨S16384x8x128, .f32⟩
  | 97 => ⟨S256, .f32⟩
  | 98 => ⟨S16384x256, .f32⟩
  | 99 => ⟨S_, .f32⟩
  | 100 => ⟨S16384, .f32⟩
  | 101 => ⟨S16384x1, .f32⟩
  | 102 => ⟨S_, .f32⟩
  | 103 => ⟨S16384x1, .f32⟩
  | 104 => ⟨S16384x1, .f32⟩
  | 105 => ⟨S_, .f32⟩
  | 106 => ⟨S16384x1, .f32⟩
  | 107 => ⟨S16384x1, .f32⟩
  | 108 => ⟨S16384x1, .f32⟩
  | 109 => ⟨S16384x256, .f32⟩
  | 110 => ⟨S16384x256, .f32⟩
  | 111 => ⟨S1x256, .f32⟩
  | 112 => ⟨S16384x256, .f32⟩
  | 113 => ⟨S16384x256, .f32⟩
  | 114 => ⟨S16384x32, .f32⟩
  | 115 => ⟨S16384x32, .f32⟩
  | 116 => ⟨S16384x32, .f32⟩
  | 117 => ⟨S16384x32, .f32⟩
  | 118 => ⟨S16384x32, .f32⟩
  | 119 => ⟨S_, .f32⟩
  | 120 => ⟨S16384x64, .f32⟩
  | 121 => ⟨S_, .f32⟩
  | 122 => ⟨S16384x32, .f32⟩
  | 123 => ⟨S16384x128, .f32⟩
  | 124 => ⟨S16384x1024, .f32⟩
  | 125 => ⟨S16384x8x128, .f32⟩
  | 126 => ⟨S16384x1x128, .f32⟩
  | 127 => ⟨S16384x8x128, .f32⟩
  | _ => ⟨S16384x1024, .f32⟩

abbrev hbmTy0_1 (i : Nat) : BufTy := match i % 128 with
  | 0 => ⟨S16384x8x128, .f32⟩
  | 1 => ⟨S16384x512, .f32⟩
  | 2 => ⟨S_, .f32⟩
  | 3 => ⟨S_, .f32⟩
  | 4 => ⟨S16384x512, .f32⟩
  | 5 => ⟨S16384x512, .f32⟩
  | 6 => ⟨S16384x512, .f32⟩
  | 7 => ⟨S16384x512, .f32⟩
  | 8 => ⟨S_, .f32⟩
  | 9 => ⟨S16384x512, .f32⟩
  | 10 => ⟨S16384x512, .f32⟩
  | 11 => ⟨S_, .f32⟩
  | 12 => ⟨S16384x512, .f32⟩
  | 13 => ⟨S16384x512, .f32⟩
  | 14 => ⟨S16384x512, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .f32⟩
  | 24 => ⟨S16384x1024, .f32⟩
  | 25 => ⟨S16384x1024, .f32⟩
  | 26 => ⟨S1024x16384, .f32⟩
  | 27 => ⟨S16384x1024, .f32⟩
  | 28 => ⟨S512x16384, .f32⟩
  | 29 => ⟨S512x16384, .f32⟩
  | 30 => ⟨S512x16384, .f32⟩
  | 31 => ⟨S1024x16384, .bf16⟩
  | 32 => ⟨S16384x1024, .bf16⟩
  | 33 => ⟨S512x16384, .bf16⟩
  | 34 => ⟨S512x16384, .bf16⟩
  | 35 => ⟨S16384x512, .bf16⟩
  | 36 => ⟨S512x16384, .bf16⟩
  | 37 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_6 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_8 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_cst_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_12 : Ref sig .tc := ⟨.hbm, 119, rfl⟩
abbrev main_v95 : Ref sig .tc := ⟨.hbm, 120, rfl⟩
abbrev main_cst_13 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_14 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_call0_v0 : Ref sig .tc := ⟨.hbm, 134, rfl⟩
abbrev main_call0_v1 : Ref sig .tc := ⟨.hbm, 135, rfl⟩
abbrev main_call0_cst : Ref sig .tc := ⟨.hbm, 136, rfl⟩
abbrev main_call0_v2 : Ref sig .tc := ⟨.hbm, 137, rfl⟩
abbrev main_call0_v3 : Ref sig .tc := ⟨.hbm, 138, rfl⟩
abbrev main_call0_cst_0 : Ref sig .tc := ⟨.hbm, 139, rfl⟩
abbrev main_call0_v4 : Ref sig .tc := ⟨.hbm, 140, rfl⟩
abbrev main_call0_v5 : Ref sig .tc := ⟨.hbm, 141, rfl⟩
abbrev main_v107 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_call1_v5 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S8x3072 : Shape := ⟨2, ![8, 3072]⟩
abbrev S1024x1024 : Shape := ⟨2, ![1024, 1024]⟩
abbrev S1x1024 : Shape := ⟨2, ![1, 1024]⟩
abbrev S1024x6144 : Shape := ⟨2, ![1024, 6144]⟩
abbrev S1x2048 : Shape := ⟨2, ![1, 2048]⟩
abbrev S8x128x128 : Shape := ⟨3, ![8, 128, 128]⟩
abbrev S8x128x1 : Shape := ⟨3, ![8, 128, 1]⟩
abbrev S2048x1024 : Shape := ⟨2, ![2048, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1024x256 : Shape := ⟨2, ![1024, 256]⟩
abbrev S512x256 : Shape := ⟨2, ![512, 256]⟩
abbrev S1x128x128 : Shape := ⟨3, ![1, 128, 128]⟩
abbrev S128x128 : Shape := ⟨2, ![128, 128]⟩
abbrev S128x256 : Shape := ⟨2, ![128, 256]⟩
abbrev S1x128x1 : Shape := ⟨3, ![1, 128, 1]⟩
abbrev S128x1 : Shape := ⟨2, ![128, 1]⟩
abbrev S256x1024 : Shape := ⟨2, ![256, 1024]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S8x3072, .f32⟩
  | .hbm, ⟨5, _⟩ => ⟨S1024x1024, .bf16⟩
  | .hbm, ⟨6, _⟩ => ⟨S8x3072, .f32⟩
  | .hbm, ⟨7, _⟩ => ⟨S1x1024, .f32⟩
  | .hbm, ⟨8, _⟩ => ⟨S1024x6144, .bf16⟩
  | .hbm, ⟨9, _⟩ => ⟨S1x2048, .f32⟩
  | .hbm, ⟨10, _⟩ => ⟨S1x2048, .f32⟩
  | .hbm, ⟨11, _⟩ => ⟨S8x128x128, .bf16⟩
  | .hbm, ⟨12, _⟩ => ⟨S8x128x1, .f32⟩
  | .hbm, ⟨13, _⟩ => ⟨S2048x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S8x3072, .f32⟩
  | .local _ .vmem, ⟨9, _⟩ => ⟨S1024x1024, .bf16⟩
  | .local _ .vmem, ⟨10, _⟩ => ⟨S8x3072, .f32⟩
  | .local _ .vmem, ⟨11, _⟩ => ⟨S1x1024, .f32⟩
  | .local _ .vmem, ⟨12, _⟩ => ⟨S1024x6144, .bf16⟩
  | .local _ .vmem, ⟨13, _⟩ => ⟨S1x2048, .f32⟩
  | .local _ .vmem, ⟨14, _⟩ => ⟨S1x2048, .f32⟩
  | .local _ .vmem, ⟨15, _⟩ => ⟨S8x128x128, .bf16⟩
  | .local _ .vmem, ⟨16, _⟩ => ⟨S8x128x1, .f32⟩
  | .local _ .vmem, ⟨17, _⟩ => ⟨S2048x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel4Ideal.lean ====
variable {F : FTy → Type} [FloatOps F] [Named F]
def κ : String → Option EReal := fun
  | "inv_sqrt_two" => some (((Real.sqrt 2)⁻¹ : ℝ) : EReal)
  | _ => none
-- ==== Reference4Ideal.lean ====
abbrev S16384x1024 : Shape := ⟨2, ![16384, 1024]⟩
abbrev S16384x512 : Shape := ⟨2, ![16384, 512]⟩
abbrev S8x3072 : Shape := ⟨2, ![8, 3072]⟩
abbrev S1024x1024 : Shape := ⟨2, ![1024, 1024]⟩
abbrev S1x1024 : Shape := ⟨2, ![1, 1024]⟩
abbrev S1024x6144 : Shape := ⟨2, ![1024, 6144]⟩
abbrev S1x2048 : Shape := ⟨2, ![1, 2048]⟩
abbrev S8x128x128 : Shape := ⟨3, ![8, 128, 128]⟩
abbrev S8x128x1 : Shape := ⟨3, ![8, 128, 1]⟩
abbrev S2048x1024 : Shape := ⟨2, ![2048, 1024]⟩
abbrev S1024 : Shape := ⟨1, ![1024]⟩
abbrev S1x3072 : Shape := ⟨2, ![1, 3072]⟩
abbrev S3072 : Shape := ⟨1, ![3072]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S16384x2048 : Shape := ⟨2, ![16384, 2048]⟩
abbrev S2048 : Shape := ⟨1, ![2048]⟩
abbrev S128x128x8x256 : Shape := ⟨4, ![128, 128, 8, 256]⟩
abbrev S8x128x256x128 : Shape := ⟨4, ![8, 128, 256, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 149
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x1024, .bf16⟩
  | 4 => ⟨S8x3072, .f32⟩
  | 5 => ⟨S1024x1024, .bf16⟩
  | 6 => ⟨S8x3072, .f32⟩
  | 7 => ⟨S1x1024, .f32⟩
  | 8 => ⟨S1024x6144, .bf16⟩
  | 9 => ⟨S1x2048, .f32⟩
  | 10 => ⟨S1x2048, .f32⟩
  | 11 => ⟨S8x128x128, .bf16⟩
  | 12 => ⟨S8x128x1, .f32⟩
  | 13 => ⟨S2048x1024, .bf16⟩
  | 14 => ⟨S1x1024, .f32⟩
  | 15 => ⟨S16384x512, .f32⟩
  | 16 => ⟨S16384x512, .f32⟩
  | 17 => ⟨S16384x1024, .f32⟩
  | 18 => ⟨S1024x1024, .f32⟩
  | 19 => ⟨S1024x6144, .f32⟩
  | 20 => ⟨S8x128x128, .f32⟩
  | 21 => ⟨S2048x1024, .f32⟩
  | 22 => ⟨S16384x512, .f32⟩
  | 23 => ⟨S16384x512, .f32⟩
  | 24 => ⟨S16384x512, .f32⟩
  | 25 => ⟨S16384x512, .f32⟩
  | 26 => ⟨S16384x1024, .f32⟩
  | 27 => ⟨S16384x1024, .f32⟩
  | 28 => ⟨S1x1024, .f32⟩
  | 29 => ⟨S1024, .f32⟩
  | 30 => ⟨S1x1024, .f32⟩
  | 31 => ⟨S16384x1024, .f32⟩
  | 32 => ⟨S16384x1024, .f32⟩
  | 33 => ⟨S16384x1024, .f32⟩
  | 34 => ⟨S1x3072, .f32⟩
  | 35 => ⟨S3072, .f32⟩
  | 36 => ⟨S1024, .f32⟩
  | 37 => ⟨S1024, .f32⟩
  | 38 => ⟨S1024, .f32⟩
  | 39 => ⟨S1024, .f32⟩
  | 40 => ⟨S16384x1024, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S16384x1, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S_, .f32⟩
  | 57 => ⟨S1024, .f32⟩
  | 58 => ⟨S1024, .f32⟩
  | 59 => ⟨S1x1024, .f32⟩
  | 60 => ⟨S16384x1024, .f32⟩
  | 61 => ⟨S16384x1024, .f32⟩
  | 62 => ⟨S1x1024, .f32⟩
  | 63 => ⟨S16384x1024, .f32⟩
  | 64 => ⟨S16384x1024, .f32⟩
  | 65 => ⟨S16384x6144, .f32⟩
  | 66 => ⟨S16384x2048, .f32⟩
  | 67 => ⟨S16384x2048, .f32⟩
  | 68 => ⟨S16384x2048, .f32⟩
  | 69 => ⟨S_, .f32⟩
  | 70 => ⟨S16384x2048, .f32⟩
  | 71 => ⟨S16384x2048, .f32⟩
  | 72 => ⟨S_, .f32⟩
  | 73 => ⟨S_, .f32⟩
  | 74 => ⟨S16384x2048, .f32⟩
  | 75 => ⟨S16384x2048, .f32⟩
  | 76 => ⟨S16384x2048, .f32⟩
  | 77 => ⟨S_, .f32⟩
  | 78 => ⟨S16384x2048, .f32⟩
  | 79 => ⟨S16384x2048, .f32⟩
  | 80 => ⟨S16384x2048, .f32⟩
  | 81 => ⟨S_, .f32⟩
  | 82 => ⟨S16384x2048, .f32⟩
  | 83 => ⟨S16384x2048, .f32⟩
  | 84 => ⟨S_, .f32⟩
  | 85 => ⟨S_, .f32⟩
  | 86 => ⟨S16384x2048, .f32⟩
  | 87 => ⟨S16384x2048, .f32⟩
  | 88 => ⟨S16384x2048, .f32⟩
  | 89 => ⟨S_, .f32⟩
  | 90 => ⟨S16384x2048, .f32⟩
  | 91 => ⟨S16384x2048, .f32⟩
  | 92 => ⟨S16384x2048, .f32⟩
  | 93 => ⟨S2048, .f32⟩
  | 94 => ⟨S2048, .f32⟩
  | 95 => ⟨S_, .f32⟩
  | 96 => ⟨S16384, .f32⟩
  | 97 => ⟨S16384x1, .f32⟩
  | 98 => ⟨S_, .f32⟩
  | 99 => ⟨S16384x1, .f32⟩
  | 100 => ⟨S16384x1, .f32⟩
  | 101 => ⟨S16384x2048, .f32⟩
  | 102 => ⟨S16384x2048, .f32⟩
  | 103 => ⟨S16384x2048, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x2048, .f32⟩
  | 111 => ⟨S16384x2048, .f32⟩
  | 112 => ⟨S_, .f32⟩
  | 113 => ⟨S16384x1, .f32⟩
  | 114 => ⟨S16384x1, .f32⟩
  | 115 => ⟨S16384x1, .f32⟩
  | 116 => ⟨S16384x2048, .f32⟩
  | 117 => ⟨S16384x2048, .f32⟩
  | 118 => ⟨S1x2048, .f32⟩
  | 119 => ⟨S16384x2048, .f32⟩
  | 120 => ⟨S16384x2048, .f32⟩
  | 121 => ⟨S1x2048, .f32⟩
  | 122 => ⟨S16384x2048, .f32⟩
  | 123 => ⟨S16384x2048, .f32⟩
  | 124 => ⟨S128x128x8x256, .f32⟩
  | 125 => ⟨S8x128x256x128, .f32⟩
  | 126 => ⟨S128x128x8x256, .f32⟩
  | 127 => ⟨S8x128, .f32⟩
  | _ => ⟨S16384x1024, .f32⟩

abbrev hbmTy0_1 (i : Nat) : BufTy := match i % 128 with
  | 0 => ⟨S128x8, .f32⟩
  | 1 => ⟨S1x128x8x1, .f32⟩
  | 2 => ⟨S128x128x8x256, .f32⟩
  | 3 => ⟨S128x128x8x256, .f32⟩
  | 4 => ⟨S16384x2048, .f32⟩
  | 5 => ⟨S16384x2048, .f32⟩
  | 6 => ⟨S16384x2048, .f32⟩
  | 7 => ⟨S16384x2048, .f32⟩
  | 8 => ⟨S_, .f32⟩
  | 9 => ⟨S16384x2048, .f32⟩
  | 10 => ⟨S16384x2048, .f32⟩
  | 11 => ⟨S_, .f32⟩
  | 12 => ⟨S16384x2048, .f32⟩
  | 13 => ⟨S16384x2048, .f32⟩
  | 14 => ⟨S16384x2048, .f32⟩
  | 15 => ⟨S16384x2048, .f32⟩
  | 16 => ⟨S16384x1024, .f32⟩
  | 17 => ⟨S1x1024, .f32⟩
  | 18 => ⟨S16384x1024, .f32⟩
  | 19 => ⟨S16384x1024, .f32⟩
  | 20 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_v51 : Ref sig .tc := ⟨.hbm, 71, rfl⟩
abbrev main_cst_4 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_11 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_call0_v0 : Ref sig .tc := ⟨.hbm, 134, rfl⟩
abbrev main_call0_v1 : Ref sig .tc := ⟨.hbm, 135, rfl⟩
abbrev main_call0_cst : Ref sig .tc := ⟨.hbm, 136, rfl⟩
abbrev main_call0_v2 : Ref sig .tc := ⟨.hbm, 137, rfl⟩
abbrev main_call0_v3 : Ref sig .tc := ⟨.hbm, 138, rfl⟩
abbrev main_call0_cst_0 : Ref sig .tc := ⟨.hbm, 139, rfl⟩
abbrev main_call0_v4 : Ref sig .tc := ⟨.hbm, 140, rfl⟩
abbrev main_call0_v5 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== Proof.KernelIdeal.Steps.lean ====
/- The kernel's body as a sequence of chunk steps: what one chunk does for one head, the two heads of a chunk, the
   loop's trip as eight chunks, and what follows the loop as seven chunks, the last one, the context keys and the
   division. Each is the printed text regrouped, equal to it by unfolding. -/
module

public import proofs.«01_k».proof.Proof.Gen.KernelIdeal.Skeleton

@[expose] public section

set_option synthInstance.maxSize 4096
set_option maxRecDepth 10000000
set_option maxHeartbeats 4000000

noncomputable section

namespace Cert.KernelIdeal.Steps

open Cert.KernelIdeal Cert.KernelIdeal.Gen
open Idealize.ShloMosaic Idealize.SL.Sem

variable {F : FTy → Type} [FloatOps F]

/-- The body's programs. -/
abbrev PG (F : FTy → Type) [FloatOps F] (α : Type) : Type 1 := Prog (TpuEff nD τ sig (Elt F) Λ₀ .tc) α

/-- A row of one number per query. -/
abbrev Row (F : FTy → Type) [FloatOps F] : Type := FVec F S1x1024 .f32

/-- One head's update of its accumulator by the scores in `aR` and the values at `oV`; the new running maximum. -/
def updP (arg4 : Memref sig .tc .vmem S128x16384 .bf16) (aR : Memref sig .tc .vmem S512x1024 .f32) (acc : Memref sig .tc .vmem S80x1024 .f32)
    (oV : Fin 2 → ℕ) (hV : ∀ a, oV a + S64x512.size a ≤ S128x16384.size a) (m mx : Row F) : PG F (Row F) := do
  let s : Vec F S512x1024 .f32 ← Prog.lift (.load aR (Rect.unit (s := S512x1024) ![0, 0] S512x1024.size inb_S512x1024_S512x1024_0_0).toLoadRect (View.loadsAt_vmem h_S512x1024))
  let v : Vec F S64x512 .bf16 ← Prog.lift (.load arg4 (Rect.unit (s := S128x16384) oV S64x512.size hV).toLoadRect (View.loadsAt_vmem h_S64x512))
  let a : Vec F S80x1024 .f32 ← Prog.lift (.load acc (Rect.unit (s := S80x1024) ![0, 0] S80x1024.size inb_S80x1024_S80x1024_0_0).toLoadRect (View.loadsAt_vmem h_S80x1024))
  let _d : Vec F S80x1024 .f32 ← Prog.lift (.load acc (Rect.unit (s := S80x1024) ![0, 0] S80x1024.size inb_S80x1024_S80x1024_0_0).toLoadRect (View.loadsAt_vmem h_S80x1024))
  Prog.lift (.store acc (Rect.unit (s := S80x1024) ![0, 0] S80x1024.size inb_S80x1024_S80x1024_0_0) (k0_pay7 (k0_pay6 m mx s v a)) Finset.univ (View.stores_vmem_bits_univ h_S80x1024 rfl) (.inl rfl))
  pure (k0_pay5 m mx)

/-- The scores of one chunk of keys for one head, stored into `aW`; their maximum per query. -/
def issueP (arg2 : Memref sig .tc .vmem S256x1024 .bf16) (arg3 : Memref sig .tc .vmem S16384x256 .bf16) (aW : Memref sig .tc .vmem S512x1024 .f32)
    (oK : Fin 2 → ℕ) (hK : ∀ a, oK a + S512x128.size a ≤ S16384x256.size a) (oQ : Fin 2 → ℕ) (hQ : ∀ a, oQ a + S128x1024.size a ≤ S256x1024.size a) : PG F (Row F) := do
  let k : Vec F S512x128 .bf16 ← Prog.lift (.load arg3 (Rect.unit (s := S16384x256) oK S512x128.size hK).toLoadRect (View.loadsAt_vmem h_S512x128))
  let q : Vec F S128x1024 .bf16 ← Prog.lift (.load arg2 (Rect.unit (s := S256x1024) oQ S128x1024.size hQ).toLoadRect (View.loadsAt_vmem h_S128x1024))
  let _d : Vec F S512x1024 .f32 ← Prog.lift (.load aW (Rect.unit (s := S512x1024) ![0, 0] S512x1024.size inb_S512x1024_S512x1024_0_0).toLoadRect (View.loadsAt_vmem h_S512x1024))
  Prog.lift (.store aW (Rect.unit (s := S512x1024) ![0, 0] S512x1024.size inb_S512x1024_S512x1024_0_0) (k0_pay3 k q) Finset.univ (View.stores_vmem_bits_univ h_S512x1024 rfl) (.inl rfl))
  pure (k0_pay4 k q)

/-- The scores of the context keys for one head. -/
def ctxP (arg2 : Memref sig .tc .vmem S256x1024 .bf16) (arg5 : Memref sig .tc .vmem S256x256 .bf16)
    (oK : Fin 2 → ℕ) (hK : ∀ a, oK a + S256x128.size a ≤ S256x256.size a) (oQ : Fin 2 → ℕ) (hQ : ∀ a, oQ a + S128x1024.size a ≤ S256x1024.size a) : PG F (FVec F S256x1024 .f32) := do
  let k : Vec F S256x128 .bf16 ← Prog.lift (.load arg5 (Rect.unit (s := S256x256) oK S256x128.size hK).toLoadRect (View.loadsAt_vmem h_S256x128))
  let q : Vec F S128x1024 .bf16 ← Prog.lift (.load arg2 (Rect.unit (s := S256x1024) oQ S128x1024.size hQ).toLoadRect (View.loadsAt_vmem h_S128x1024))
  pure (k0_pay203 k q)

/-- One head's update by the context keys' scores and values: what is stored over the accumulator. -/
def updCtx (s : FVec F S256x1024 .f32) (m : Row F) (v : Vec F S64x256 .bf16) (a : Vec F S80x1024 .f32) : FVec F S80x1024 .f32 :=
  k0_pay214 s m v a

/-- One head's update of its accumulator by the context keys. -/
def updCtxP (arg6 : Memref sig .tc .vmem S128x256 .bf16) (acc : Memref sig .tc .vmem S80x1024 .f32)
    (oV : Fin 2 → ℕ) (hV : ∀ a, oV a + S64x256.size a ≤ S128x256.size a) (s : FVec F S256x1024 .f32) (m : Row F) : PG F PUnit := do
  let v : Vec F S64x256 .bf16 ← Prog.lift (.load arg6 (Rect.unit (s := S128x256) oV S64x256.size hV).toLoadRect (View.loadsAt_vmem h_S64x256))
  let a : Vec F S80x1024 .f32 ← Prog.lift (.load acc (Rect.unit (s := S80x1024) ![0, 0] S80x1024.size inb_S80x1024_S80x1024_0_0).toLoadRect (View.loadsAt_vmem h_S80x1024))
  let _d : Vec F S80x1024 .f32 ← Prog.lift (.load acc (Rect.unit (s := S80x1024) ![0, 0] S80x1024.size inb_S80x1024_S80x1024_0_0).toLoadRect (View.loadsAt_vmem h_S80x1024))
  Prog.lift (.store acc (Rect.unit (s := S80x1024) ![0, 0] S80x1024.size inb_S80x1024_S80x1024_0_0) (updCtx s m v a) Finset.univ (View.stores_vmem_bits_univ h_S80x1024 rfl) (.inl rfl))

/-- What is carried from chunk to chunk: each head's running maximum, and its maximum over the chunk issued. -/
abbrev Carry (F : FTy → Type) [FloatOps F] : Type := Row F × Row F × Row F × Row F

/-- One chunk: for each head the next chunk's scores issued into `W`, the accumulator updated by the scores in `R`. -/
def chunkP (arg2 : Memref sig .tc .vmem S256x1024 .bf16) (arg3 : Memref sig .tc .vmem S16384x256 .bf16) (arg4 : Memref sig .tc .vmem S128x16384 .bf16)
    (arg8 arg9 : Memref sig .tc .vmem S80x1024 .f32) (R0 W0 R1 W1 : Memref sig .tc .vmem S512x1024 .f32)
    (oK0 : Fin 2 → ℕ) (hK0 : ∀ a, oK0 a + S512x128.size a ≤ S16384x256.size a) (oV0 : Fin 2 → ℕ) (hV0 : ∀ a, oV0 a + S64x512.size a ≤ S128x16384.size a)
    (oK1 : Fin 2 → ℕ) (hK1 : ∀ a, oK1 a + S512x128.size a ≤ S16384x256.size a) (oV1 : Fin 2 → ℕ) (hV1 : ∀ a, oV1 a + S64x512.size a ≤ S128x16384.size a)
    (x : Carry F) : PG F (Carry F) := do
  let n0 ← issueP arg2 arg3 W0 oK0 hK0 ![0, 0] inb_S256x1024_S128x1024_0_0
  let m0 ← updP arg4 R0 arg8 oV0 hV0 x.1 x.2.2.1
  let n1 ← issueP arg2 arg3 W1 oK1 hK1 ![128, 0] inb_S256x1024_S128x1024_128_0
  let m1 ← updP arg4 R1 arg9 oV1 hV1 x.2.1 x.2.2.2
  pure (m0, m1, n0, n1)

/-- The loop's trip: eight chunks, the score buffers changing places. -/
def tripP (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (t : Fin k0_t1_loop.trips) (x : Carry F) : PG F (Carry F) := do
  let x ← chunkP arg2 arg3 arg4 arg8 arg9 arg10 arg11 arg12 arg13 (k0_off1 t 0#32) (k0_off1_inb t 0) (k0_off2 t 0#32) (k0_off2_inb t 0) (k0_off3 t 0#32) (k0_off3_inb t 0) (k0_off4 t 0#32) (k0_off4_inb t 0) x
  let x ← chunkP arg2 arg3 arg4 arg8 arg9 arg11 arg10 arg13 arg12 (k0_off1 t 1#32) (k0_off1_inb t 1) (k0_off2 t 1#32) (k0_off2_inb t 1) (k0_off3 t 1#32) (k0_off3_inb t 1) (k0_off4 t 1#32) (k0_off4_inb t 1) x
  let x ← chunkP arg2 arg3 arg4 arg8 arg9 arg10 arg11 arg12 arg13 (k0_off1 t 2#32) (k0_off1_inb t 2) (k0_off2 t 2#32) (k0_off2_inb t 2) (k0_off3 t 2#32) (k0_off3_inb t 2) (k0_off4 t 2#32) (k0_off4_inb t 2) x
  let x ← chunkP arg2 arg3 arg4 arg8 arg9 arg11 arg10 arg13 arg12 (k0_off1 t 3#32) (k0_off1_inb t 3) (k0_off2 t 3#32) (k0_off2_inb t 3) (k0_off3 t 3#32) (k0_off3_inb t 3) (k0_off4 t 3#32) (k0_off4_inb t 3) x
  let x ← chunkP arg2 arg3 arg4 arg8 arg9 arg10 arg11 arg12 arg13 (k0_off1 t 4#32) (k0_off1_inb t 4) (k0_off2 t 4#32) (k0_off2_inb t 4) (k0_off3 t 4#32) (k0_off3_inb t 4) (k0_off4 t 4#32) (k0_off4_inb t 4) x
  let x ← chunkP arg2 arg3 arg4 arg8 arg9 arg11 arg10 arg13 arg12 (k0_off1 t 5#32) (k0_off1_inb t 5) (k0_off2 t 5#32) (k0_off2_inb t 5) (k0_off3 t 5#32) (k0_off3_inb t 5) (k0_off4 t 5#32) (k0_off4_inb t 5) x
  let x ← chunkP arg2 arg3 arg4 arg8 arg9 arg10 arg11 arg12 arg13 (k0_off1 t 6#32) (k0_off1_inb t 6) (k0_off2 t 6#32) (k0_off2_inb t 6) (k0_off3 t 6#32) (k0_off3_inb t 6) (k0_off4 t 6#32) (k0_off4_inb t 6) x
  let x ← chunkP arg2 arg3 arg4 arg8 arg9 arg11 arg10 arg13 arg12 (k0_off1 t 7#32) (k0_off1_inb t 7) (k0_off2 t 7#32) (k0_off2_inb t 7) (k0_off3 t 7#32) (k0_off3_inb t 7) (k0_off4 t 7#32) (k0_off4_inb t 7) x
  pure x

/-- What precedes the loop: the accumulators cleared, chunk 0's scores issued for both heads. -/
def initP (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) : PG F (Row F × Row F) := do
  let _d : Vec F S80x1024 .f32 ← Prog.lift (.load arg8 (Rect.unit (s := S80x1024) ![0, 0] S80x1024.size inb_S80x1024_S80x1024_0_0).toLoadRect (View.loadsAt_vmem h_S80x1024))
  Prog.lift (.store arg8 (Rect.unit (s := S80x1024) ![0, 0] S80x1024.size inb_S80x1024_S80x1024_0_0) (k0_pay108 (F := F)) Finset.univ (View.stores_vmem_bits_univ h_S80x1024 rfl) (.inl rfl))
  let _d : Vec F S80x1024 .f32 ← Prog.lift (.load arg9 (Rect.unit (s := S80x1024) ![0, 0] S80x1024.size inb_S80x1024_S80x1024_0_0).toLoadRect (View.loadsAt_vmem h_S80x1024))
  Prog.lift (.store arg9 (Rect.unit (s := S80x1024) ![0, 0] S80x1024.size inb_S80x1024_S80x1024_0_0) (k0_pay109 (F := F)) Finset.univ (View.stores_vmem_bits_univ h_S80x1024 rfl) (.inl rfl))
  let n0 ← issueP arg2 arg3 arg10 ![0, 0] inb_S16384x256_S512x128_0_0 ![0, 0] inb_S256x1024_S128x1024_0_0
  let n1 ← issueP arg2 arg3 arg12 ![0, 128] inb_S16384x256_S512x128_0_128 ![128, 0] inb_S256x1024_S128x1024_128_0
  pure (n0, n1)

/-- What the output block is computed from: rows 0 to 63 of the accumulators over their row 64. -/
def outV (a0 : Vec F S64x1024 .f32) (l0 : Vec F S1x1024 .f32) (a1 : Vec F S64x1024 .f32) (l1 : Vec F S1x1024 .f32) : FVec F S1024x128 .bf16 :=
  k0_pay1 (k0_pay215 a0 l0) a1 l1

/-- The last step: the output block stored. -/
def finP (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) : PG F PUnit := do
  let a0 : Vec F S64x1024 .f32 ← Prog.lift (.load arg8 (Rect.unit (s := S80x1024) ![0, 0] S64x1024.size inb_S80x1024_S64x1024_0_0).toLoadRect (View.loadsAt_vmem h_S64x1024))
  let l0 : Vec F S1x1024 .f32 ← Prog.lift (.load arg8 (Rect.unit (s := S80x1024) ![64, 0] S1x1024.size inb_S80x1024_S1x1024_64_0).toLoadRect (View.loadsAt_vmem h_S1x1024))
  let a1 : Vec F S64x1024 .f32 ← Prog.lift (.load arg9 (Rect.unit (s := S80x1024) ![0, 0] S64x1024.size inb_S80x1024_S64x1024_0_0).toLoadRect (View.loadsAt_vmem h_S64x1024))
  let l1 : Vec F S1x1024 .f32 ← Prog.lift (.load arg9 (Rect.unit (s := S80x1024) ![64, 0] S1x1024.size inb_S80x1024_S1x1024_64_0).toLoadRect (View.loadsAt_vmem h_S1x1024))
  let _d : Vec F S1024x128 .bf16 ← Prog.lift (.load arg7 (Rect.unit (s := S1024x128) ![0, 0] S1024x128.size inb_S1024x128_S1024x128_0_0).toLoadRect (View.loadsAt_vmem h_S1024x128))
  Prog.lift (.store arg7 (Rect.unit (s := S1024x128) ![0, 0] S1024x128.size inb_S1024x128_S1024x128_0_0) (outV a0 l0 a1 l1) Finset.univ (View.stores_vmem h_S1024x128 (harg7.storeExact_slice rfl _ packedbf16_S1024x128_S1024x128_0_0) (fun _ => rfl)) (.inl rfl))

/-- What follows the loop: chunks 24 to 30, chunk 31 with the context scores, the context keys, the output. -/
def tailP (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (x : Carry F) : PG F PUnit := do
  let x ← chunkP arg2 arg3 arg4 arg8 arg9 arg10 arg11 arg12 arg13 ![12800, 0] inb_S16384x256_S512x128_12800_0 ![0, 12288] inb_S128x16384_S64x512_0_12288 ![12800, 128] inb_S16384x256_S512x128_12800_128 ![64, 12288] inb_S128x16384_S64x512_64_12288 x
  let x ← chunkP arg2 arg3 arg4 arg8 arg9 arg11 arg10 arg13 arg12 ![13312, 0] inb_S16384x256_S512x128_13312_0 ![0, 12800] inb_S128x16384_S64x512_0_12800 ![13312, 128] inb_S16384x256_S512x128_13312_128 ![64, 12800] inb_S128x16384_S64x512_64_12800 x
  let x ← chunkP arg2 arg3 arg4 arg8 arg9 arg10 arg11 arg12 arg13 ![13824, 0] inb_S16384x256_S512x128_13824_0 ![0, 13312] inb_S128x16384_S64x512_0_13312 ![13824, 128] inb_S16384x256_S512x128_13824_128 ![64, 13312] inb_S128x16384_S64x512_64_13312 x
  let x ← chunkP arg2 arg3 arg4 arg8 arg9 arg11 arg10 arg13 arg12 ![14336, 0] inb_S16384x256_S512x128_14336_0 ![0, 13824] inb_S128x16384_S64x512_0_13824 ![14336, 128] inb_S16384x256_S512x128_14336_128 ![64, 13824] inb_S128x16384_S64x512_64_13824 x
  let x ← chunkP arg2 arg3 arg4 arg8 arg9 arg10 arg11 arg12 arg13 ![14848, 0] inb_S16384x256_S512x128_14848_0 ![0, 14336] inb_S128x16384_S64x512_0_14336 ![14848, 128] inb_S16384x256_S512x128_14848_128 ![64, 14336] inb_S128x16384_S64x512_64_14336 x
  let x ← chunkP arg2 arg3 arg4 arg8 arg9 arg11 arg10 arg13 arg12 ![15360, 0] inb_S16384x256_S512x128_15360_0 ![0, 14848] inb_S128x16384_S64x512_0_14848 ![15360, 128] inb_S16384x256_S512x128_15360_128 ![64, 14848] inb_S128x16384_S64x512_64_14848 x
  let x ← chunkP arg2 arg3 arg4 arg8 arg9 arg10 arg11 arg12 arg13 ![15872, 0] inb_S16384x256_S512x128_15872_0 ![0, 15360] inb_S128x16384_S64x512_0_15360 ![15872, 128] inb_S16384x256_S512x128_15872_128 ![64, 15360] inb_S128x16384_S64x512_64_15360 x
  let s0 ← ctxP arg2 arg5 ![0, 0] inb_S256x256_S256x128_0_0 ![0, 0] inb_S256x1024_S128x1024_0_0
  let m0 ← updP arg4 arg11 arg8 ![0, 15872] inb_S128x16384_S64x512_0_15872 x.1 x.2.2.1
  let s1 ← ctxP arg2 arg5 ![0, 128] inb_S256x256_S256x128_0_128 ![128, 0] inb_S256x1024_S128x1024_128_0
  let m1 ← updP arg4 arg13 arg9 ![64, 15872] inb_S128x16384_S64x512_64_15872 x.2.1 x.2.2.2
  updCtxP arg6 arg8 ![0, 0] inb_S128x256_S64x256_0_0 s0 m0
  updCtxP arg6 arg9 ![64, 0] inb_S128x256_S64x256_64_0 s1 m1
  finP i arg2 harg2 arg3 harg3 arg4 harg4 arg5 harg5 arg6 harg6 arg7 harg7 arg8 harg8 arg9 harg9 arg10 harg10 arg11 harg11 arg12 harg12 arg13 harg13

/-- A trip of the printed loop is eight chunks. -/
theorem body_eq (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (v8 v9 v17 v25 : Row F) (c0 c1 : BitVec 32) (t : Fin k0_t1_loop.trips) (x : Carry F) :
    k0_t1_body i arg2 harg2 arg3 harg3 arg4 harg4 arg5 harg5 arg6 harg6 arg7 harg7 arg8 harg8 arg9 harg9 arg10 harg10 arg11 harg11 arg12 harg12 arg13 harg13 v8 v9 v17 v25 c0 c1 t x = tripP i arg2 harg2 arg3 harg3 arg4 harg4 arg5 harg5 arg6 harg6 arg7 harg7 arg8 harg8 arg9 harg9 arg10 harg10 arg11 harg11 arg12 harg12 arg13 harg13 t x := by
  obtain ⟨x0, x1, x2, x3⟩ := x
  simp (maxSteps := 100000000) only [k0_t1_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, tripP, chunkP, issueP, updP, bind_assoc, pure_bind]
  rfl

/-- The printed body: what precedes the loop, the loop, what follows it. -/
theorem cc0_eq (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) :
    cc0_mla_flash (F := F) i arg2 harg2 arg3 harg3 arg4 harg4 arg5 harg5 arg6 harg6 arg7 harg7 arg8 harg8 arg9 harg9 arg10 harg10 arg11 harg11 arg12 harg12 arg13 harg13 = (initP i arg2 harg2 arg3 harg3 arg4 harg4 arg5 harg5 arg6 harg6 arg7 harg7 arg8 harg8 arg9 harg9 arg10 harg10 arg11 harg11 arg12 harg12 arg13 harg13 >>= fun n =>
      Scf.Loop.for k0_t1_loop k0_t1_ok ((k0_pay110 (F := F)), (k0_pay111 (F := F)), n.1, n.2) (k0_t1_body (F := F) i arg2 harg2 arg3 harg3 arg4 harg4 arg5 harg5 arg6 harg6 arg7 harg7 arg8 harg8 arg9 harg9 arg10 harg10 arg11 harg11 arg12 harg12 arg13 harg13 (k0_pay110 (F := F)) (k0_pay111 (F := F)) n.1 n.2 0#32 1#32) >>=
        fun x => tailP i arg2 harg2 arg3 harg3 arg4 harg4 arg5 harg5 arg6 harg6 arg7 harg7 arg8 harg8 arg9 harg9 arg10 harg10 arg11 harg11 arg12 harg12 arg13 harg13 x) := by
  rw [cc0_mla_flash_eq_skeleton]
  simp (maxSteps := 100000000) only [cc0_mla_flash_skel, k0_part17_eq_skeleton, k0_part17_skel, k0_part18_eq_skeleton, k0_part18_skel, initP, issueP, bind_assoc, pure_bind]
  iterate 13 refine bind_congr fun _ => ?_
  rename_i x
  obtain ⟨x0, x1, x2, x3⟩ := x
  simp (maxSteps := 100000000) only [k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, tailP, chunkP, issueP, updP, ctxP, updCtxP, finP, bind_assoc, pure_bind]
  rfl

end Cert.KernelIdeal.Steps

end
-- ==== Proof.KernelIdeal.Specs.lean ====
/- What each step of the kernel's body does to the buffers it names, their contents given. -/
module

public import proofs.«01_k».proof.Proof.Gen.KernelIdeal.Skeleton
public import proofs.«01_k».proof.Proof.KernelIdeal.Steps
public import proofs.«01_k».proof.Proof.Gen.KernelIdeal.Frame
public import Idealize.ShloMosaic.Lib.Tactic
public import Idealize.ShloMosaic.Lib.VecWindow

@[expose] public section

set_option synthInstance.maxSize 4096
set_option maxRecDepth 10000000
set_option maxHeartbeats 4000000

noncomputable section

namespace Cert.KernelIdeal.Steps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No variants are used. -/
abbrev 𝒱₀ : Variants := Variants.none

/-- The window of `x` of sizes `size` at `off`. -/
abbrev win {α : Type} {s : Shape} (x : s.Idx → α) (off size : Fin s.rank → ℕ) (inb : ∀ a, off a + size a ≤ s.size a) : (Rect.unit off size inb).shape.Idx → α :=
  VecWindow.window x off size inb

/-- A buffer held whole at contents `X`. -/
abbrev Own (c : Dev nD) {sp : Space} {S : Shape} {e : EltTy} (m : Memref sig .tc sp S e) (X : S.Idx → Elt F e) : sProp 𝕄 :=
  owns (c : Thread nD τ) m fullShare X

/-- A buffer held whole at some contents. -/
abbrev Any (c : Dev nD) {sp : Space} {S : Shape} {e : EltTy} (m : Memref sig .tc sp S e) : sProp 𝕄 :=
  iprop(∃ d, owns (c : Thread nD τ) m fullShare d)

/-- A program of the body run to the postcondition. -/
abbrev Run (c : Dev nD) {α : Type} (p : PG F α) (K : α → sProp 𝕄) : sProp 𝕄 :=
  wp frame (wpE (defs₀ (F := F)) 𝒱₀ (c : Thread nD τ) none) Set.univ p K

/-- The zero offsets. -/
theorem hz2 : (![0, 0] : Fin 2 → ℕ) = fun _ => 0 := by funext a; fin_cases a <;> rfl

/-- A store over the whole of a buffer at offset zero leaves what was stored. -/
theorem read_store_whole {sp : Space} {S : Shape} {e : EltTy} (m : Memref sig .tc sp S e) (f : m.view.ty.Contents (Elt F)) {off : Fin S.rank → ℕ}
    (h0 : off = fun _ => 0) (inb : ∀ a, off a + S.size a ≤ S.size a) (x : S.Idx → Elt F e) :
    m.view.read (Elt F) (m.view.writes (Elt F) f [⟨Rect.unit off S.size inb, x⟩]) = x := by
  subst h0
  exact View.read_writes_whole m.view f x

/-- The scores of one chunk issued: the buffer ends at the scores, the value returned is their maximum. -/
theorem issue_spec (c : Dev nD) (arg2 : Memref sig .tc .vmem S256x1024 .bf16) (arg3 : Memref sig .tc .vmem S16384x256 .bf16) (aW : Memref sig .tc .vmem S512x1024 .f32)
    (oK : Fin 2 → ℕ) (hK : ∀ a, oK a + S512x128.size a ≤ S16384x256.size a) (oQ : Fin 2 → ℕ) (hQ : ∀ a, oQ a + S128x1024.size a ≤ S256x1024.size a)
    (Q : Vec F S256x1024 .bf16) (K : Vec F S16384x256 .bf16) (Kt : Row F → sProp 𝕄) :
    iprop(Own c arg2 Q ∗ Own c arg3 K ∗ Any c aW
      ∗ (iprop(Own c arg2 Q ∗ Own c arg3 K ∗ Own c aW (k0_pay3 (win K oK S512x128.size hK) (win Q oQ S128x1024.size hQ)))
          -∗ Kt (k0_pay4 (win K oK S512x128.size hK) (win Q oQ S128x1024.size hQ))))
      ⊢ Run c (issueP arg2 arg3 aW oK hK oQ hQ) Kt := by
  first | unfold Run Own Any owns | unfold Run Own owns
  iintro ⟨⟨%f2, %hf2, H2⟩, ⟨%f3, %hf3, H3⟩, ⟨%d, %fw, -, Hw⟩, Hk⟩
  unfold issueP
  sl_exec!
  sl_step
  have e2 : View.readAt (Elt F) arg2.view (Rect.unit (s := S256x1024) oQ S128x1024.size hQ).toLoadRect f2 = win Q oQ S128x1024.size hQ := by
    rw [← hf2]; exact View.readAt_unit _ _ _ rfl _
  have e3 : View.readAt (Elt F) arg3.view (Rect.unit (s := S16384x256) oK S512x128.size hK).toLoadRect f3 = win K oK S512x128.size hK := by
    rw [← hf3]; exact View.readAt_unit _ _ _ rfl _
  rw [e2, e3]
  iapply Hk
  isplitl [H2]
  · iexists _; isplitr; · ipureintro; exact hf2
    iexact H2
  isplitl [H3]
  · iexists _; isplitr; · ipureintro; exact hf3
    iexact H3
  iexists _; isplitr; swap; · iexact Hw
  ipureintro; exact read_store_whole _ _ hz2 _ _

/-- One update: the accumulator ends at the update of what it held, the value returned is the new running maximum. -/
theorem upd_spec (c : Dev nD) (arg4 : Memref sig .tc .vmem S128x16384 .bf16) (aR : Memref sig .tc .vmem S512x1024 .f32) (acc : Memref sig .tc .vmem S80x1024 .f32)
    (oV : Fin 2 → ℕ) (hV : ∀ a, oV a + S64x512.size a ≤ S128x16384.size a) (m mx : Row F)
    (V : Vec F S128x16384 .bf16) (s : Vec F S512x1024 .f32) (a : Vec F S80x1024 .f32) (Kt : Row F → sProp 𝕄) :
    iprop(Own c arg4 V ∗ Own c aR s ∗ Own c acc a
      ∗ (iprop(Own c arg4 V ∗ Own c aR s ∗ Own c acc (k0_pay7 (k0_pay6 m mx s (win V oV S64x512.size hV) a))) -∗ Kt (k0_pay5 m mx)))
      ⊢ Run c (updP arg4 aR acc oV hV m mx) Kt := by
  first | unfold Run Own Any owns | unfold Run Own owns
  iintro ⟨⟨%f2, %hf2, H2⟩, ⟨%f3, %hf3, H3⟩, ⟨%f4, %hf4, Hw⟩, Hk⟩
  unfold updP
  sl_exec!
  sl_step
  have e2 : View.readAt (Elt F) arg4.view (Rect.unit (s := S128x16384) oV S64x512.size hV).toLoadRect f2 = win V oV S64x512.size hV := by
    rw [← hf2]; exact View.readAt_unit _ _ _ rfl _
  have e3 : View.readAt (Elt F) aR.view (Rect.unit (s := S512x1024) ![0, 0] S512x1024.size inb_S512x1024_S512x1024_0_0).toLoadRect f3 = s := by
    rw [← hf3]; exact View.readAt_full _ _ _
  have e4 : View.readAt (Elt F) acc.view (Rect.unit (s := S80x1024) ![0, 0] S80x1024.size inb_S80x1024_S80x1024_0_0).toLoadRect f4 = a := by
    rw [← hf4]; exact View.readAt_full _ _ _
  rw [e2, e3, e4]
  iapply Hk
  isplitl [H2]
  · iexists _; isplitr; · ipureintro; exact hf2
    iexact H2
  isplitl [H3]
  · iexists _; isplitr; · ipureintro; exact hf3
    iexact H3
  iexists _; isplitr; swap; · iexact Hw
  ipureintro; exact read_store_whole _ _ hz2 _ _

/-- The context scores: nothing is written. -/
theorem ctx_spec (c : Dev nD) (arg2 : Memref sig .tc .vmem S256x1024 .bf16) (arg5 : Memref sig .tc .vmem S256x256 .bf16)
    (oK : Fin 2 → ℕ) (hK : ∀ a, oK a + S256x128.size a ≤ S256x256.size a) (oQ : Fin 2 → ℕ) (hQ : ∀ a, oQ a + S128x1024.size a ≤ S256x1024.size a)
    (Q : Vec F S256x1024 .bf16) (C : Vec F S256x256 .bf16) (Kt : FVec F S256x1024 .f32 → sProp 𝕄) :
    iprop(Own c arg2 Q ∗ Own c arg5 C
      ∗ (iprop(Own c arg2 Q ∗ Own c arg5 C) -∗ Kt (k0_pay203 (win C oK S256x128.size hK) (win Q oQ S128x1024.size hQ))))
      ⊢ Run c (ctxP arg2 arg5 oK hK oQ hQ) Kt := by
  first | unfold Run Own Any owns | unfold Run Own owns
  iintro ⟨⟨%f2, %hf2, H2⟩, ⟨%f3, %hf3, H3⟩, Hk⟩
  unfold ctxP
  sl_exec!
  sl_step
  have e2 : View.readAt (Elt F) arg2.view (Rect.unit (s := S256x1024) oQ S128x1024.size hQ).toLoadRect f2 = win Q oQ S128x1024.size hQ := by
    rw [← hf2]; exact View.readAt_unit _ _ _ rfl _
  have e3 : View.readAt (Elt F) arg5.view (Rect.unit (s := S256x256) oK S256x128.size hK).toLoadRect f3 = win C oK S256x128.size hK := by
    rw [← hf3]; exact View.readAt_unit _ _ _ rfl _
  rw [e2, e3]
  iapply Hk
  isplitl [H2]
  · iexists _; isplitr; · ipureintro; exact hf2
    iexact H2
  iexists _; isplitr; · ipureintro; exact hf3
  iexact H3

/-- One update by the context keys. -/
theorem updCtx_spec (c : Dev nD) (arg6 : Memref sig .tc .vmem S128x256 .bf16) (acc : Memref sig .tc .vmem S80x1024 .f32)
    (oV : Fin 2 → ℕ) (hV : ∀ a, oV a + S64x256.size a ≤ S128x256.size a) (s : FVec F S256x1024 .f32) (m : Row F)
    (V : Vec F S128x256 .bf16) (a : Vec F S80x1024 .f32) (Kt : PUnit → sProp 𝕄) :
    iprop(Own c arg6 V ∗ Own c acc a
      ∗ (iprop(Own c arg6 V ∗ Own c acc (updCtx s m (win V oV S64x256.size hV) a)) -∗ Kt ⟨⟩))
      ⊢ Run c (updCtxP arg6 acc oV hV s m) Kt := by
  first | unfold Run Own Any owns | unfold Run Own owns
  iintro ⟨⟨%f2, %hf2, H2⟩, ⟨%f4, %hf4, Hw⟩, Hk⟩
  unfold updCtxP
  sl_exec!
  sl_step
  have e2 : View.readAt (Elt F) arg6.view (Rect.unit (s := S128x256) oV S64x256.size hV).toLoadRect f2 = win V oV S64x256.size hV := by
    rw [← hf2]; exact View.readAt_unit _ _ _ rfl _
  have e4 : View.readAt (Elt F) acc.view (Rect.unit (s := S80x1024) ![0, 0] S80x1024.size inb_S80x1024_S80x1024_0_0).toLoadRect f4 = a := by
    rw [← hf4]; exact View.readAt_full _ _ _
  rw [e2, e4]
  iapply Hk
  isplitl [H2]
  · iexists _; isplitr; · ipureintro; exact hf2
    iexact H2
  iexists _; isplitr; swap; · iexact Hw
  ipureintro; exact read_store_whole _ _ hz2 _ _

/-- The output block from the two accumulators. -/
def outOf (a0 a1 : Vec F S80x1024 .f32) : Vec F S1024x128 .bf16 :=
  outV (win a0 ![0, 0] S64x1024.size inb_S80x1024_S64x1024_0_0) (win a0 ![64, 0] S1x1024.size inb_S80x1024_S1x1024_64_0)
    (win a1 ![0, 0] S64x1024.size inb_S80x1024_S64x1024_0_0) (win a1 ![64, 0] S1x1024.size inb_S80x1024_S1x1024_64_0)

/-- The last step. -/
theorem fin_spec (c : Dev nD) (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (a0 a1 : Vec F S80x1024 .f32) (Kt : PUnit → sProp 𝕄) :
    iprop(Own c arg8 a0 ∗ Own c arg9 a1 ∗ Any c arg7
      ∗ (iprop(Own c arg8 a0 ∗ Own c arg9 a1 ∗ Own c arg7 (outOf a0 a1)) -∗ Kt ⟨⟩))
      ⊢ Run c (finP i arg2 harg2 arg3 harg3 arg4 harg4 arg5 harg5 arg6 harg6 arg7 harg7 arg8 harg8 arg9 harg9 arg10 harg10 arg11 harg11 arg12 harg12 arg13 harg13) Kt := by
  first | unfold Run Own Any owns | unfold Run Own owns
  iintro ⟨⟨%f2, %hf2, H2⟩, ⟨%f3, %hf3, H3⟩, ⟨%d, %fw, -, Hw⟩, Hk⟩
  unfold finP
  sl_exec!
  sl_step
  have e2 : View.readAt (Elt F) arg8.view (Rect.unit (s := S80x1024) ![0, 0] S64x1024.size inb_S80x1024_S64x1024_0_0).toLoadRect f2 = win a0 ![0, 0] S64x1024.size inb_S80x1024_S64x1024_0_0 := by
    rw [← hf2]; exact View.readAt_unit _ _ _ rfl _
  have e3 : View.readAt (Elt F) arg8.view (Rect.unit (s := S80x1024) ![64, 0] S1x1024.size inb_S80x1024_S1x1024_64_0).toLoadRect f2 = win a0 ![64, 0] S1x1024.size inb_S80x1024_S1x1024_64_0 := by
    rw [← hf2]; exact View.readAt_unit _ _ _ rfl _
  have e4 : View.readAt (Elt F) arg9.view (Rect.unit (s := S80x1024) ![0, 0] S64x1024.size inb_S80x1024_S64x1024_0_0).toLoadRect f3 = win a1 ![0, 0] S64x1024.size inb_S80x1024_S64x1024_0_0 := by
    rw [← hf3]; exact View.readAt_unit _ _ _ rfl _
  have e5 : View.readAt (Elt F) arg9.view (Rect.unit (s := S80x1024) ![64, 0] S1x1024.size inb_S80x1024_S1x1024_64_0).toLoadRect f3 = win a1 ![64, 0] S1x1024.size inb_S80x1024_S1x1024_64_0 := by
    rw [← hf3]; exact View.readAt_unit _ _ _ rfl _
  iapply Hk
  isplitl [H2]
  · iexists _; isplitr; · ipureintro; exact hf2
    iexact H2
  isplitl [H3]
  · iexists _; isplitr; · ipureintro; exact hf3
    iexact H3
  iexists _; isplitr; swap; · iexact Hw
  ipureintro
  unfold fin_spec.sl.Hw_1
  rw [e2, e3, e4, e5]
  exact read_store_whole _ _ hz2 _ _

/-- An accumulator cleared. -/
def clrP (acc : Memref sig .tc .vmem S80x1024 .f32) (z : FVec F S80x1024 .f32) : PG F PUnit := do
  let _d : Vec F S80x1024 .f32 ← Prog.lift (.load acc (Rect.unit (s := S80x1024) ![0, 0] S80x1024.size inb_S80x1024_S80x1024_0_0).toLoadRect (View.loadsAt_vmem h_S80x1024))
  Prog.lift (.store acc (Rect.unit (s := S80x1024) ![0, 0] S80x1024.size inb_S80x1024_S80x1024_0_0) z Finset.univ (View.stores_vmem_bits_univ h_S80x1024 rfl) (.inl rfl))

/-- An accumulator cleared holds what was stored. -/
theorem clr_spec (c : Dev nD) (acc : Memref sig .tc .vmem S80x1024 .f32) (z : FVec F S80x1024 .f32) (Kt : PUnit → sProp 𝕄) :
    iprop(Any c acc ∗ (Own c acc z -∗ Kt ⟨⟩)) ⊢ Run c (clrP acc z) Kt := by
  first | unfold Run Own Any owns | unfold Run Own owns
  iintro ⟨⟨%d, %fw, -, Hw⟩, Hk⟩
  unfold clrP
  sl_exec!
  sl_step
  iapply Hk
  iexists _; isplitr; swap; · iexact Hw
  ipureintro; exact read_store_whole _ _ hz2 _ _

end Cert.KernelIdeal.Steps

end
-- ==== Proof.KernelIdeal.Body.lean ====
/- The kernel's body run whole: each head's state chunk by chunk, and the output block it ends at. -/
module

public import proofs.«01_k».proof.Proof.Gen.KernelIdeal.Skeleton
public import proofs.«01_k».proof.Proof.KernelIdeal.Specs

@[expose] public section

set_option synthInstance.maxSize 4096
set_option maxRecDepth 10000000
set_option maxHeartbeats 4000000

noncomputable section

namespace Cert.KernelIdeal.Steps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Both heads start alike. -/
theorem pay111_eq : k0_pay111 (F := F) = k0_pay110 (F := F) := rfl
/-- The second head starts as the first does. -/
theorem pay109_eq : k0_pay109 (F := F) = k0_pay108 (F := F) := rfl

attribute [local irreducible] k0_pay109 k0_pay111 k0_pay1 k0_pay3 k0_pay4 k0_pay5 k0_pay6 k0_pay7 k0_pay108 k0_pay110 k0_pay203 k0_pay214 k0_pay215 updCtx outV VecWindow.window

/-- One head between two chunks: its running maximum, its maximum over the chunk issued, its accumulator, the scores issued. -/
structure HSt (F : FTy → Type) [FloatOps F] where
  m : Row F
  mx : Row F
  a : FVec F S80x1024 .f32
  s : FVec F S512x1024 .f32

/-- One chunk for one head: `k` the next chunk's keys, `q` the queries, `v` this chunk's values. -/
def headStep (k : Vec F S512x128 .bf16) (q : Vec F S128x1024 .bf16) (v : Vec F S64x512 .bf16) (h : HSt F) : HSt F where
  m := k0_pay5 h.m h.mx
  mx := k0_pay4 k q
  a := k0_pay7 (k0_pay6 h.m h.mx h.s v h.a)
  s := k0_pay3 k q

/-- What the printed loop carries, from the two heads. -/
abbrev carry (h0 h1 : HSt F) : Carry F := (h0.m, h1.m, h0.mx, h1.mx)

/-- The windows at two equal offsets are one. -/
theorem win_off {α : Type} {s : Shape} (x : s.Idx → α) {off off' : Fin s.rank → ℕ} (size : Fin s.rank → ℕ) (h : off = off')
    (inb : ∀ a, off a + size a ≤ s.size a) (inb' : ∀ a, off' a + size a ≤ s.size a) : win x off size inb = win x off' size inb' := by
  subst h; rfl

/-- The buffers between two chunks: the inputs, the accumulators, the scores read next, the scores written next. -/
abbrev Held (c : Dev nD) (arg2 : Memref sig .tc .vmem S256x1024 .bf16) (arg3 : Memref sig .tc .vmem S16384x256 .bf16) (arg4 : Memref sig .tc .vmem S128x16384 .bf16)
    (arg8 arg9 : Memref sig .tc .vmem S80x1024 .f32) (R0 W0 R1 W1 : Memref sig .tc .vmem S512x1024 .f32)
    (Q : Vec F S256x1024 .bf16) (K : Vec F S16384x256 .bf16) (V : Vec F S128x16384 .bf16) (h0 h1 : HSt F) : sProp 𝕄 :=
  iprop(Own c arg2 Q ∗ Own c arg3 K ∗ Own c arg4 V ∗ Own c arg8 h0.a ∗ Own c arg9 h1.a ∗ Own c R0 h0.s ∗ Own c R1 h1.s ∗ Any c W0 ∗ Any c W1)

/-- A program and what follows it, by what the first leaves. -/
theorem seq (c : Dev nD) {α β : Type} {P Q : sProp 𝕄} {R : β → sProp 𝕄} (p : PG F α) (k : α → PG F β) (v : α)
    (h : P ⊢ Run c p fun y => iprop(⌜y = v⌝ ∗ Q)) (h2 : Q ⊢ Run c (k v) R) : P ⊢ Run c (p >>= k) R := by
  unfold Run
  rw [wp_bind]
  refine h.trans (wp_mono _ _ _ ?_)
  intro y
  iintro ⟨%hy, HQ⟩
  subst hy
  iapply h2; iexact HQ

/-- One chunk: both heads step, the score buffers change places. -/
theorem chunk_spec (c : Dev nD) (arg2 : Memref sig .tc .vmem S256x1024 .bf16) (arg3 : Memref sig .tc .vmem S16384x256 .bf16) (arg4 : Memref sig .tc .vmem S128x16384 .bf16)
    (arg8 arg9 : Memref sig .tc .vmem S80x1024 .f32) (R0 W0 R1 W1 : Memref sig .tc .vmem S512x1024 .f32)
    (oK0 : Fin 2 → ℕ) (hK0 : ∀ a, oK0 a + S512x128.size a ≤ S16384x256.size a) (oV0 : Fin 2 → ℕ) (hV0 : ∀ a, oV0 a + S64x512.size a ≤ S128x16384.size a)
    (oK1 : Fin 2 → ℕ) (hK1 : ∀ a, oK1 a + S512x128.size a ≤ S16384x256.size a) (oV1 : Fin 2 → ℕ) (hV1 : ∀ a, oV1 a + S64x512.size a ≤ S128x16384.size a)
    (Q : Vec F S256x1024 .bf16) (K : Vec F S16384x256 .bf16) (V : Vec F S128x16384 .bf16) (h0 h1 h0' h1' : HSt F)
    (e0 : headStep (win K oK0 S512x128.size hK0) (win Q ![0, 0] S128x1024.size inb_S256x1024_S128x1024_0_0) (win V oV0 S64x512.size hV0) h0 = h0')
    (e1 : headStep (win K oK1 S512x128.size hK1) (win Q ![128, 0] S128x1024.size inb_S256x1024_S128x1024_128_0) (win V oV1 S64x512.size hV1) h1 = h1') :
    Held c arg2 arg3 arg4 arg8 arg9 R0 W0 R1 W1 Q K V h0 h1
      ⊢ Run c (chunkP arg2 arg3 arg4 arg8 arg9 R0 W0 R1 W1 oK0 hK0 oV0 hV0 oK1 hK1 oV1 hV1 (carry h0 h1))
          fun y => iprop(⌜y = carry h0' h1'⌝ ∗ Held c arg2 arg3 arg4 arg8 arg9 W0 R0 W1 R1 Q K V h0' h1') := by
  subst e0 e1
  unfold Held Run chunkP carry headStep
  iintro ⟨H2, H3, H4, H8, H9, HR0, HR1, HW0, HW1⟩
  rw [wp_bind]
  iapply (issue_spec c arg2 arg3 W0 oK0 hK0 _ _ Q K _)
  isplitl [H2]; · iexact H2
  isplitl [H3]; · iexact H3
  isplitl [HW0]; · iexact HW0
  iintro ⟨H2, H3, HW0⟩
  rw [wp_bind]
  iapply (upd_spec c arg4 R0 arg8 oV0 hV0 _ _ V _ _ _)
  isplitl [H4]; · iexact H4
  isplitl [HR0]; · iexact HR0
  isplitl [H8]; · iexact H8
  iintro ⟨H4, HR0, H8⟩
  rw [wp_bind]
  iapply (issue_spec c arg2 arg3 W1 oK1 hK1 _ _ Q K _)
  isplitl [H2]; · iexact H2
  isplitl [H3]; · iexact H3
  isplitl [HW1]; · iexact HW1
  iintro ⟨H2, H3, HW1⟩
  rw [wp_bind]
  iapply (upd_spec c arg4 R1 arg9 oV1 hV1 _ _ V _ _ _)
  isplitl [H4]; · iexact H4
  isplitl [HR1]; · iexact HR1
  isplitl [H9]; · iexact H9
  iintro ⟨H4, HR1, H9⟩
  rw [Prog.pure_eq_ret]
  iapply (le_wp_ret _ _ _ _ _)
  isplitr; · ipureintro; rfl
  isplitl [H2]; · iexact H2
  isplitl [H3]; · iexact H3
  isplitl [H4]; · iexact H4
  isplitl [H8]; · iexact H8
  isplitl [H9]; · iexact H9
  isplitl [HW0]; · iexact HW0
  isplitl [HW1]; · iexact HW1
  isplitl [HR0]; · iexists _; iexact HR0
  iexists _; iexact HR1

/-- What is not touched stays. -/
theorem frameL (c : Dev nD) {α : Type} {P Q R : sProp 𝕄} {p : PG F α} {v : α} (h : P ⊢ Run c p fun y => iprop(⌜y = v⌝ ∗ Q)) :
    iprop(R ∗ P) ⊢ Run c p fun y => iprop(⌜y = v⌝ ∗ R ∗ Q) := by
  unfold Run at *
  iintro ⟨HR, HP⟩
  iapply (wp_wand_r _ _ _)
  isplitl [HP]
  · iapply h; iexact HP
  · iintro %y ⟨%hy, HQ⟩
    isplitr; · ipureintro; exact hy
    isplitl [HR]; · iexact HR
    iexact HQ

/-- Chunk `j`'s keys of head `e`. -/
def kC (K : Vec F S16384x256 .bf16) (e : Fin 2) (j : ℕ) : Vec F S512x128 .bf16 :=
  win K ![512 * min j 31, 128 * e.val] S512x128.size (by intro a; have := e.isLt; have h := Nat.min_le_right j 31; fin_cases a
                                                         · show 512 * min j 31 + 512 ≤ 16384; omega
                                                         · show 128 * e.val + 128 ≤ 256; omega)

/-- Chunk `j`'s values of head `e`. -/
def vC (V : Vec F S128x16384 .bf16) (e : Fin 2) (j : ℕ) : Vec F S64x512 .bf16 :=
  win V ![64 * e.val, 512 * min j 31] S64x512.size (by intro a; have := e.isLt; have h := Nat.min_le_right j 31; fin_cases a
                                                       · show 64 * e.val + 64 ≤ 128; omega
                                                       · show 512 * min j 31 + 512 ≤ 16384; omega)

/-- Head `e`'s queries. -/
def qC (Q : Vec F S256x1024 .bf16) (e : Fin 2) : Vec F S128x1024 .bf16 :=
  win Q ![128 * e.val, 0] S128x1024.size (by intro a; have := e.isLt; fin_cases a
                                             · show 128 * e.val + 128 ≤ 256; omega
                                             · show 0 + 1024 ≤ 1024; omega)

/-- The context keys of head `e`. -/
def ckC (C : Vec F S256x256 .bf16) (e : Fin 2) : Vec F S256x128 .bf16 :=
  win C ![0, 128 * e.val] S256x128.size (by intro a; have := e.isLt; fin_cases a
                                            · show 0 + 256 ≤ 256; omega
                                            · show 128 * e.val + 128 ≤ 256; omega)

/-- The context values of head `e`. -/
def cvC (D : Vec F S128x256 .bf16) (e : Fin 2) : Vec F S64x256 .bf16 :=
  win D ![64 * e.val, 0] S64x256.size (by intro a; have := e.isLt; fin_cases a
                                          · show 64 * e.val + 64 ≤ 128; omega
                                          · show 0 + 256 ≤ 256; omega)

/-- A head before chunk `j`'s update: at the first, the accumulator cleared and chunk 0 issued. -/
def headSeq (q : Vec F S128x1024 .bf16) (k : ℕ → Vec F S512x128 .bf16) (v : ℕ → Vec F S64x512 .bf16) : ℕ → HSt F
  | 0 => { m := k0_pay110 (F := F), mx := k0_pay4 (k 0) q, a := k0_pay108 (F := F), s := k0_pay3 (k 0) q }
  | j + 1 => headStep (k (j + 1)) q (v j) (headSeq q k v j)

/-- A head's accumulator at the end: chunk 31's update, then the context's. -/
def headEnd (q : Vec F S128x1024 .bf16) (v31 : Vec F S64x512 .bf16) (ck : Vec F S256x128 .bf16) (cv : Vec F S64x256 .bf16) (h : HSt F) : FVec F S80x1024 .f32 :=
  updCtx (k0_pay203 ck q) (k0_pay5 h.m h.mx) cv (k0_pay7 (k0_pay6 h.m h.mx h.s v31 h.a))

/-- Head `e` of the block before chunk `j`. -/
def hSeq (Q : Vec F S256x1024 .bf16) (K : Vec F S16384x256 .bf16) (V : Vec F S128x16384 .bf16) (e : Fin 2) (j : ℕ) : HSt F :=
  headSeq (qC Q e) (kC K e) (vC V e) j

/-- Head `e`'s accumulator at the end. -/
def accEnd (Q : Vec F S256x1024 .bf16) (K : Vec F S16384x256 .bf16) (V : Vec F S128x16384 .bf16) (C : Vec F S256x256 .bf16) (D : Vec F S128x256 .bf16) (e : Fin 2) : FVec F S80x1024 .f32 :=
  headEnd (qC Q e) (vC V e 31) (ckC C e) (cvC D e) (hSeq Q K V e 31)

/-- The block the body leaves. -/
def outBlk (Q : Vec F S256x1024 .bf16) (K : Vec F S16384x256 .bf16) (V : Vec F S128x16384 .bf16) (C : Vec F S256x256 .bf16) (D : Vec F S128x256 .bf16) : Vec F S1024x128 .bf16 :=
  outOf (accEnd Q K V C D 0) (accEnd Q K V C D 1)

/-- Chunk `j` at offsets that are chunk `j`'s. -/
theorem step_off (Q : Vec F S256x1024 .bf16) (K : Vec F S16384x256 .bf16) (V : Vec F S128x16384 .bf16) (e : Fin 2) (j j' : ℕ) (hj : j < 31) (hj' : j' = j + 1)
    (oK : Fin 2 → ℕ) (hK : ∀ a, oK a + S512x128.size a ≤ S16384x256.size a) (oQ : Fin 2 → ℕ) (hQ : ∀ a, oQ a + S128x1024.size a ≤ S256x1024.size a)
    (oV : Fin 2 → ℕ) (hV : ∀ a, oV a + S64x512.size a ≤ S128x16384.size a)
    (eK : oK = ![512 * (j + 1), 128 * e.val]) (eQ : oQ = ![128 * e.val, 0]) (eV : oV = ![64 * e.val, 512 * j]) :
    headStep (win K oK S512x128.size hK) (win Q oQ S128x1024.size hQ) (win V oV S64x512.size hV) (hSeq Q K V e j) = hSeq Q K V e j' := by
  subst hj'
  have m1 : min (j + 1) 31 = j + 1 := by omega
  have m2 : min j 31 = j := by omega
  unfold hSeq
  rw [headSeq]
  unfold kC qC vC
  congr 1
  · exact win_off K _ (by rw [eK, m1]) _ _
  · exact win_off Q _ eQ _ _
  · exact win_off V _ (by rw [eV, m2]) _ _

/-- A head before chunk 0. -/
theorem hSeq_zero (Q : Vec F S256x1024 .bf16) (K : Vec F S16384x256 .bf16) (V : Vec F S128x16384 .bf16) (e : Fin 2) :
    hSeq Q K V e 0 = { m := k0_pay110 (F := F), mx := k0_pay4 (kC K e 0) (qC Q e), a := k0_pay108 (F := F), s := k0_pay3 (kC K e 0) (qC Q e) } := rfl

/-- The two heads before chunk 0, by the offsets printed. -/
theorem hSeq_zero0 (Q : Vec F S256x1024 .bf16) (K : Vec F S16384x256 .bf16) (V : Vec F S128x16384 .bf16) :
    hSeq Q K V 0 0 = { m := k0_pay110 (F := F), mx := k0_pay4 (win K ![0, 0] S512x128.size inb_S16384x256_S512x128_0_0) (win Q ![0, 0] S128x1024.size inb_S256x1024_S128x1024_0_0), a := k0_pay108 (F := F), s := k0_pay3 (win K ![0, 0] S512x128.size inb_S16384x256_S512x128_0_0) (win Q ![0, 0] S128x1024.size inb_S256x1024_S128x1024_0_0) } := by
  rw [hSeq_zero]
  have e1 : kC K 0 0 = win K ![0, 0] S512x128.size inb_S16384x256_S512x128_0_0 := win_off K _ rfl _ _
  have e2 : qC Q 0 = win Q ![0, 0] S128x1024.size inb_S256x1024_S128x1024_0_0 := win_off Q _ rfl _ _
  rw [e1, e2]
/-- The second head before any chunk. -/
theorem hSeq_zero1 (Q : Vec F S256x1024 .bf16) (K : Vec F S16384x256 .bf16) (V : Vec F S128x16384 .bf16) :
    hSeq Q K V 1 0 = { m := k0_pay110 (F := F), mx := k0_pay4 (win K ![0, 128] S512x128.size inb_S16384x256_S512x128_0_128) (win Q ![128, 0] S128x1024.size inb_S256x1024_S128x1024_128_0), a := k0_pay108 (F := F), s := k0_pay3 (win K ![0, 128] S512x128.size inb_S16384x256_S512x128_0_128) (win Q ![128, 0] S128x1024.size inb_S256x1024_S128x1024_128_0) } := by
  rw [hSeq_zero]
  have e1 : kC K 1 0 = win K ![0, 128] S512x128.size inb_S16384x256_S512x128_0_128 := win_off K _ rfl _ _
  have e2 : qC Q 1 = win Q ![128, 0] S128x1024.size inb_S256x1024_S128x1024_128_0 := win_off Q _ rfl _ _
  rw [e1, e2]

/-- The two accumulators at the end, by the offsets printed. -/
theorem accEnd0 (Q : Vec F S256x1024 .bf16) (K : Vec F S16384x256 .bf16) (V : Vec F S128x16384 .bf16) (C : Vec F S256x256 .bf16) (D : Vec F S128x256 .bf16) :
    accEnd Q K V C D 0 = updCtx (k0_pay203 (win C ![0, 0] S256x128.size inb_S256x256_S256x128_0_0) (win Q ![0, 0] S128x1024.size inb_S256x1024_S128x1024_0_0))
      (k0_pay5 (hSeq Q K V 0 31).m (hSeq Q K V 0 31).mx) (win D ![0, 0] S64x256.size inb_S128x256_S64x256_0_0)
      (k0_pay7 (k0_pay6 (hSeq Q K V 0 31).m (hSeq Q K V 0 31).mx (hSeq Q K V 0 31).s (win V ![0, 15872] S64x512.size inb_S128x16384_S64x512_0_15872) (hSeq Q K V 0 31).a)) := by
  have e1 : ckC C 0 = win C ![0, 0] S256x128.size inb_S256x256_S256x128_0_0 := win_off C _ rfl _ _
  have e2 : qC Q 0 = win Q ![0, 0] S128x1024.size inb_S256x1024_S128x1024_0_0 := win_off Q _ rfl _ _
  have e3 : cvC D 0 = win D ![0, 0] S64x256.size inb_S128x256_S64x256_0_0 := win_off D _ rfl _ _
  have e4 : vC V 0 31 = win V ![0, 15872] S64x512.size inb_S128x16384_S64x512_0_15872 := win_off V _ rfl _ _
  unfold accEnd headEnd
  rw [e1, e2, e3, e4]
/-- The second head after the last chunk. -/
theorem accEnd1 (Q : Vec F S256x1024 .bf16) (K : Vec F S16384x256 .bf16) (V : Vec F S128x16384 .bf16) (C : Vec F S256x256 .bf16) (D : Vec F S128x256 .bf16) :
    accEnd Q K V C D 1 = updCtx (k0_pay203 (win C ![0, 128] S256x128.size inb_S256x256_S256x128_0_128) (win Q ![128, 0] S128x1024.size inb_S256x1024_S128x1024_128_0))
      (k0_pay5 (hSeq Q K V 1 31).m (hSeq Q K V 1 31).mx) (win D ![64, 0] S64x256.size inb_S128x256_S64x256_64_0)
      (k0_pay7 (k0_pay6 (hSeq Q K V 1 31).m (hSeq Q K V 1 31).mx (hSeq Q K V 1 31).s (win V ![64, 15872] S64x512.size inb_S128x16384_S64x512_64_15872) (hSeq Q K V 1 31).a)) := by
  have e1 : ckC C 1 = win C ![0, 128] S256x128.size inb_S256x256_S256x128_0_128 := win_off C _ rfl _ _
  have e2 : qC Q 1 = win Q ![128, 0] S128x1024.size inb_S256x1024_S128x1024_128_0 := win_off Q _ rfl _ _
  have e3 : cvC D 1 = win D ![64, 0] S64x256.size inb_S128x256_S64x256_64_0 := win_off D _ rfl _ _
  have e4 : vC V 1 31 = win V ![64, 15872] S64x512.size inb_S128x16384_S64x512_64_15872 := win_off V _ rfl _ _
  unfold accEnd headEnd
  rw [e1, e2, e3, e4]

attribute [local irreducible] hSeq

/-- The loop's offsets, trip by trip. -/
theorem off_eqs : ∀ (t : Fin k0_t1_loop.trips) (r : Fin 8),
    k0_off1 t (BitVec.ofNat 32 r.val) = ![512 * (8 * t.val + r.val + 1), 128 * (0 : Fin 2).val]
    ∧ k0_off2 t (BitVec.ofNat 32 r.val) = ![64 * (0 : Fin 2).val, 512 * (8 * t.val + r.val)]
    ∧ k0_off3 t (BitVec.ofNat 32 r.val) = ![512 * (8 * t.val + r.val + 1), 128 * (1 : Fin 2).val]
    ∧ k0_off4 t (BitVec.ofNat 32 r.val) = ![64 * (1 : Fin 2).val, 512 * (8 * t.val + r.val)] := by decide +kernel

/-- Each of the four, at a word and a number that are `r`'s. -/
theorem off1_eq (t : Fin k0_t1_loop.trips) (r : Fin 8) (w : BitVec 32) (n : ℕ) (hw : w = BitVec.ofNat 32 r.val) (hn : n = r.val) :
    k0_off1 t w = ![512 * (8 * t.val + n + 1), 128 * (0 : Fin 2).val] := by subst hw hn; exact (off_eqs t r).1
/-- The columns of the first head's values a step of the loop reads. -/
theorem off2_eq (t : Fin k0_t1_loop.trips) (r : Fin 8) (w : BitVec 32) (n : ℕ) (hw : w = BitVec.ofNat 32 r.val) (hn : n = r.val) :
    k0_off2 t w = ![64 * (0 : Fin 2).val, 512 * (8 * t.val + n)] := by subst hw hn; exact (off_eqs t r).2.1
/-- The rows of the second head's keys it reads. -/
theorem off3_eq (t : Fin k0_t1_loop.trips) (r : Fin 8) (w : BitVec 32) (n : ℕ) (hw : w = BitVec.ofNat 32 r.val) (hn : n = r.val) :
    k0_off3 t w = ![512 * (8 * t.val + n + 1), 128 * (1 : Fin 2).val] := by subst hw hn; exact (off_eqs t r).2.2.1
/-- The columns of the second head's values it reads. -/
theorem off4_eq (t : Fin k0_t1_loop.trips) (r : Fin 8) (w : BitVec 32) (n : ℕ) (hw : w = BitVec.ofNat 32 r.val) (hn : n = r.val) :
    k0_off4 t w = ![64 * (1 : Fin 2).val, 512 * (8 * t.val + n)] := by subst hw hn; exact (off_eqs t r).2.2.2

attribute [local irreducible] k0_off1 k0_off2 k0_off3 k0_off4

/-- The loop has three trips. -/
theorem trips_eq : k0_t1_loop.trips = 3 := by decide

/-- A trip: eight chunks. -/
theorem trip_spec (c : Dev nD) (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (Q : Vec F S256x1024 .bf16) (K : Vec F S16384x256 .bf16) (V : Vec F S128x16384 .bf16) (t : Fin k0_t1_loop.trips) :
    Held c arg2 arg3 arg4 arg8 arg9 arg10 arg11 arg12 arg13 Q K V (hSeq Q K V 0 (8 * t.val + 0)) (hSeq Q K V 1 (8 * t.val + 0))
      ⊢ Run c (tripP i arg2 harg2 arg3 harg3 arg4 harg4 arg5 harg5 arg6 harg6 arg7 harg7 arg8 harg8 arg9 harg9 arg10 harg10 arg11 harg11 arg12 harg12 arg13 harg13 t (carry (hSeq Q K V 0 (8 * t.val + 0)) (hSeq Q K V 1 (8 * t.val + 0))))
          fun y => iprop(⌜y = carry (hSeq Q K V 0 (8 * t.val + 8)) (hSeq Q K V 1 (8 * t.val + 8))⌝ ∗ Held c arg2 arg3 arg4 arg8 arg9 arg10 arg11 arg12 arg13 Q K V (hSeq Q K V 0 (8 * t.val + 8)) (hSeq Q K V 1 (8 * t.val + 8))) := by
  have ht : t.val < 3 := t.isLt.trans_eq trips_eq
  unfold tripP
  have s0 := step_off Q K V 0 (8 * t.val + 0) (8 * t.val + 1) (by omega) (by omega) (k0_off1 t 0#32) (k0_off1_inb t 0) ![0, 0] inb_S256x1024_S128x1024_0_0 (k0_off2 t 0#32) (k0_off2_inb t 0) (off1_eq t 0 0#32 0 rfl rfl) rfl (off2_eq t 0 0#32 0 rfl rfl)
  have r0 := step_off Q K V 1 (8 * t.val + 0) (8 * t.val + 1) (by omega) (by omega) (k0_off3 t 0#32) (k0_off3_inb t 0) ![128, 0] inb_S256x1024_S128x1024_128_0 (k0_off4 t 0#32) (k0_off4_inb t 0) (off3_eq t 0 0#32 0 rfl rfl) rfl (off4_eq t 0 0#32 0 rfl rfl)
  refine seq c _ _ _ (chunk_spec c arg2 arg3 arg4 arg8 arg9 _ _ _ _ _ _ _ _ _ _ _ _ Q K V _ _ _ _ s0 r0) ?_
  have s1 := step_off Q K V 0 (8 * t.val + 1) (8 * t.val + 2) (by omega) (by omega) (k0_off1 t 1#32) (k0_off1_inb t 1) ![0, 0] inb_S256x1024_S128x1024_0_0 (k0_off2 t 1#32) (k0_off2_inb t 1) (off1_eq t 1 1#32 1 rfl rfl) rfl (off2_eq t 1 1#32 1 rfl rfl)
  have r1 := step_off Q K V 1 (8 * t.val + 1) (8 * t.val + 2) (by omega) (by omega) (k0_off3 t 1#32) (k0_off3_inb t 1) ![128, 0] inb_S256x1024_S128x1024_128_0 (k0_off4 t 1#32) (k0_off4_inb t 1) (off3_eq t 1 1#32 1 rfl rfl) rfl (off4_eq t 1 1#32 1 rfl rfl)
  refine seq c _ _ _ (chunk_spec c arg2 arg3 arg4 arg8 arg9 _ _ _ _ _ _ _ _ _ _ _ _ Q K V _ _ _ _ s1 r1) ?_
  have s2 := step_off Q K V 0 (8 * t.val + 2) (8 * t.val + 3) (by omega) (by omega) (k0_off1 t 2#32) (k0_off1_inb t 2) ![0, 0] inb_S256x1024_S128x1024_0_0 (k0_off2 t 2#32) (k0_off2_inb t 2) (off1_eq t 2 2#32 2 rfl rfl) rfl (off2_eq t 2 2#32 2 rfl rfl)
  have r2 := step_off Q K V 1 (8 * t.val + 2) (8 * t.val + 3) (by omega) (by omega) (k0_off3 t 2#32) (k0_off3_inb t 2) ![128, 0] inb_S256x1024_S128x1024_128_0 (k0_off4 t 2#32) (k0_off4_inb t 2) (off3_eq t 2 2#32 2 rfl rfl) rfl (off4_eq t 2 2#32 2 rfl rfl)
  refine seq c _ _ _ (chunk_spec c arg2 arg3 arg4 arg8 arg9 _ _ _ _ _ _ _ _ _ _ _ _ Q K V _ _ _ _ s2 r2) ?_
  have s3 := step_off Q K V 0 (8 * t.val + 3) (8 * t.val + 4) (by omega) (by omega) (k0_off1 t 3#32) (k0_off1_inb t 3) ![0, 0] inb_S256x1024_S128x1024_0_0 (k0_off2 t 3#32) (k0_off2_inb t 3) (off1_eq t 3 3#32 3 rfl rfl) rfl (off2_eq t 3 3#32 3 rfl rfl)
  have r3 := step_off Q K V 1 (8 * t.val + 3) (8 * t.val + 4) (by omega) (by omega) (k0_off3 t 3#32) (k0_off3_inb t 3) ![128, 0] inb_S256x1024_S128x1024_128_0 (k0_off4 t 3#32) (k0_off4_inb t 3) (off3_eq t 3 3#32 3 rfl rfl) rfl (off4_eq t 3 3#32 3 rfl rfl)
  refine seq c _ _ _ (chunk_spec c arg2 arg3 arg4 arg8 arg9 _ _ _ _ _ _ _ _ _ _ _ _ Q K V _ _ _ _ s3 r3) ?_
  have s4 := step_off Q K V 0 (8 * t.val + 4) (8 * t.val + 5) (by omega) (by omega) (k0_off1 t 4#32) (k0_off1_inb t 4) ![0, 0] inb_S256x1024_S128x1024_0_0 (k0_off2 t 4#32) (k0_off2_inb t 4) (off1_eq t 4 4#32 4 rfl rfl) rfl (off2_eq t 4 4#32 4 rfl rfl)
  have r4 := step_off Q K V 1 (8 * t.val + 4) (8 * t.val + 5) (by omega) (by omega) (k0_off3 t 4#32) (k0_off3_inb t 4) ![128, 0] inb_S256x1024_S128x1024_128_0 (k0_off4 t 4#32) (k0_off4_inb t 4) (off3_eq t 4 4#32 4 rfl rfl) rfl (off4_eq t 4 4#32 4 rfl rfl)
  refine seq c _ _ _ (chunk_spec c arg2 arg3 arg4 arg8 arg9 _ _ _ _ _ _ _ _ _ _ _ _ Q K V _ _ _ _ s4 r4) ?_
  have s5 := step_off Q K V 0 (8 * t.val + 5) (8 * t.val + 6) (by omega) (by omega) (k0_off1 t 5#32) (k0_off1_inb t 5) ![0, 0] inb_S256x1024_S128x1024_0_0 (k0_off2 t 5#32) (k0_off2_inb t 5) (off1_eq t 5 5#32 5 rfl rfl) rfl (off2_eq t 5 5#32 5 rfl rfl)
  have r5 := step_off Q K V 1 (8 * t.val + 5) (8 * t.val + 6) (by omega) (by omega) (k0_off3 t 5#32) (k0_off3_inb t 5) ![128, 0] inb_S256x1024_S128x1024_128_0 (k0_off4 t 5#32) (k0_off4_inb t 5) (off3_eq t 5 5#32 5 rfl rfl) rfl (off4_eq t 5 5#32 5 rfl rfl)
  refine seq c _ _ _ (chunk_spec c arg2 arg3 arg4 arg8 arg9 _ _ _ _ _ _ _ _ _ _ _ _ Q K V _ _ _ _ s5 r5) ?_
  have s6 := step_off Q K V 0 (8 * t.val + 6) (8 * t.val + 7) (by omega) (by omega) (k0_off1 t 6#32) (k0_off1_inb t 6) ![0, 0] inb_S256x1024_S128x1024_0_0 (k0_off2 t 6#32) (k0_off2_inb t 6) (off1_eq t 6 6#32 6 rfl rfl) rfl (off2_eq t 6 6#32 6 rfl rfl)
  have r6 := step_off Q K V 1 (8 * t.val + 6) (8 * t.val + 7) (by omega) (by omega) (k0_off3 t 6#32) (k0_off3_inb t 6) ![128, 0] inb_S256x1024_S128x1024_128_0 (k0_off4 t 6#32) (k0_off4_inb t 6) (off3_eq t 6 6#32 6 rfl rfl) rfl (off4_eq t 6 6#32 6 rfl rfl)
  refine seq c _ _ _ (chunk_spec c arg2 arg3 arg4 arg8 arg9 _ _ _ _ _ _ _ _ _ _ _ _ Q K V _ _ _ _ s6 r6) ?_
  have s7 := step_off Q K V 0 (8 * t.val + 7) (8 * t.val + 8) (by omega) (by omega) (k0_off1 t 7#32) (k0_off1_inb t 7) ![0, 0] inb_S256x1024_S128x1024_0_0 (k0_off2 t 7#32) (k0_off2_inb t 7) (off1_eq t 7 7#32 7 rfl rfl) rfl (off2_eq t 7 7#32 7 rfl rfl)
  have r7 := step_off Q K V 1 (8 * t.val + 7) (8 * t.val + 8) (by omega) (by omega) (k0_off3 t 7#32) (k0_off3_inb t 7) ![128, 0] inb_S256x1024_S128x1024_128_0 (k0_off4 t 7#32) (k0_off4_inb t 7) (off3_eq t 7 7#32 7 rfl rfl) rfl (off4_eq t 7 7#32 7 rfl rfl)
  exact chunk_spec c arg2 arg3 arg4 arg8 arg9 _ _ _ _ _ _ _ _ _ _ _ _ Q K V _ _ _ _ s7 r7

/-- The loop: three trips. -/
theorem loop_spec (c : Dev nD) (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (Q : Vec F S256x1024 .bf16) (K : Vec F S16384x256 .bf16) (V : Vec F S128x16384 .bf16) (n0 n1 : Row F) (x : Carry F) (hx : x = carry (hSeq Q K V 0 0) (hSeq Q K V 1 0)) :
    Held c arg2 arg3 arg4 arg8 arg9 arg10 arg11 arg12 arg13 Q K V (hSeq Q K V 0 0) (hSeq Q K V 1 0)
      ⊢ Run c (Scf.Loop.for k0_t1_loop k0_t1_ok x (k0_t1_body (F := F) i arg2 harg2 arg3 harg3 arg4 harg4 arg5 harg5 arg6 harg6 arg7 harg7 arg8 harg8 arg9 harg9 arg10 harg10 arg11 harg11 arg12 harg12 arg13 harg13 (k0_pay110 (F := F)) (k0_pay111 (F := F)) n0 n1 0#32 1#32))
          fun y => iprop(⌜y = carry (hSeq Q K V 0 24) (hSeq Q K V 1 24)⌝ ∗ Held c arg2 arg3 arg4 arg8 arg9 arg10 arg11 arg12 arg13 Q K V (hSeq Q K V 0 24) (hSeq Q K V 1 24)) := by
  subst hx
  unfold Run
  iintro H
  iapply (Scf.wp_for _ _ _ k0_t1_loop.lb k0_t1_loop.ub k0_t1_loop.st k0_t1_ok _ _
    (fun k acc => iprop(⌜acc = carry (hSeq Q K V 0 (8 * k)) (hSeq Q K V 1 (8 * k))⌝ ∗ Held c arg2 arg3 arg4 arg8 arg9 arg10 arg11 arg12 arg13 Q K V (hSeq Q K V 0 (8 * k)) (hSeq Q K V 1 (8 * k)))) ?_)
  rotate_left
  · isplitl [H]
    · isplitr; · ipureintro; rfl
      iexact H
    · iintro %acc H
      rw [show Scf.trips k0_t1_loop.lb k0_t1_loop.ub k0_t1_loop.st = 3 from trips_eq]
      iexact H
  · intro t acc
    iintro ⟨%ha, H⟩
    subst ha
    rw [body_eq]
    iapply (trip_spec c i arg2 harg2 arg3 harg3 arg4 harg4 arg5 harg5 arg6 harg6 arg7 harg7 arg8 harg8 arg9 harg9 arg10 harg10 arg11 harg11 arg12 harg12 arg13 harg13 Q K V t)
    iexact H

/-- What precedes the loop. -/
theorem init_spec (c : Dev nD) (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (Q : Vec F S256x1024 .bf16) (K : Vec F S16384x256 .bf16) (V : Vec F S128x16384 .bf16) :
    iprop(Own c arg2 Q ∗ Own c arg3 K ∗ Own c arg4 V ∗ Any c arg8 ∗ Any c arg9 ∗ Any c arg10 ∗ Any c arg12 ∗ Any c arg11 ∗ Any c arg13)
      ⊢ Run c (initP i arg2 harg2 arg3 harg3 arg4 harg4 arg5 harg5 arg6 harg6 arg7 harg7 arg8 harg8 arg9 harg9 arg10 harg10 arg11 harg11 arg12 harg12 arg13 harg13)
          fun y => iprop(⌜y = ((hSeq Q K V 0 0).mx, (hSeq Q K V 1 0).mx)⌝ ∗ Held c arg2 arg3 arg4 arg8 arg9 arg10 arg11 arg12 arg13 Q K V (hSeq Q K V 0 0) (hSeq Q K V 1 0)) := by
  have hp : initP (F := F) i arg2 harg2 arg3 harg3 arg4 harg4 arg5 harg5 arg6 harg6 arg7 harg7 arg8 harg8 arg9 harg9 arg10 harg10 arg11 harg11 arg12 harg12 arg13 harg13 = (clrP arg8 (k0_pay108 (F := F)) >>= fun _ => clrP arg9 (k0_pay109 (F := F)) >>= fun _ =>
      issueP arg2 arg3 arg10 ![0, 0] inb_S16384x256_S512x128_0_0 ![0, 0] inb_S256x1024_S128x1024_0_0 >>= fun n0 =>
      issueP arg2 arg3 arg12 ![0, 128] inb_S16384x256_S512x128_0_128 ![128, 0] inb_S256x1024_S128x1024_128_0 >>= fun n1 => pure (n0, n1)) := by
    simp only [initP, clrP, issueP, bind_assoc, pure_bind]
  rw [hp, hSeq_zero0, hSeq_zero1, pay109_eq]
  unfold Run
  iintro ⟨H2, H3, H4, H8, H9, HR0, HR1, HW0, HW1⟩
  rw [wp_bind]
  iapply (clr_spec c arg8 _ _)
  isplitl [H8]; · iexact H8
  iintro H8
  rw [wp_bind]
  iapply (clr_spec c arg9 _ _)
  isplitl [H9]; · iexact H9
  iintro H9
  rw [wp_bind]
  iapply (issue_spec c arg2 arg3 arg10 _ _ _ _ Q K _)
  isplitl [H2]; · iexact H2
  isplitl [H3]; · iexact H3
  isplitl [HR0]; · iexact HR0
  iintro ⟨H2, H3, HR0⟩
  rw [wp_bind]
  iapply (issue_spec c arg2 arg3 arg12 _ _ _ _ Q K _)
  isplitl [H2]; · iexact H2
  isplitl [H3]; · iexact H3
  isplitl [HR1]; · iexact HR1
  iintro ⟨H2, H3, HR1⟩
  rw [Prog.pure_eq_ret]
  iapply (le_wp_ret _ _ _ _ _)
  isplitr; · ipureintro; rfl
  isplitl [H2]; · iexact H2
  isplitl [H3]; · iexact H3
  isplitl [H4]; · iexact H4
  isplitl [H8]; · iexact H8
  isplitl [H9]; · iexact H9
  isplitl [HR0]; · iexact HR0
  isplitl [HR1]; · iexact HR1
  isplitl [HW0]; · iexact HW0
  iexact HW1

/-- What follows the loop. -/
theorem tail_spec (c : Dev nD) (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (Q : Vec F S256x1024 .bf16) (K : Vec F S16384x256 .bf16) (V : Vec F S128x16384 .bf16) (C : Vec F S256x256 .bf16) (D : Vec F S128x256 .bf16) :
    iprop((Own c arg5 C ∗ Own c arg6 D ∗ Any c arg7) ∗ Held c arg2 arg3 arg4 arg8 arg9 arg10 arg11 arg12 arg13 Q K V (hSeq Q K V 0 24) (hSeq Q K V 1 24))
      ⊢ Run c (tailP i arg2 harg2 arg3 harg3 arg4 harg4 arg5 harg5 arg6 harg6 arg7 harg7 arg8 harg8 arg9 harg9 arg10 harg10 arg11 harg11 arg12 harg12 arg13 harg13 (carry (hSeq Q K V 0 24) (hSeq Q K V 1 24)))
          fun _ => iprop((Own c arg2 Q ∗ Own c arg3 K ∗ Own c arg4 V ∗ Own c arg5 C ∗ Own c arg6 D ∗ Own c arg7 (outBlk Q K V C D))
            ∗ Any c arg8 ∗ Any c arg9 ∗ Any c arg10 ∗ Any c arg11 ∗ Any c arg12 ∗ Any c arg13) := by
  unfold tailP
  refine seq c _ _ _ (frameL c (chunk_spec c arg2 arg3 arg4 arg8 arg9 _ _ _ _ _ _ _ _ _ _ _ _ Q K V (hSeq Q K V 0 24) (hSeq Q K V 1 24) (hSeq Q K V 0 25) (hSeq Q K V 1 25)
    (step_off Q K V 0 24 25 (by omega) rfl _ _ _ _ _ _ rfl rfl rfl)
    (step_off Q K V 1 24 25 (by omega) rfl _ _ _ _ _ _ rfl rfl rfl))) ?_
  refine seq c _ _ _ (frameL c (chunk_spec c arg2 arg3 arg4 arg8 arg9 _ _ _ _ _ _ _ _ _ _ _ _ Q K V (hSeq Q K V 0 25) (hSeq Q K V 1 25) (hSeq Q K V 0 26) (hSeq Q K V 1 26)
    (step_off Q K V 0 25 26 (by omega) rfl _ _ _ _ _ _ rfl rfl rfl)
    (step_off Q K V 1 25 26 (by omega) rfl _ _ _ _ _ _ rfl rfl rfl))) ?_
  refine seq c _ _ _ (frameL c (chunk_spec c arg2 arg3 arg4 arg8 arg9 _ _ _ _ _ _ _ _ _ _ _ _ Q K V (hSeq Q K V 0 26) (hSeq Q K V 1 26) (hSeq Q K V 0 27) (hSeq Q K V 1 27)
    (step_off Q K V 0 26 27 (by omega) rfl _ _ _ _ _ _ rfl rfl rfl)
    (step_off Q K V 1 26 27 (by omega) rfl _ _ _ _ _ _ rfl rfl rfl))) ?_
  refine seq c _ _ _ (frameL c (chunk_spec c arg2 arg3 arg4 arg8 arg9 _ _ _ _ _ _ _ _ _ _ _ _ Q K V (hSeq Q K V 0 27) (hSeq Q K V 1 27) (hSeq Q K V 0 28) (hSeq Q K V 1 28)
    (step_off Q K V 0 27 28 (by omega) rfl _ _ _ _ _ _ rfl rfl rfl)
    (step_off Q K V 1 27 28 (by omega) rfl _ _ _ _ _ _ rfl rfl rfl))) ?_
  refine seq c _ _ _ (frameL c (chunk_spec c arg2 arg3 arg4 arg8 arg9 _ _ _ _ _ _ _ _ _ _ _ _ Q K V (hSeq Q K V 0 28) (hSeq Q K V 1 28) (hSeq Q K V 0 29) (hSeq Q K V 1 29)
    (step_off Q K V 0 28 29 (by omega) rfl _ _ _ _ _ _ rfl rfl rfl)
    (step_off Q K V 1 28 29 (by omega) rfl _ _ _ _ _ _ rfl rfl rfl))) ?_
  refine seq c _ _ _ (frameL c (chunk_spec c arg2 arg3 arg4 arg8 arg9 _ _ _ _ _ _ _ _ _ _ _ _ Q K V (hSeq Q K V 0 29) (hSeq Q K V 1 29) (hSeq Q K V 0 30) (hSeq Q K V 1 30)
    (step_off Q K V 0 29 30 (by omega) rfl _ _ _ _ _ _ rfl rfl rfl)
    (step_off Q K V 1 29 30 (by omega) rfl _ _ _ _ _ _ rfl rfl rfl))) ?_
  refine seq c _ _ _ (frameL c (chunk_spec c arg2 arg3 arg4 arg8 arg9 _ _ _ _ _ _ _ _ _ _ _ _ Q K V (hSeq Q K V 0 30) (hSeq Q K V 1 30) (hSeq Q K V 0 31) (hSeq Q K V 1 31)
    (step_off Q K V 0 30 31 (by omega) rfl _ _ _ _ _ _ rfl rfl rfl)
    (step_off Q K V 1 30 31 (by omega) rfl _ _ _ _ _ _ rfl rfl rfl))) ?_
  unfold Held Run outBlk
  rw [accEnd0, accEnd1]
  iintro ⟨⟨H5, H6, H7⟩, H2, H3, H4, H8, H9, HR0, HR1, HW0, HW1⟩
  rw [wp_bind]
  iapply (ctx_spec c arg2 arg5 _ _ _ _ Q C _)
  isplitl [H2]; · iexact H2
  isplitl [H5]; · iexact H5
  iintro ⟨H2, H5⟩
  rw [wp_bind]
  iapply (upd_spec c arg4 arg11 arg8 _ _ _ _ V _ _ _)
  isplitl [H4]; · iexact H4
  isplitl [HR0]; · iexact HR0
  isplitl [H8]; · iexact H8
  iintro ⟨H4, HR0, H8⟩
  rw [wp_bind]
  iapply (ctx_spec c arg2 arg5 _ _ _ _ Q C _)
  isplitl [H2]; · iexact H2
  isplitl [H5]; · iexact H5
  iintro ⟨H2, H5⟩
  rw [wp_bind]
  iapply (upd_spec c arg4 arg13 arg9 _ _ _ _ V _ _ _)
  isplitl [H4]; · iexact H4
  isplitl [HR1]; · iexact HR1
  isplitl [H9]; · iexact H9
  iintro ⟨H4, HR1, H9⟩
  rw [wp_bind]
  iapply (updCtx_spec c arg6 arg8 _ _ _ _ D _ _)
  isplitl [H6]; · iexact H6
  isplitl [H8]; · iexact H8
  iintro ⟨H6, H8⟩
  rw [wp_bind]
  iapply (updCtx_spec c arg6 arg9 _ _ _ _ D _ _)
  isplitl [H6]; · iexact H6
  isplitl [H9]; · iexact H9
  iintro ⟨H6, H9⟩
  iapply (fin_spec c i arg2 harg2 arg3 harg3 arg4 harg4 arg5 harg5 arg6 harg6 arg7 harg7 arg8 harg8 arg9 harg9 arg10 harg10 arg11 harg11 arg12 harg12 arg13 harg13 _ _ _)
  isplitl [H8]; · iexact H8
  isplitl [H9]; · iexact H9
  isplitl [H7]; · iexact H7
  iintro ⟨H8, H9, H7⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [HW0]; · iexact HW0
  isplitl [HR0]; · iexists _; iexact HR0
  isplitl [HW1]; · iexact HW1
  iexists _; iexact HR1

/-- The body: from the inputs' blocks and any contents elsewhere, the output's buffer ends at `outBlk`. -/
theorem body_spec (c : Dev nD) (i : grid0.Coords) (arg2 : Memref sig .tc .vmem S256x1024 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (Q : Vec F S256x1024 .bf16) (K : Vec F S16384x256 .bf16) (V : Vec F S128x16384 .bf16) (C : Vec F S256x256 .bf16) (D : Vec F S128x256 .bf16) :
    iprop((Own c arg2 Q ∗ Own c arg3 K ∗ Own c arg4 V ∗ Own c arg5 C ∗ Own c arg6 D ∗ Any c arg7)
            ∗ Any c arg8 ∗ Any c arg9 ∗ Any c arg10 ∗ Any c arg11 ∗ Any c arg12 ∗ Any c arg13)
      ⊢ Run c (cc0_mla_flash (F := F) i arg2 harg2 arg3 harg3 arg4 harg4 arg5 harg5 arg6 harg6 arg7 harg7 arg8 harg8 arg9 harg9 arg10 harg10 arg11 harg11 arg12 harg12 arg13 harg13)
          fun _ => iprop((Own c arg2 Q ∗ Own c arg3 K ∗ Own c arg4 V ∗ Own c arg5 C ∗ Own c arg6 D ∗ Own c arg7 (outBlk Q K V C D))
            ∗ Any c arg8 ∗ Any c arg9 ∗ Any c arg10 ∗ Any c arg11 ∗ Any c arg12 ∗ Any c arg13) := by
  rw [cc0_eq]
  iintro ⟨⟨H2, H3, H4, H5, H6, H7⟩, H8, H9, H10, H11, H12, H13⟩
  iapply (seq c _ _ _ (frameL c (init_spec c i arg2 harg2 arg3 harg3 arg4 harg4 arg5 harg5 arg6 harg6 arg7 harg7 arg8 harg8 arg9 harg9 arg10 harg10 arg11 harg11 arg12 harg12 arg13 harg13 Q K V)) ?_)
  rotate_left
  · isplitl [H5 H6 H7]
    · ihave H := (Entails.rfl : iprop(Own c arg5 C ∗ Own c arg6 D ∗ Any c arg7) ⊢ _) $$ [H5 H6 H7]
      · isplitl [H5]; · iexact H5
        isplitl [H6]; · iexact H6
        iexact H7
      iexact H
    isplitl [H2]; · iexact H2
    isplitl [H3]; · iexact H3
    isplitl [H4]; · iexact H4
    isplitl [H8]; · iexact H8
    isplitl [H9]; · iexact H9
    isplitl [H10]; · iexact H10
    isplitl [H12]; · iexact H12
    isplitl [H11]; · iexact H11
    iexact H13
  refine seq c _ _ (carry (hSeq Q K V 0 24) (hSeq Q K V 1 24)) (frameL c (loop_spec c i arg2 harg2 arg3 harg3 arg4 harg4 arg5 harg5 arg6 harg6 arg7 harg7 arg8 harg8 arg9 harg9 arg10 harg10 arg11 harg11 arg12 harg12 arg13 harg13 Q K V _ _ _ (by rw [hSeq_zero0, hSeq_zero1, pay111_eq]))) ?_
  exact tail_spec c i arg2 harg2 arg3 harg3 arg4 harg4 arg5 harg5 arg6 harg6 arg7 harg7 arg8 harg8 arg9 harg9 arg10 harg10 arg11 harg11 arg12 harg12 arg13 harg13 Q K V C D

end Cert.KernelIdeal.Steps

end
-- ==== Proof.KernelIdeal.Run.lean ====
/- The pipeline's proof data for the body's run, the body obligation, and the frame. -/
module

public import proofs.«01_k».proof.Proof.Gen.KernelIdeal.Frame
public import proofs.«01_k».proof.Proof.KernelIdeal.Body

@[expose] public section

set_option synthInstance.maxSize 4096
set_option maxRecDepth 100000

noncomputable section

namespace Cert.KernelIdeal.Steps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`, from the point's five input blocks. -/
def outsAt (c : Dev nD) (t : Fin cfg0.N) : Vec F S1024x128 .bf16 :=
  outBlk (iblk m c 0 t) (iblk m c 1 t) (iblk m c 2 t) (iblk m c 3 t) (iblk m c 4 t)

/-- The arrays as the region finds them; after the body each input's buffer at its block and the result's at `outsAt`;
    the invariant holds the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := rfl
/-- Input window 0 keeps its block. -/
theorem after0_0 (c : Dev nD) (t : Fin cfg0.N) : (dats m 0 c).after 0 t = iblk m c 0 t := by dsimp only [dats]
/-- Input window 1 keeps its block. -/
theorem after0_1 (c : Dev nD) (t : Fin cfg0.N) : (dats m 0 c).after 1 t = iblk m c 1 t := by dsimp only [dats]
/-- Input window 2 keeps its block. -/
theorem after0_2 (c : Dev nD) (t : Fin cfg0.N) : (dats m 0 c).after 2 t = iblk m c 2 t := by dsimp only [dats]
/-- Input window 3 keeps its block. -/
theorem after0_3 (c : Dev nD) (t : Fin cfg0.N) : (dats m 0 c).after 3 t = iblk m c 3 t := by dsimp only [dats]
/-- Input window 4 keeps its block. -/
theorem after0_4 (c : Dev nD) (t : Fin cfg0.N) : (dats m 0 c).after 4 t = iblk m c 4 t := by dsimp only [dats]
/-- The result's window is left at the output block. -/
theorem after0_5 (c : Dev nD) (t : Fin cfg0.N) : (dats m 0 c).after 5 t = outsAt m c t := by dsimp only [dats]
/-- Input window 0 holds its block when the body runs. -/
theorem before0_0 (c : Dev nD) (t : Fin cfg0.N) (d) : (dats m 0 c).before 0 t d = iblk m c 0 t :=
  before0_0_of m (dats m 0 c) (A_eq m c 0) (after0_0 m c) t d
/-- Input window 1 holds its block when the body runs. -/
theorem before0_1 (c : Dev nD) (t : Fin cfg0.N) (d) : (dats m 0 c).before 1 t d = iblk m c 1 t :=
  before0_1_of m (dats m 0 c) (A_eq m c 1) (after0_1 m c) t d
/-- Input window 2 holds its block when the body runs. -/
theorem before0_2 (c : Dev nD) (t : Fin cfg0.N) (d) : (dats m 0 c).before 2 t d = iblk m c 2 t :=
  before0_2_of m (dats m 0 c) (A_eq m c 2) (after0_2 m c) t d
/-- Input window 3 holds its block when the body runs. -/
theorem before0_3 (c : Dev nD) (t : Fin cfg0.N) (d) : (dats m 0 c).before 3 t d = iblk m c 3 t :=
  before0_3_of m (dats m 0 c) (A_eq m c 3) (after0_3 m c) t d
/-- Input window 4 holds its block when the body runs. -/
theorem before0_4 (c : Dev nD) (t : Fin cfg0.N) (d) : (dats m 0 c).before 4 t d = iblk m c 4 t :=
  before0_4_of m (dats m 0 c) (A_eq m c 4) (after0_4 m c) t d

/-- A whole buffer held at some contents is the buffer's memref held at some contents. -/
theorem any_of_whole (c : Dev nD) (r : Ref sig .tc) :
    (iprop(∃ f, ((c : Thread nD τ).loc r) ↦{fullShare} f) : sProp 𝕄) ⊢ Any c (Memref.whole r) := by
  unfold Any owns
  iintro ⟨%f, H⟩
  iexists _; iexists f
  isplitr; · ipureintro; rfl
  rw [show (Memref.whole r).view.set = Finset.univ from View.set_whole _]
  iexact H

/-- And back: the memref held at some contents is the buffer held at some contents. -/
theorem whole_of_any (c : Dev nD) (r : Ref sig .tc) :
    Any c (Memref.whole r) ⊢ (iprop(∃ f, ((c : Thread nD τ).loc r) ↦{fullShare} f) : sProp 𝕄) := by
  unfold Any owns
  iintro ⟨%d, %f, -, H⟩
  iexists f
  rw [show (Memref.whole r).view.set = Finset.univ from View.set_whole _]
  iexact H

/-- The scratch buffers at anything, taken out of the invariant. -/
theorem scr_out (c : Dev nD) : ((Pipeline.ΦA spec0 c : sProp 𝕄)) ⊢
    iprop((Any c (Memref.whole cc0_scratch0) ∗ Any c (Memref.whole cc0_scratch1) ∗ Any c (Memref.whole cc0_scratch2) ∗ Any c (Memref.whole cc0_scratch3) ∗ Any c (Memref.whole cc0_scratch4) ∗ Any c (Memref.whole cc0_scratch5)) ∗ ∃ r, prngReg c r) := by
  unfold Pipeline.ΦA
  rw [scopedRest0_eq]
  iintro ⟨⟨H0, H1, H2, H3, H4, H5⟩, Hr⟩
  isplitr [Hr]; swap; · iexact Hr
  isplitl [H0]; · iapply any_of_whole; iexact H0
  isplitl [H1]; · iapply any_of_whole; iexact H1
  isplitl [H2]; · iapply any_of_whole; iexact H2
  isplitl [H3]; · iapply any_of_whole; iexact H3
  isplitl [H4]; · iapply any_of_whole; iexact H4
  iapply any_of_whole; iexact H5

/-- And put back. -/
theorem scr_in (c : Dev nD) : iprop((Any c (Memref.whole cc0_scratch0) ∗ Any c (Memref.whole cc0_scratch1) ∗ Any c (Memref.whole cc0_scratch2) ∗ Any c (Memref.whole cc0_scratch3) ∗ Any c (Memref.whole cc0_scratch4) ∗ Any c (Memref.whole cc0_scratch5)) ∗ ∃ r, prngReg c r) ⊢
    (Pipeline.ΦA spec0 c : sProp 𝕄) := by
  unfold Pipeline.ΦA
  rw [scopedRest0_eq]
  iintro ⟨⟨H0, H1, H2, H3, H4, H5⟩, Hr⟩
  isplitr [Hr]; swap; · iexact Hr
  isplitl [H0]; · iapply whole_of_any; iexact H0
  isplitl [H1]; · iapply whole_of_any; iexact H1
  isplitl [H2]; · iapply whole_of_any; iexact H2
  isplitl [H3]; · iapply whole_of_any; iexact H3
  isplitl [H4]; · iapply whole_of_any; iexact H4
  iapply whole_of_any; iexact H5

/-- The body at a grid point: from the staging buffers it leaves the inputs as they were and the output block, and the
    invariant again. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  unfold outsAt
  rw [show (dats m 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩⟩
  ihave HS := (scr_out (F := F) c) $$ [HΦ]; · iexact HΦ
  icases HS with ⟨⟨S0, S1, S2, S3, S4, S5⟩, Hr⟩
  iapply wp_wand_r
  isplitr [Hr Ho]
  · iapply (body_spec (F := F) c _ _ _ _ _ _ _ _ _ _ _ _ _ _ _ _ _ _ _ _ _ _ _ _ _ (iblk m c 0 t) (iblk m c 1 t) (iblk m c 2 t) (iblk m c 3 t) (iblk m c 4 t))
    isplitl [H0 H1 H2 H3 H4 H5]
    · isplitl [H0]; · iexact H0
      isplitl [H1]; · iexact H1
      isplitl [H2]; · iexact H2
      isplitl [H3]; · iexact H3
      isplitl [H4]; · iexact H4
      iexists _; iexact H5
    isplitl [S0]; · iexact S0
    isplitl [S1]; · iexact S1
    isplitl [S2]; · iexact S2
    isplitl [S3]; · iexact S3
    isplitl [S4]; · iexact S4
    iexact S5
  iintro %x ⟨⟨H0, H1, H2, H3, H4, H5⟩, HS⟩
  isplitl [HS Hr]
  · iapply (scr_in (F := F) c)
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- Every weakly fair run of @main ends, with every array of the pipeline at what the proof data says and every
    semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame, at any float instance: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)

end Cert.KernelIdeal.Steps

end
-- ==== Proof.Soft.lean ====
/- The softmax-weighted sum of extended reals with real scores: built up by steps that rescale what is summed so far, and
   taken at once. Nothing is asked of the values weighed. -/
module

public import Idealize.ShloMosaic.PureOps.Ideal.Laws
public import Mathlib.Analysis.SpecialFunctions.Pow.Real
public import Mathlib.Data.EReal.Operations

@[expose] public section

noncomputable section

namespace Cert.Soft

open Idealize.ShloMosaic
open scoped BigOperators

/-- A sum of reals read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A nonnegative real factor goes into a sum of extended reals. -/
theorem mul_sum {ι : Type} (c : ℝ) (hc : 0 ≤ c) (S : Finset ι) (f : ι → EReal) : (c : EReal) * ∑ k ∈ S, f k = ∑ k ∈ S, (c : EReal) * f k := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

/-- Two to a real power is positive. -/
theorem two_pos (x : ℝ) : 0 < (2 : ℝ) ^ x := Real.rpow_pos_of_pos (by norm_num) x

/-- What is accumulated over the first `N` keys against the maximum `m`. -/
def part (N : ℕ) (m : ℝ) (s : ℕ → ℝ) (v : ℕ → EReal) : EReal := ∑ k ∈ Finset.range N, (((2 : ℝ) ^ (s k - m) : ℝ) : EReal) * v k

/-- The softmax (of base two) of the scores, weighing the values. -/
def attn (N : ℕ) (s : ℕ → ℝ) (v : ℕ → EReal) : EReal :=
  ∑ k ∈ Finset.range N, ((((2 : ℝ) ^ s k) / ∑ j ∈ Finset.range N, (2 : ℝ) ^ s j : ℝ) : EReal) * v k

/-- Nothing is accumulated at first. -/
theorem part_zero (m : ℝ) (s : ℕ → ℝ) (v : ℕ → EReal) : part 0 m s v = 0 := by simp [part]

/-- Rescaling to a new maximum. -/
theorem part_rescale (N : ℕ) (m m' : ℝ) (s : ℕ → ℝ) (v : ℕ → EReal) :
    (((2 : ℝ) ^ (m - m') : ℝ) : EReal) * part N m s v = part N m' s v := by
  unfold part
  rw [mul_sum _ (two_pos _).le]
  refine Finset.sum_congr rfl fun k _ => ?_
  rw [← mul_assoc, ← EReal.coe_mul, ← Real.rpow_add (by norm_num)]
  congr 3; ring

/-- One step: rescale, then `n` further keys. -/
theorem part_step (N n : ℕ) (m m' : ℝ) (s : ℕ → ℝ) (v : ℕ → EReal) :
    (((2 : ℝ) ^ (m - m') : ℝ) : EReal) * part N m s v + ∑ k : Fin n, v (N + k.val) * (((2 : ℝ) ^ (s (N + k.val) - m') : ℝ) : EReal)
      = part (N + n) m' s v := by
  rw [part_rescale]
  unfold part
  rw [Finset.sum_range_add, Finset.sum_range (fun x => (((2 : ℝ) ^ (s (N + x) - m') : ℝ) : EReal) * v (N + x))]
  refine congrArg (_ + ·) (Finset.sum_congr rfl fun k _ => mul_comm _ _)

/-- What is accumulated of ones is real. -/
theorem part_one (N : ℕ) (m : ℝ) (s : ℕ → ℝ) : part N m s (fun _ => 1) = ((∑ k ∈ Finset.range N, (2 : ℝ) ^ (s k - m) : ℝ) : EReal) := by
  unfold part
  rw [coe_sum]
  exact Finset.sum_congr rfl fun k _ => mul_one _

/-- The quotient of what is accumulated is the softmax-weighted sum. -/
theorem part_div (N : ℕ) (hN : 0 < N) (m : ℝ) (s : ℕ → ℝ) (v : ℕ → EReal) :
    Ideal.div (part N m s v) (part N m s (fun _ => 1)) = attn N s v := by
  have e : ∀ k, (2 : ℝ) ^ (s k - m) = (2 : ℝ) ^ s k / (2 : ℝ) ^ m := fun k => Real.rpow_sub (by norm_num) _ _
  have hpos : 0 < ∑ k ∈ Finset.range N, (2 : ℝ) ^ (s k - m) :=
    Finset.sum_pos (fun k _ => two_pos _) ⟨0, Finset.mem_range.2 hN⟩
  have hpos' : 0 < ∑ k ∈ Finset.range N, (2 : ℝ) ^ s k :=
    Finset.sum_pos (fun k _ => two_pos _) ⟨0, Finset.mem_range.2 hN⟩
  rw [part_one, Ideal.div_coe hpos.ne']
  unfold part attn
  rw [mul_comm, mul_sum _ (by positivity)]
  refine Finset.sum_congr rfl fun k _ => ?_
  rw [← mul_assoc, ← EReal.coe_mul]
  congr 2
  simp only [e, ← Finset.sum_div]
  have := (two_pos m).ne'
  field_simp

/-- The softmax of base e of the scores times log 2, against any real, weighing the values. -/
theorem attn_exp (N : ℕ) (hN : 0 < N) (M : ℝ) (s : ℕ → ℝ) (v : ℕ → EReal) :
    ∑ k : Fin N, v k.val * Ideal.div ((Real.exp (s k.val * Real.log 2 - M) : ℝ) : EReal)
      (0 + ∑ j : Fin N, ((Real.exp (s j.val * Real.log 2 - M) : ℝ) : EReal)) = attn N s v := by
  have e : ∀ k, Real.exp (s k * Real.log 2 - M) = (2 : ℝ) ^ s k / Real.exp M := fun k => by
    rw [Real.exp_sub, Real.rpow_def_of_pos (by norm_num), mul_comm (Real.log 2)]
  have hpos : 0 < ∑ k ∈ Finset.range N, Real.exp (s k * Real.log 2 - M) :=
    Finset.sum_pos (fun k _ => Real.exp_pos _) ⟨0, Finset.mem_range.2 hN⟩
  have hpos' : 0 < ∑ k ∈ Finset.range N, (2 : ℝ) ^ s k :=
    Finset.sum_pos (fun k _ => two_pos _) ⟨0, Finset.mem_range.2 hN⟩
  rw [zero_add, ← coe_sum Finset.univ (fun j : Fin N => Real.exp (s j.val * Real.log 2 - M)),
    ← Finset.sum_range (fun j => Real.exp (s j * Real.log 2 - M))]
  unfold attn
  rw [Finset.sum_range (fun k => ((((2 : ℝ) ^ s k) / ∑ j ∈ Finset.range N, (2 : ℝ) ^ s j : ℝ) : EReal) * v k)]
  refine Finset.sum_congr rfl fun k _ => ?_
  rw [mul_comm, Ideal.div_coe hpos.ne', ← EReal.coe_mul]
  congr 2
  simp only [e, ← Finset.sum_div]
  have := (Real.exp_pos M).ne'
  field_simp

/-- The maximum of finitely many reals, from a real or from nothing, is real. -/
theorem fold_max_real {ι : Type} [DecidableEq ι] (S : Finset ι) (b : EReal) (hb : b ≠ ⊤) (f : ι → ℝ) (h : S.Nonempty ∨ ∃ r : ℝ, b = r) :
    ∃ r : ℝ, S.fold max b (fun i => (f i : EReal)) = r := by
  have key : ∀ S : Finset ι, S.fold max b (fun i => (f i : EReal)) = b ∨ ∃ r : ℝ, S.fold max b (fun i => (f i : EReal)) = r := by
    intro S
    induction S using Finset.induction_on with
    | empty => left; simp
    | insert a S ha ih =>
      right
      rw [Finset.fold_insert ha]
      rcases ih with ih | ⟨r, ih⟩
      · rw [ih]
        induction b with
        | bot => exact ⟨f a, max_eq_left bot_le⟩
        | top => exact absurd rfl hb
        | coe x => exact ⟨max (f a) x, (EReal.coe_strictMono.monotone.map_max (a := _) (b := _)).symm⟩
      · rw [ih]; exact ⟨max (f a) r, (EReal.coe_strictMono.monotone.map_max (a := _) (b := _)).symm⟩
  rcases h with hS | ⟨r, hr⟩
  · obtain ⟨a, ha⟩ := hS
    rw [← Finset.insert_erase ha, Finset.fold_insert (Finset.notMem_erase a S)]
    rcases key (S.erase a) with h | ⟨r, h⟩
    · rw [h]
      induction b with
      | bot => exact ⟨f a, max_eq_left bot_le⟩
      | top => exact absurd rfl hb
      | coe x => exact ⟨max (f a) x, (EReal.coe_strictMono.monotone.map_max (a := _) (b := _)).symm⟩
    · rw [h]; exact ⟨max (f a) r, (EReal.coe_strictMono.monotone.map_max (a := _) (b := _)).symm⟩
  · rcases key S with h | h
    · exact ⟨r, h.trans hr⟩
    · exact h

end Cert.Soft

end
-- ==== Proof.Spec.lean ====
/- The attention both programs compute, as one function of the five arrays: its scores, its values, its entries. -/
module

public import Idealize.ShloMosaic.Lib.ValueIdx
public import proofs.«01_k».proof.Proof.Soft

@[expose] public section

noncomputable section

namespace Cert.Soft

open Idealize.ShloMosaic Idealize.ShloMosaic.ValueIdx
open scoped BigOperators

/-- A matrix read at two numbers, 0 outside. -/
def at2 {a b : ℕ} (x : (⟨2, ![a, b]⟩ : Shape).Idx → EReal) (i j : ℕ) : EReal :=
  if h : i < a ∧ j < b then x (ix2 ⟨i, h.1⟩ ⟨j, h.2⟩) else 0

/-- Inside, it is the matrix. -/
theorem at2_eq {a b : ℕ} (x : (⟨2, ![a, b]⟩ : Shape).Idx → EReal) (i : Fin a) (j : Fin b) : at2 x i.val j.val = x (ix2 i j) :=
  dif_pos ⟨i.isLt, j.isLt⟩

/-- Inside, at any index of those coordinates. -/
theorem at2_of {a b : ℕ} (x : (⟨2, ![a, b]⟩ : Shape).Idx → EReal) (z : (⟨2, ![a, b]⟩ : Shape).Idx) (i j : ℕ) (hi : (z 0).val = i) (hj : (z 1).val = j) :
    x z = at2 x i j := by
  subst hi hj
  rw [at2_eq x (z 0) (z 1)]
  exact congrArg x (eq_ix2 z)

/-- A matrix of reals. -/
def Real2 {a b : ℕ} (x : (⟨2, ![a, b]⟩ : Shape).Idx → EReal) : Prop := ∀ z, x z ≠ ⊤ ∧ x z ≠ ⊥

/-- A matrix of reals reads as its real part. -/
theorem Real2.at2 {a b : ℕ} {x : (⟨2, ![a, b]⟩ : Shape).Idx → EReal} (h : Real2 x) (i j : ℕ) : ((at2 x i j).toReal : EReal) = at2 x i j := by
  unfold Cert.Soft.at2
  split
  · exact EReal.coe_toReal (h _).1 (h _).2
  · simp

/-- The latent keys, then the context keys. -/
def keyAt (K : (⟨2, ![16384, 1024]⟩ : Shape).Idx → EReal) (C : (⟨2, ![256, 1024]⟩ : Shape).Idx → EReal) (key j : ℕ) : EReal :=
  if key < 16384 then at2 K key j else at2 C (key - 16384) j

/-- The score of a key for a head's query. -/
def score (Q : (⟨2, ![1024, 16384]⟩ : Shape).Idx → EReal) (K : (⟨2, ![16384, 1024]⟩ : Shape).Idx → EReal) (C : (⟨2, ![256, 1024]⟩ : Shape).Idx → EReal)
    (h n key : ℕ) : ℝ := ∑ t : Fin 128, (keyAt K C key (128 * h + t.val)).toReal * (at2 Q (128 * h + t.val) n).toReal

/-- A row of the latent values, then of the context values. -/
def valAt (V : (⟨2, ![512, 16384]⟩ : Shape).Idx → EReal) (D : (⟨2, ![512, 256]⟩ : Shape).Idx → EReal) (col key : ℕ) : EReal :=
  if key < 16384 then at2 V col key else at2 D col (key - 16384)

/-- The attention at query `n` and column `col` (head `col / 64`). -/
def out (Q : (⟨2, ![1024, 16384]⟩ : Shape).Idx → EReal) (K : (⟨2, ![16384, 1024]⟩ : Shape).Idx → EReal) (V : (⟨2, ![512, 16384]⟩ : Shape).Idx → EReal)
    (C : (⟨2, ![256, 1024]⟩ : Shape).Idx → EReal) (D : (⟨2, ![512, 256]⟩ : Shape).Idx → EReal) (n col : ℕ) : EReal :=
  attn 16640 (score Q K C (col / 64) n) (valAt V D col)

/-- With real queries and keys the score is the sum of the products. -/
theorem score_eq {Q : (⟨2, ![1024, 16384]⟩ : Shape).Idx → EReal} {K : (⟨2, ![16384, 1024]⟩ : Shape).Idx → EReal} {C : (⟨2, ![256, 1024]⟩ : Shape).Idx → EReal}
    (hQ : Real2 Q) (hK : Real2 K) (hC : Real2 C) (h n key : ℕ) :
    (score Q K C h n key : EReal) = ∑ t : Fin 128, keyAt K C key (128 * h + t.val) * at2 Q (128 * h + t.val) n := by
  unfold score
  rw [coe_sum]
  refine Finset.sum_congr rfl fun t _ => ?_
  rw [EReal.coe_mul, hQ.at2]
  refine congrArg (· * _) ?_
  unfold keyAt
  split
  · exact hK.at2 _ _
  · exact hC.at2 _ _

end Cert.Soft

end
-- ==== Proof.KernelIdeal.Value.lean ====
/- The payloads of the kernel read at an index over the extended reals, and a head's accumulator as a softmax-weighted sum. -/
module

public import Idealize.ShloMosaic.Lib.MatmulPlain
public import Idealize.ShloMosaic.Lib.ValueLayout
public import Idealize.ShloMosaic.Lib.ValueIdx
public import Idealize.ShloMosaic.Lib.Pipeline.Value
public import proofs.«01_k».proof.Proof.Soft
public import proofs.«01_k».proof.Proof.KernelIdeal.Body

@[expose] public section

set_option maxRecDepth 100000

noncomputable section

namespace Cert.KernelIdeal.Steps

open Cert.KernelIdeal Cert.KernelIdeal.Gen Cert.Soft
open Idealize.ShloMosaic Idealize.ShloMosaic.ValueIdx
open Idealize.ShloMosaic.TcCoe
open scoped BigOperators

/-- The scores of a chunk. -/
theorem pay2_apply (k : Vec Ideal S512x128 .bf16) (q : Vec Ideal S128x1024 .bf16) (r : Fin 512) (c : Fin 1024) :
    k0_pay2 (F := Ideal) k q (ix2 r c) = ∑ t : Fin 128, k (ix2 r t) * q (ix2 t c) := by
  have h := Ideal.matmul_plain_apply (M := 512) (K := 128) (N := 1024) (φ₁ := .bf16) (φ₂ := .bf16) none k q (constant S512x1024 .f32 0x00000000#32) r c
  refine Eq.trans h ?_
  rw [show (constant (F := Ideal) S512x1024 .f32 0x00000000#32) (ix2 r c) = 0 from Ideal.ofBits_zero_f32, zero_add]

/-- The scores of the context. -/
theorem pay203_apply (k : Vec Ideal S256x128 .bf16) (q : Vec Ideal S128x1024 .bf16) (r : Fin 256) (c : Fin 1024) :
    k0_pay203 (F := Ideal) k q (ix2 r c) = ∑ t : Fin 128, k (ix2 r t) * q (ix2 t c) := by
  have h := Ideal.matmul_plain_apply (M := 256) (K := 128) (N := 1024) (φ₁ := .bf16) (φ₂ := .bf16) none k q (constant S256x1024 .f32 0x00000000#32) r c
  refine Eq.trans h ?_
  rw [show (constant (F := Ideal) S256x1024 .f32 0x00000000#32) (ix2 r c) = 0 from Ideal.ofBits_zero_f32, zero_add]

/-- The scores stored are the scores. -/
theorem pay3_eq (k : Vec Ideal S512x128 .bf16) (q : Vec Ideal S128x1024 .bf16) : k0_pay3 (F := Ideal) k q = k0_pay2 k q := by
  unfold k0_pay3
  exact shapeCast_self _ _

/-- This step passes its array on. -/
theorem pay7_eq (a : FVec Ideal S80x1024 .f32) : k0_pay7 (F := Ideal) a = a := by
  unfold k0_pay7
  exact shapeCast_self _ _

/-- The maximum of a column of reals is real. -/
theorem colmax_real {n : ℕ} (hn : 0 < n) (src : FVec Ideal ⟨2, ![n, 1024]⟩ .f32)
    (h : Shape.Reduces ⟨2, ![n, 1024]⟩ [(0 : Fin 2)] ⟨1, ![1024]⟩) (hφ : FKind.Formats .f32)
    (hacc : (0xFF800000#32 : BitVec 32) = FKind.maximumf.neutral .f32 hφ) (c : Fin 1024) (s : Fin n → ℝ)
    (hs : ∀ r, src (ix2 r c) = (s r : EReal)) :
    ∃ x : ℝ, multiReduction .maximumf [(0 : Fin 2)] ⟨1, ![1024]⟩ src 0xFF800000#32 h hφ hacc (ix1 c) = (x : EReal) := by
  have e : src ∘ h.lift (ix1 c) = fun r : Fin n => ((s r : ℝ) : EReal) := by
    funext r
    refine Eq.trans ?_ (hs r)
    refine congrArg src ?_
    funext a; apply Fin.ext
    match a with
    | ⟨0, _⟩ => rfl
    | ⟨1, _⟩ => rfl
  have hb : (FloatOps.ofBits (F := Ideal) .f32 0xFF800000#32 : EReal) ≠ ⊤ := by
    rw [show (FloatOps.ofBits (F := Ideal) .f32 0xFF800000#32 : EReal) = ⊥ by simp [Ideal.ofBits, Ideal.ieee]]; exact bot_ne_top
  obtain ⟨x, hx⟩ := fold_max_real (Finset.univ : Finset (Fin n)) _ hb s (.inl ⟨⟨0, hn⟩, Finset.mem_univ _⟩)
  refine ⟨x, (Ideal.multiReduction_maximumf_single src _ h hφ hacc (ix1 c)).trans (Eq.trans ?_ hx)⟩
  exact congrArg (fun f => (Finset.univ : Finset (Fin n)).fold max _ f) e

/-- The maximum of a chunk's column of real scores is real. -/
theorem pay4_real (k : Vec Ideal S512x128 .bf16) (q : Vec Ideal S128x1024 .bf16) (c : Fin 1024) (s : Fin 512 → ℝ)
    (hs : ∀ r, k0_pay2 (F := Ideal) k q (ix2 r c) = (s r : EReal)) : ∃ x : ℝ, k0_pay4 (F := Ideal) k q (ix2 0 c) = (x : EReal) := by
  obtain ⟨x, hx⟩ := colmax_real (by norm_num) (k0_pay2 (F := Ideal) k q) reduces_S512x1024_S1024 (.inl rfl) rfl c s hs
  refine ⟨x, ?_⟩
  unfold k0_pay4
  exact (shapeCast_a_1a_apply (a := 1024) _ shapeCasts_S1024_S1x1024 0 c).trans hx

/-- A chunk's values with the row of ones below. -/
def vext {n : ℕ} (v : Vec Ideal ⟨2, ![64, n]⟩ .bf16) (d : ℕ) (r : Fin n) : EReal := if h : d < 64 then v (ix2 ⟨d, h⟩ r) else 1

/-- The row that is 1 at row 0 is 1 there. -/
theorem ones_apply {n : ℕ} (h : Shape.Iotas ⟨2, ![16, n]⟩ .tc 32 [(0 : Fin 2)]) (h1 : 1 < 32) (hb : FTy.bf16.bits < FTy.f32.bits) (r : Fin n) :
    truncf (F := Ideal) .bf16 (sitofp (F := Ideal) .f32 (extui 32 (cmpi .eq (iota .tc ⟨2, ![16, n]⟩ 32 [(0 : Fin 2)] h) (broadcast ⟨2, ![16, n]⟩ 0#32)) h1)) hb (ix2 (0 : Fin 16) r) = 1 := by
  have e : (iota .tc ⟨2, ![16, n]⟩ 32 [(0 : Fin 2)] h) (ix2 (0 : Fin 16) r) = 0#32 := iota_single_apply _ _ _ _ _ _
  show ((((IntOp.cmpi .eq ((iota .tc ⟨2, ![16, n]⟩ 32 [(0 : Fin 2)] h) (ix2 (0 : Fin 16) r)) 0#32).setWidth 32).toInt : ℝ) : EReal) = 1
  rw [e]
  have : ((IntOp.cmpi .eq 0#32 0#32).setWidth 32).toInt = 1 := by decide
  rw [this]; norm_num

/-- The values with the row of ones below, at a row up to 64. -/
theorem ext_apply {n : ℕ} (v : FVec Ideal ⟨2, ![64, n]⟩ .bf16) (x : FVec Ideal ⟨2, ![16, n]⟩ .bf16) (hx : ∀ r, x (ix2 (0 : Fin 16) r) = 1)
    (h : Shape.Concatenates [⟨2, ![64, n]⟩, ⟨2, ![16, n]⟩] ⟨2, ![80, n]⟩ 0) (d : Fin 80) (hd : d.val ≤ 64) (r : Fin n) :
    concatenate ⟨2, ![80, n]⟩ 0 [⟨⟨2, ![64, n]⟩, v⟩, ⟨⟨2, ![16, n]⟩, x⟩] h (ix2 d r) = vext v d.val r := by
  unfold vext
  split
  · rename_i hlt
    refine concatenate_pair_apply_left (t := ⟨2, ![80, n]⟩) 0 v x h (ix2 d r) rfl (ix2 ⟨d.val, hlt⟩ r) fun b => ?_
    match b with
    | ⟨0, _⟩ => rfl
    | ⟨1, _⟩ => rfl
  · rename_i hlt
    refine (concatenate_pair_apply_right (t := ⟨2, ![80, n]⟩) 0 v x h (ix2 d r) rfl rfl (ix2 (0 : Fin 16) r) (fun b hb => ?_) ?_).trans (hx r)
    · match b with
      | ⟨0, _⟩ => exact absurd rfl hb
      | ⟨1, _⟩ => rfl
    · show 0 + 64 = d.val
      omega

/-- The maximum so far of two reals is real. -/
theorem pay5_apply (m mx : FVec Ideal S1x1024 .f32) (c : Fin 1024) (a b : ℝ) (ha : m (ix2 0 c) = (a : EReal)) (hb : mx (ix2 0 c) = (b : EReal)) :
    k0_pay5 (F := Ideal) m mx (ix2 0 c) = ((max a b : ℝ) : EReal) := by
  show max (m (ix2 0 c)) (mx (ix2 0 c)) = _
  rw [ha, hb]
  exact (EReal.coe_strictMono.monotone.map_max (a := a) (b := b)).symm

/-- A chunk's update of the accumulator, at a row up to 64. -/
theorem pay6_apply (m mx : FVec Ideal S1x1024 .f32) (s : FVec Ideal S512x1024 .f32) (v : Vec Ideal S64x512 .bf16) (acc : FVec Ideal S80x1024 .f32)
    (c : Fin 1024) (d : Fin 80) (hd : d.val ≤ 64) (a b : ℝ) (sc : Fin 512 → ℝ)
    (ha : m (ix2 0 c) = (a : EReal)) (hb : mx (ix2 0 c) = (b : EReal)) (hs : ∀ r, s (ix2 r c) = (sc r : EReal)) :
    k0_pay6 (F := Ideal) m mx s v acc (ix2 d c)
      = (((2 : ℝ) ^ (a - max a b) : ℝ) : EReal) * acc (ix2 d c) + ∑ r : Fin 512, vext v d.val r * (((2 : ℝ) ^ (sc r - max a b) : ℝ) : EReal) := by
  have hm := pay5_apply m mx c a b ha hb
  unfold k0_pay6
  dsimp only
  rw [addf_apply, mulf_apply, broadcastTo_1b_ab_apply]
  refine congrArg₂ (· + ·) (congrArg (· * acc (ix2 d c)) ?_) ?_
  · show Ideal.exp2 (m (ix2 0 c) - k0_pay5 (F := Ideal) m mx (ix2 0 c)) = _
    rw [hm, ha, ← EReal.coe_sub]; rfl
  · refine (Ideal.matmul_plain_apply (M := 80) (K := 512) (N := 1024) (φ₁ := .bf16) (φ₂ := .bf16) none _ _ _ d c).trans ?_
    rw [show (constant (F := Ideal) S80x1024 .f32 0x00000000#32) (ix2 d c) = 0 from Ideal.ofBits_zero_f32, zero_add]
    refine Finset.sum_congr rfl fun r _ => ?_
    refine congrArg₂ (· * ·) (ext_apply v _ (fun r => ones_apply _ _ _ r) _ d hd r) ?_
    show Ideal.exp2 (s (ix2 r c) - broadcastTo S512x1024 (k0_pay5 (F := Ideal) m mx) broadcasts_S1x1024_S512x1024 (ix2 r c)) = _
    rw [broadcastTo_1b_ab_apply, hm, hs, ← EReal.coe_sub]; rfl

/-- The context's update of the accumulator, at a row up to 64: against some real maximum. -/
theorem pay214_apply (s : FVec Ideal S256x1024 .f32) (m : FVec Ideal S1x1024 .f32) (v : Vec Ideal S64x256 .bf16) (acc : FVec Ideal S80x1024 .f32)
    (c : Fin 1024) (a : ℝ) (sc : Fin 256 → ℝ) (ha : m (ix2 0 c) = (a : EReal)) (hs : ∀ r, s (ix2 r c) = (sc r : EReal)) :
    ∃ b : ℝ, ∀ d : Fin 80, d.val ≤ 64 → k0_pay214 (F := Ideal) s m v acc (ix2 d c)
      = (((2 : ℝ) ^ (a - b) : ℝ) : EReal) * acc (ix2 d c) + ∑ r : Fin 256, vext v d.val r * (((2 : ℝ) ^ (sc r - b) : ℝ) : EReal) := by
  obtain ⟨x, hx⟩ := colmax_real (by norm_num) s reduces_S256x1024_S1024 (.inl rfl) rfl c sc hs
  have hmx : shapeCast S1x1024 (multiReduction .maximumf [0] S1024 s 0xFF800000#32 reduces_S256x1024_S1024 (.inl rfl) rfl) shapeCasts_S1024_S1x1024 (ix2 0 c) = (x : EReal) :=
    (shapeCast_a_1a_apply _ _ _ _).trans hx
  refine ⟨max a x, fun d hd => ?_⟩
  have hm := pay5_apply m _ c a x ha hmx
  unfold k0_pay214
  dsimp only
  rw [shapeCast_self, addf_apply, mulf_apply, broadcastTo_1b_ab_apply]
  refine congrArg₂ (· + ·) (congrArg (· * acc (ix2 d c)) ?_) ?_
  · refine Eq.trans (b := Ideal.exp2 (m (ix2 0 c) - _)) rfl ?_
    refine (congrArg₂ (fun x y => Ideal.exp2 (x - y)) ha hm).trans ?_
    rw [← EReal.coe_sub]; rfl
  · refine (Ideal.matmul_plain_apply (M := 80) (K := 256) (N := 1024) (φ₁ := .bf16) (φ₂ := .bf16) none _ _ _ d c).trans ?_
    rw [show (constant (F := Ideal) S80x1024 .f32 0x00000000#32) (ix2 d c) = 0 from Ideal.ofBits_zero_f32, zero_add]
    refine Finset.sum_congr rfl fun r _ => ?_
    refine congrArg₂ (· * ·) (ext_apply v _ (fun r => ones_apply _ _ _ r) _ d hd r) ?_
    refine (congrArg₂ (fun x y => Ideal.exp2 (x - y)) (hs r) ((broadcastTo_1b_ab_apply _ broadcasts_S1x1024_S256x1024 r c).trans hm)).trans ?_
    rw [← EReal.coe_sub]; rfl

/-- What a head's state is before chunk `j`, at a query column: the running maximum and the issued one real, each row up to 64
    the softmax-weighted sum so far, the issued scores those of chunk `j`. -/
structure Inv (sc : ℕ → ℝ) (w : ℕ → ℕ → EReal) (c : Fin 1024) (j : ℕ) (h : HSt Ideal) : Prop where
  ex : ∃ m mx : ℝ, h.m (ix2 0 c) = (m : EReal) ∧ h.mx (ix2 0 c) = (mx : EReal) ∧
    ∀ d : Fin 80, d.val ≤ 64 → h.a (ix2 d c) = part (512 * j) m sc (w d.val)
  hs : ∀ r : Fin 512, h.s (ix2 r c) = (sc (512 * j + r.val) : EReal)

/-- The starting maximum is real. -/
theorem pay110_real : ∃ m : ℝ, ∀ c : Fin 1024, k0_pay110 (F := Ideal) (ix2 0 c) = (m : EReal) := by
  have h : ∃ m : ℝ, Ideal.ofBits .f32 0xF149F2CA#32 = (m : EReal) := by
    unfold Ideal.ofBits Ideal.ieee
    dsimp only
    rw [if_neg (by decide), if_neg (by decide)]
    exact ⟨_, rfl⟩
  obtain ⟨m, hm⟩ := h
  exact ⟨m, fun c => hm⟩

/-- The accumulator starts at 0. -/
theorem pay108_zero (d : Fin 80) (c : Fin 1024) : k0_pay108 (F := Ideal) (ix2 d c) = 0 := by
  unfold k0_pay108
  rw [shapeCast_self]
  exact Ideal.ofBits_zero_f32

attribute [local irreducible] k0_pay2 k0_pay3 k0_pay4 k0_pay5 k0_pay6 k0_pay7 k0_pay108 k0_pay110 k0_pay203 k0_pay214

/-- The state before each chunk. -/
theorem inv_seq (q : Vec Ideal S128x1024 .bf16) (k : ℕ → Vec Ideal S512x128 .bf16) (v : ℕ → Vec Ideal S64x512 .bf16)
    (sc : ℕ → ℝ) (w : ℕ → ℕ → EReal) (c : Fin 1024)
    (hk : ∀ j, j ≤ 31 → ∀ r : Fin 512, k0_pay2 (F := Ideal) (k j) q (ix2 r c) = (sc (512 * j + r.val) : EReal))
    (hv : ∀ j, j ≤ 31 → ∀ d, d ≤ 64 → ∀ r : Fin 512, vext (v j) d r = w d (512 * j + r.val)) :
    ∀ j, j ≤ 31 → Inv sc w c j (headSeq q k v j) := by
  intro j
  induction j with
  | zero =>
    intro _
    obtain ⟨m, hm⟩ := pay110_real
    obtain ⟨mx, hmx⟩ := pay4_real (k 0) q c _ (hk 0 (by omega))
    refine ⟨⟨m, mx, hm c, hmx, fun d _ => ?_⟩, fun r => ?_⟩
    · rw [Nat.mul_zero, part_zero]
      exact pay108_zero d c
    · show k0_pay3 (F := Ideal) (k 0) q (ix2 r c) = _
      rw [pay3_eq]; exact hk 0 (by omega) r
  | succ j ih =>
    intro hj
    obtain ⟨⟨m, mx, hm, hmx, hacc⟩, hs⟩ := ih (by omega)
    obtain ⟨mx', hmx'⟩ := pay4_real (k (j + 1)) q c _ (hk (j + 1) hj)
    refine ⟨⟨max m mx, mx', pay5_apply _ _ c m mx hm hmx, hmx', fun d hd => ?_⟩, fun r => ?_⟩
    · show k0_pay7 (F := Ideal) (k0_pay6 _ _ _ _ _) (ix2 d c) = _
      rw [pay7_eq, pay6_apply _ _ _ (v j) _ c d hd m mx _ hm hmx hs, hacc d hd, Nat.mul_succ, ← part_step (512 * j) 512 m (max m mx)]
      have e1 : ∑ r : Fin 512, vext (v j) d.val r * (((2 : ℝ) ^ (sc (512 * j + r.val) - max m mx) : ℝ) : EReal)
          = ∑ r : Fin 512, w d.val (512 * j + r.val) * (((2 : ℝ) ^ (sc (512 * j + r.val) - max m mx) : ℝ) : EReal) :=
        Finset.sum_congr rfl fun r _ => by rw [hv j (by omega) d.val hd r]
      rw [e1]
    · show k0_pay3 (F := Ideal) (k (j + 1)) q (ix2 r c) = _
      rw [pay3_eq]; exact hk (j + 1) hj r

/-- A head's accumulator at the end: every key weighed, against some real. -/
theorem headEnd_apply (q : Vec Ideal S128x1024 .bf16) (k : ℕ → Vec Ideal S512x128 .bf16) (v : ℕ → Vec Ideal S64x512 .bf16)
    (ck : Vec Ideal S256x128 .bf16) (cv : Vec Ideal S64x256 .bf16)
    (sc : ℕ → ℝ) (w : ℕ → ℕ → EReal) (c : Fin 1024)
    (hk : ∀ j, j ≤ 31 → ∀ r : Fin 512, k0_pay2 (F := Ideal) (k j) q (ix2 r c) = (sc (512 * j + r.val) : EReal))
    (hv : ∀ j, j ≤ 31 → ∀ d, d ≤ 64 → ∀ r : Fin 512, vext (v j) d r = w d (512 * j + r.val))
    (hck : ∀ r : Fin 256, k0_pay203 (F := Ideal) ck q (ix2 r c) = (sc (16384 + r.val) : EReal))
    (hcv : ∀ d, d ≤ 64 → ∀ r : Fin 256, vext cv d r = w d (16384 + r.val)) :
    ∃ m : ℝ, ∀ d : Fin 80, d.val ≤ 64 → headEnd (F := Ideal) q (v 31) ck cv (headSeq q k v 31) (ix2 d c) = part 16640 m sc (w d.val) := by
  obtain ⟨⟨m, mx, hm, hmx, hacc⟩, hs⟩ := inv_seq q k v sc w c hk hv 31 le_rfl
  obtain ⟨b, hb⟩ := pay214_apply (k0_pay203 ck q) (k0_pay5 (headSeq q k v 31).m (headSeq q k v 31).mx) cv
    (k0_pay7 (k0_pay6 (headSeq q k v 31).m (headSeq q k v 31).mx (headSeq q k v 31).s (v 31) (headSeq q k v 31).a)) c (max m mx) _
    (pay5_apply _ _ c m mx hm hmx) hck
  refine ⟨b, fun d hd => ?_⟩
  refine (hb d hd).trans ?_
  rw [pay7_eq, pay6_apply _ _ _ (v 31) _ c d hd m mx _ hm hmx hs, hacc d hd]
  have e1 : ∑ r : Fin 512, vext (v 31) d.val r * (((2 : ℝ) ^ (sc (512 * 31 + r.val) - max m mx) : ℝ) : EReal)
      = ∑ r : Fin 512, w d.val (512 * 31 + r.val) * (((2 : ℝ) ^ (sc (512 * 31 + r.val) - max m mx) : ℝ) : EReal) :=
    Finset.sum_congr rfl fun r _ => by rw [hv 31 le_rfl d.val hd r]
  rw [e1, part_step (512 * 31) 512 m (max m mx)]
  have e2 : ∑ r : Fin 256, vext cv d.val r * (((2 : ℝ) ^ (sc (16384 + r.val) - b) : ℝ) : EReal)
      = ∑ r : Fin 256, w d.val (16384 + r.val) * (((2 : ℝ) ^ (sc (16384 + r.val) - b) : ℝ) : EReal) :=
    Finset.sum_congr rfl fun r _ => by rw [hcv d.val hd r]
  rw [e2]
  exact part_step 16384 256 (max m mx) b sc (w d.val)

end Cert.KernelIdeal.Steps

end
-- ==== Proof.KernelIdeal.Block.lean ====
/- The block the kernel's body leaves, read at an index: each entry the softmax-weighted sum of its head's values. -/
module

public import proofs.«01_k».proof.Proof.KernelIdeal.Value

@[expose] public section

set_option maxRecDepth 100000

noncomputable section

namespace Cert.KernelIdeal.Steps

open Cert.KernelIdeal Cert.KernelIdeal.Gen Cert.Soft
open Idealize.ShloMosaic Idealize.ShloMosaic.ValueIdx
open Idealize.ShloMosaic.TcCoe
open scoped BigOperators

/-- A window read at an index is the array at the offset index. -/
theorem win_apply {α : Type} {s : Shape} (x : s.Idx → α) (off size : Fin s.rank → ℕ) (inb : ∀ a, off a + size a ≤ s.size a)
    (y : (Rect.unit off size inb).shape.Idx) (z : s.Idx) (h : ∀ a, (z a).val = off a + (y a).val) : win x off size inb y = x z := by
  show x ((Rect.unit off size inb).emb y) = x z
  refine congrArg x (funext fun a => Fin.ext ?_)
  rw [h a]
  show off a + 1 * (y a).val = _
  omega

/-- The output block at a column of the first head. -/
theorem outOf_left (a0 a1 : Vec Ideal S80x1024 .f32) (c : Fin 1024) (d : Fin 64) :
    outOf (F := Ideal) a0 a1 (ix2 c ⟨d.val, by omega⟩) = Ideal.div (a0 (ix2 ⟨d.val, by omega⟩ c)) (a0 (ix2 ⟨64, by omega⟩ c)) := by
  unfold outOf outV k0_pay1 k0_pay215
  dsimp only
  rw [truncf_apply, transpose_ix2_apply (a := 128) (b := 1024)]
  refine (concatenate_pair_apply_left (t := S128x1024) (s₁ := S64x1024) (s₂ := S64x1024) 0 _ _ _ _ rfl (ix2 d c) fun b => ?_).trans ?_
  · match b with
    | ⟨0, _⟩ => rfl
    | ⟨1, _⟩ => rfl
  · rw [divf_apply, broadcastTo_1b_ab_apply]
    refine congrArg₂ Ideal.div (win_apply _ _ _ _ _ _ fun a => ?_) (win_apply _ _ _ _ _ _ fun a => ?_)
    · match a with
      | ⟨0, _⟩ => exact (Nat.zero_add _).symm
      | ⟨1, _⟩ => exact (Nat.zero_add _).symm
    · match a with
      | ⟨0, _⟩ => rfl
      | ⟨1, _⟩ => exact (Nat.zero_add _).symm

/-- The output block at a column of the second head. -/
theorem outOf_right (a0 a1 : Vec Ideal S80x1024 .f32) (c : Fin 1024) (d : Fin 64) :
    outOf (F := Ideal) a0 a1 (ix2 c ⟨64 + d.val, by omega⟩) = Ideal.div (a1 (ix2 ⟨d.val, by omega⟩ c)) (a1 (ix2 ⟨64, by omega⟩ c)) := by
  unfold outOf outV k0_pay1 k0_pay215
  dsimp only
  rw [truncf_apply, transpose_ix2_apply (a := 128) (b := 1024)]
  refine (concatenate_pair_apply_right (t := S128x1024) (s₁ := S64x1024) (s₂ := S64x1024) 0 _ _ _ _ rfl rfl (ix2 d c) (fun b hb => ?_) ?_).trans ?_
  · match b with
    | ⟨0, _⟩ => exact absurd rfl hb
    | ⟨1, _⟩ => rfl
  · exact Nat.add_comm _ _
  · rw [divf_apply, broadcastTo_1b_ab_apply]
    refine congrArg₂ Ideal.div (win_apply _ _ _ _ _ _ fun a => ?_) (win_apply _ _ _ _ _ _ fun a => ?_)
    · match a with
      | ⟨0, _⟩ => exact (Nat.zero_add _).symm
      | ⟨1, _⟩ => exact (Nat.zero_add _).symm
    · match a with
      | ⟨0, _⟩ => rfl
      | ⟨1, _⟩ => exact (Nat.zero_add _).symm

attribute [local irreducible] k0_pay2 k0_pay203 headEnd headSeq

/-- A head's accumulator in the block: row `d` over row 64 is the softmax-weighted sum of the head's row `d` of values. -/
theorem accEnd_apply (Q : Vec Ideal S256x1024 .bf16) (K : Vec Ideal S16384x256 .bf16) (V : Vec Ideal S128x16384 .bf16) (C : Vec Ideal S256x256 .bf16)
    (D : Vec Ideal S128x256 .bf16) (e : Fin 2) (d : Fin 64) (c : Fin 1024) (sc : ℕ → ℝ) (w : ℕ → EReal)
    (hk : ∀ key : Fin 16384, ∑ t : Fin 128, K (ix2 key ⟨128 * e.val + t.val, by omega⟩) * Q (ix2 ⟨128 * e.val + t.val, by omega⟩ c) = (sc key.val : EReal))
    (hck : ∀ key : Fin 256, ∑ t : Fin 128, C (ix2 key ⟨128 * e.val + t.val, by omega⟩) * Q (ix2 ⟨128 * e.val + t.val, by omega⟩ c) = (sc (16384 + key.val) : EReal))
    (hv : ∀ key : Fin 16384, V (ix2 ⟨64 * e.val + d.val, by omega⟩ key) = w key.val)
    (hcv : ∀ key : Fin 256, D (ix2 ⟨64 * e.val + d.val, by omega⟩ key) = w (16384 + key.val)) :
    Ideal.div (accEnd (F := Ideal) Q K V C D e (ix2 ⟨d.val, by omega⟩ c)) (accEnd (F := Ideal) Q K V C D e (ix2 ⟨64, by omega⟩ c)) = attn 16640 sc w := by
  let W : ℕ → ℕ → EReal := fun d' n => if h : d' < 64 then
      (if h' : n < 16384 then V (ix2 ⟨64 * e.val + d', by omega⟩ ⟨n, h'⟩) else if h'' : n - 16384 < 256 then D (ix2 ⟨64 * e.val + d', by omega⟩ ⟨n - 16384, h''⟩) else 0)
    else 1
  have hq : ∀ t : Fin 128, qC (F := Ideal) Q e (ix2 t c) = Q (ix2 ⟨128 * e.val + t.val, by omega⟩ c) := fun t => by
    unfold qC
    refine win_apply _ _ _ _ _ _ fun a => ?_
    match a with
    | ⟨0, _⟩ => rfl
    | ⟨1, _⟩ => exact (Nat.zero_add _).symm
  obtain ⟨m, hm⟩ := headEnd_apply (qC (F := Ideal) Q e) (kC K e) (vC V e) (ckC C e) (cvC D e) sc W c
    (fun j hj r => by
      rw [pay2_apply]
      have hlt : 512 * j + r.val < 16384 := by omega
      refine Eq.trans (Finset.sum_congr rfl fun t _ => congrArg₂ (· * ·) ?_ (hq t)) (hk ⟨512 * j + r.val, hlt⟩)
      unfold kC
      refine win_apply _ _ _ _ _ _ fun a => ?_
      match a with
      | ⟨0, _⟩ => show 512 * j + r.val = 512 * min j 31 + r.val; rw [Nat.min_eq_left hj]
      | ⟨1, _⟩ => rfl)
    (fun j hj d' hd' r => by
      have hlt : 512 * j + r.val < 16384 := by omega
      unfold vext
      show _ = dite _ _ _
      by_cases h : d' < 64
      · rw [dif_pos h, dif_pos h, dif_pos hlt]
        unfold vC
        refine win_apply _ _ _ _ _ _ fun a => ?_
        match a with
        | ⟨0, _⟩ => rfl
        | ⟨1, _⟩ => show 512 * j + r.val = 512 * min j 31 + r.val; rw [Nat.min_eq_left hj]
      · rw [dif_neg h, dif_neg h])
    (fun r => by
      rw [pay203_apply]
      refine Eq.trans (Finset.sum_congr rfl fun t _ => congrArg₂ (· * ·) ?_ (hq t)) (hck r)
      unfold ckC
      refine win_apply _ _ _ _ _ _ fun a => ?_
      match a with
      | ⟨0, _⟩ => exact (Nat.zero_add _).symm
      | ⟨1, _⟩ => rfl)
    (fun d' hd' r => by
      have hge : ¬ 16384 + r.val < 16384 := by omega
      have hlt : 16384 + r.val - 16384 < 256 := by omega
      unfold vext
      show _ = dite _ _ _
      by_cases h : d' < 64
      · rw [dif_pos h, dif_pos h, dif_neg hge, dif_pos hlt]
        unfold cvC
        refine win_apply _ _ _ _ _ _ fun a => ?_
        match a with
        | ⟨0, _⟩ => rfl
        | ⟨1, _⟩ => show 16384 + r.val - 16384 = 0 + r.val; omega
      · rw [dif_neg h, dif_neg h])
  have e1 : accEnd (F := Ideal) Q K V C D e (ix2 ⟨d.val, by omega⟩ c) = part 16640 m sc w := by
    refine (hm ⟨d.val, by omega⟩ (by show d.val ≤ 64; omega)).trans ?_
    unfold part
    refine Finset.sum_congr rfl fun n hn => congrArg (_ * ·) ?_
    have hn' := Finset.mem_range.1 hn
    show dite _ _ _ = _
    rw [dif_pos d.isLt]
    by_cases h : n < 16384
    · rw [dif_pos h]; exact hv ⟨n, h⟩
    · have h2 : n - 16384 < 256 := by omega
      rw [dif_neg h, dif_pos h2]
      refine (hcv ⟨n - 16384, h2⟩).trans (congrArg w ?_)
      show 16384 + (n - 16384) = n
      omega
  have e2 : accEnd (F := Ideal) Q K V C D e (ix2 ⟨64, by omega⟩ c) = part 16640 m sc (fun _ => 1) :=
    (hm ⟨64, by omega⟩ le_rfl).trans rfl
  rw [e1, e2]
  exact part_div 16640 (by norm_num) m sc w

/-- The output block at head `e`'s column `d`. -/
theorem outBlk_apply (Q : Vec Ideal S256x1024 .bf16) (K : Vec Ideal S16384x256 .bf16) (V : Vec Ideal S128x16384 .bf16) (C : Vec Ideal S256x256 .bf16)
    (D : Vec Ideal S128x256 .bf16) (e : Fin 2) (d : Fin 64) (c : Fin 1024) (sc : ℕ → ℝ) (w : ℕ → EReal)
    (hk : ∀ key : Fin 16384, ∑ t : Fin 128, K (ix2 key ⟨128 * e.val + t.val, by omega⟩) * Q (ix2 ⟨128 * e.val + t.val, by omega⟩ c) = (sc key.val : EReal))
    (hck : ∀ key : Fin 256, ∑ t : Fin 128, C (ix2 key ⟨128 * e.val + t.val, by omega⟩) * Q (ix2 ⟨128 * e.val + t.val, by omega⟩ c) = (sc (16384 + key.val) : EReal))
    (hv : ∀ key : Fin 16384, V (ix2 ⟨64 * e.val + d.val, by omega⟩ key) = w key.val)
    (hcv : ∀ key : Fin 256, D (ix2 ⟨64 * e.val + d.val, by omega⟩ key) = w (16384 + key.val)) :
    outBlk (F := Ideal) Q K V C D (ix2 c ⟨64 * e.val + d.val, by omega⟩) = attn 16640 sc w := by
  have h := accEnd_apply Q K V C D e d c sc w hk hck hv hcv
  unfold outBlk
  match e with
  | ⟨0, _⟩ =>
    refine Eq.trans ?_ ((outOf_left (accEnd (F := Ideal) Q K V C D 0) (accEnd (F := Ideal) Q K V C D 1) c d).trans h)
    refine congrArg (fun z => outOf (F := Ideal) (accEnd (F := Ideal) Q K V C D 0) (accEnd (F := Ideal) Q K V C D 1) (ix2 c z)) (Fin.ext ?_)
    show 64 * 0 + d.val = d.val
    omega
  | ⟨1, _⟩ => exact (outOf_right _ _ c d).trans h

end Cert.KernelIdeal.Steps

end
-- ==== Proof.KernelIdeal.Array.lean ====
/- The kernel's blocks put together: the result array entry by entry, and the run that leaves it. -/
module

public import Idealize.ShloMosaic.Lib.Pipeline.Value
public import Idealize.ShloMosaic.Lib.Pipeline.ValueKit
public import proofs.«01_k».proof.Proof.Spec
public import proofs.«01_k».proof.Proof.KernelIdeal.Block
public import proofs.«01_k».proof.Proof.KernelIdeal.Run

@[expose] public section

set_option maxRecDepth 100000

noncomputable section

namespace Cert.KernelIdeal.Steps

open Cert.KernelIdeal Cert.KernelIdeal.Gen Cert.Soft
open Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

/-- Each window's block index at a grid point. -/
theorem index_eq : ∀ t : Fin cfg0.N,
    ((cfg0.win 0).index t 0 = t.val / 16 ∧ (cfg0.win 0).index t 1 = t.val % 16)
    ∧ ((cfg0.win 1).index t 0 = 0 ∧ (cfg0.win 1).index t 1 = t.val / 16)
    ∧ ((cfg0.win 2).index t 0 = t.val / 16 ∧ (cfg0.win 2).index t 1 = 0)
    ∧ ((cfg0.win 3).index t 0 = 0 ∧ (cfg0.win 3).index t 1 = t.val / 16)
    ∧ ((cfg0.win 4).index t 0 = t.val / 16 ∧ (cfg0.win 4).index t 1 = 0)
    ∧ ((cfg0.win 5).index t 0 = t.val % 16 ∧ (cfg0.win 5).index t 1 = t.val / 16) := by
  decide +kernel

/-- The five arrays. -/
abbrev aQ : Vec Ideal S1024x16384 .bf16 := m ((c : Thread nD τ).loc main_arg0)
abbrev aK : Vec Ideal S16384x1024 .bf16 := m ((c : Thread nD τ).loc main_arg1)
abbrev aV : Vec Ideal S512x16384 .bf16 := m ((c : Thread nD τ).loc main_arg2)
abbrev aC : Vec Ideal S256x1024 .bf16 := m ((c : Thread nD τ).loc main_arg3)
abbrev aD : Vec Ideal S512x256 .bf16 := m ((c : Thread nD τ).loc main_arg4)

/-- The query block. -/
theorem blk0_apply (t : Fin cfg0.N) (i : Fin 256) (j : Fin 1024) :
    (iblk m c 0 t : Vec Ideal S256x1024 .bf16) (ValueIdx.ix2 i j) = at2 (aQ m c) (256 * (t.val / 16) + i.val) (1024 * (t.val % 16) + j.val) := by
  have h := (index_eq t).1
  refine at2_of (aQ m c) (((cfg0.win 0).rect t).emb (ValueIdx.ix2 i j)) _ _ ?_ ?_
  · show (cfg0.win 0).index t 0 * 256 + 1 * i.val = _
    rw [h.1]; omega
  · show (cfg0.win 0).index t 1 * 1024 + 1 * j.val = _
    rw [h.2]; omega

/-- The key block. -/
theorem blk1_apply (t : Fin cfg0.N) (i : Fin 16384) (j : Fin 256) :
    (iblk m c 1 t : Vec Ideal S16384x256 .bf16) (ValueIdx.ix2 i j) = at2 (aK m c) i.val (256 * (t.val / 16) + j.val) := by
  have h := (index_eq t).2.1
  refine at2_of (aK m c) (((cfg0.win 1).rect t).emb (ValueIdx.ix2 i j)) _ _ ?_ ?_
  · show (cfg0.win 1).index t 0 * 16384 + 1 * i.val = _
    rw [h.1]; omega
  · show (cfg0.win 1).index t 1 * 256 + 1 * j.val = _
    rw [h.2]; omega

/-- The value block. -/
theorem blk2_apply (t : Fin cfg0.N) (i : Fin 128) (j : Fin 16384) :
    (iblk m c 2 t : Vec Ideal S128x16384 .bf16) (ValueIdx.ix2 i j) = at2 (aV m c) (128 * (t.val / 16) + i.val) j.val := by
  have h := (index_eq t).2.2.1
  refine at2_of (aV m c) (((cfg0.win 2).rect t).emb (ValueIdx.ix2 i j)) _ _ ?_ ?_
  · show (cfg0.win 2).index t 0 * 128 + 1 * i.val = _
    rw [h.1]; omega
  · show (cfg0.win 2).index t 1 * 16384 + 1 * j.val = _
    rw [h.2]; omega

/-- The context key block. -/
theorem blk3_apply (t : Fin cfg0.N) (i : Fin 256) (j : Fin 256) :
    (iblk m c 3 t : Vec Ideal S256x256 .bf16) (ValueIdx.ix2 i j) = at2 (aC m c) i.val (256 * (t.val / 16) + j.val) := by
  have h := (index_eq t).2.2.2.1
  refine at2_of (aC m c) (((cfg0.win 3).rect t).emb (ValueIdx.ix2 i j)) _ _ ?_ ?_
  · show (cfg0.win 3).index t 0 * 256 + 1 * i.val = _
    rw [h.1]; omega
  · show (cfg0.win 3).index t 1 * 256 + 1 * j.val = _
    rw [h.2]; omega

/-- The context value block. -/
theorem blk4_apply (t : Fin cfg0.N) (i : Fin 128) (j : Fin 256) :
    (iblk m c 4 t : Vec Ideal S128x256 .bf16) (ValueIdx.ix2 i j) = at2 (aD m c) (128 * (t.val / 16) + i.val) j.val := by
  have h := (index_eq t).2.2.2.2.1
  refine at2_of (aD m c) (((cfg0.win 4).rect t).emb (ValueIdx.ix2 i j)) _ _ ?_ ?_
  · show (cfg0.win 4).index t 0 * 128 + 1 * i.val = _
    rw [h.1]; omega
  · show (cfg0.win 4).index t 1 * 256 + 1 * j.val = _
    rw [h.2]; omega

/-- The result array. -/
def val : Vec Ideal S16384x512 .bf16 := fun z => Cert.Soft.out (aQ m c) (aK m c) (aV m c) (aC m c) (aD m c) (z 0).val (z 1).val

/-- The block left at a grid point, read at an index. -/
theorem outsAt_apply (hQ : Real2 (aQ m c)) (hK : Real2 (aK m c)) (hC : Real2 (aC m c)) (t : Fin cfg0.N) (e : Fin 2) (d : Fin 64) (r : Fin 1024) :
    outsAt (F := Ideal) m c t (ValueIdx.ix2 r ⟨64 * e.val + d.val, by omega⟩)
      = Cert.Soft.out (aQ m c) (aK m c) (aV m c) (aC m c) (aD m c) (1024 * (t.val % 16) + r.val) (128 * (t.val / 16) + (64 * e.val + d.val)) := by
  unfold outsAt
  have hh : (128 * (t.val / 16) + (64 * e.val + d.val)) / 64 = 2 * (t.val / 16) + e.val := by omega
  unfold Cert.Soft.out
  rw [hh]
  refine outBlk_apply _ _ _ _ _ e d r _ _ (fun key => ?_) (fun key => ?_) (fun key => ?_) (fun key => ?_)
  · rw [score_eq hQ hK hC]
    refine Finset.sum_congr rfl fun k _ => ?_
    rw [blk1_apply, blk0_apply]
    unfold keyAt
    rw [if_pos key.isLt]
    refine congrArg₂ (· * ·) (congrArg (at2 _ _) ?_) (congrArg (fun x => at2 _ x _) ?_) <;> show 256 * (t.val / 16) + (128 * e.val + k.val) = _ <;> omega
  · rw [score_eq hQ hK hC]
    refine Finset.sum_congr rfl fun k _ => ?_
    rw [blk3_apply, blk0_apply]
    unfold keyAt
    rw [if_neg (by omega), Nat.add_sub_cancel_left]
    refine congrArg₂ (· * ·) (congrArg (at2 _ _) ?_) (congrArg (fun x => at2 _ x _) ?_) <;> show 256 * (t.val / 16) + (128 * e.val + k.val) = _ <;> omega
  · rw [blk2_apply]
    unfold valAt
    rw [if_pos key.isLt]
  · rw [blk4_apply]
    unfold valAt
    rw [if_neg (by omega), Nat.add_sub_cancel_left]

/-- What each grid point writes back is its block of the result array. -/
theorem flushed_eq (hQ : Real2 (aQ m c)) (hK : Real2 (aK m c)) (hC : Real2 (aC m c)) (t : Fin cfg0.N) :
    (dats m 0 c).flushed 5 t = ((cfg0.win 5).blk t).view.read (Elt Ideal) (val m c) := by
  show (cfg0.win 5).cut (cfg0.grid.coords t) ((dats m 0 c).after 5 t) = _
  rw [after0_5]
  funext y
  have h := (index_eq t).2.2.2.2.2
  have hy0 : (y 0).val < 1024 := (y 0).isLt
  have hy1 : (y 1).val < 128 := (y 1).isLt
  have hi : (((cfg0.win 5).rect t).emb y 0).val = 1024 * (t.val % 16) + (y 0).val := by
    show (cfg0.win 5).index t 0 * 1024 + 1 * (y 0).val = _
    rw [h.1]; omega
  have hj : (((cfg0.win 5).rect t).emb y 1).val = 128 * (t.val / 16) + (64 * ((y 1).val / 64) + (y 1).val % 64) := by
    show (cfg0.win 5).index t 1 * 128 + 1 * (y 1).val = _
    rw [h.2]; omega
  have key := outsAt_apply m c hQ hK hC t ⟨(y 1).val / 64, by omega⟩ ⟨(y 1).val % 64, by omega⟩ ⟨(y 0).val, hy0⟩
  have e1 : (cfg0.win 5).cut (cfg0.grid.coords t) (outsAt m c t) y = outsAt (F := Ideal) m c t (ValueIdx.ix2 ⟨(y 0).val, hy0⟩ ⟨64 * ((y 1).val / 64) + (y 1).val % 64, by omega⟩) := by
    refine congrArg (outsAt (F := Ideal) m c t) (funext fun a => Fin.ext ?_)
    match a with
    | ⟨0, _⟩ => rfl
    | ⟨1, _⟩ => show (y 1).val = 64 * ((y 1).val / 64) + (y 1).val % 64; omega
  refine e1.trans (key.trans ?_)
  show _ = Cert.Soft.out (aQ m c) (aK m c) (aV m c) (aC m c) (aD m c) (((cfg0.win 5).rect t).emb y 0).val (((cfg0.win 5).rect t).emb y 1).val
  rw [hi, hj]

/-- The blocks cover the result array. -/
theorem cover (z : S16384x512.Idx) : ∃ t : Fin cfg0.N, (cfg0.win 5).flush t = true ∧ z ∈ ((cfg0.win 5).blk t).view.set := by
  have h0 : (z 0).val < 16384 := (z 0).isLt
  have h1 : (z 1).val < 512 := (z 1).isLt
  let t0 : Fin cfg0.N := ⟨16 * ((z 1).val / 128) + (z 0).val / 1024, by rw [show cfg0.N = 64 from N_0]; omega⟩
  refine ⟨t0, flush0_5 t0, ?_⟩
  show z ∈ ((View.whole main_v0).slice ((cfg0.win 5).rect t0)).set
  erw [View.set_slice_whole]
  refine (Pipeline.Window.mem_rect_iff (cfg0.win 5) t0 z (by rfl)).mpr fun a => ?_
  have h := (index_eq t0).2.2.2.2.2
  have hv : t0.val = 16 * ((z 1).val / 128) + (z 0).val / 1024 := rfl
  match a with
  | ⟨0, _⟩ =>
    show (cfg0.win 5).index t0 0 * 1024 ≤ (z 0).val ∧ (z 0).val < (cfg0.win 5).index t0 0 * 1024 + 1024
    rw [h.1, hv]; omega
  | ⟨1, _⟩ =>
    show (cfg0.win 5).index t0 1 * 128 ≤ (z 1).val ∧ (z 1).val < (cfg0.win 5).index t0 1 * 128 + 128
    rw [h.2, hv]; omega

/-- The result array at the end. -/
theorem final_eq (hQ : Real2 (aQ m c)) (hK : Real2 (aK m c)) (hC : Real2 (aC m c)) : (dats m 0 c).arrAt 5 cfg0.N = val m c :=
  (dats m 0 c).arrAt_eq_of_cover 5 (val m c) (fun t _ => flushed_eq m c hQ hK hC t) cover

/-- The run: the result array at the attention, the arguments unchanged. -/
theorem run_val (hQ : ∀ c, Real2 (aQ m c)) (hK : ∀ c, Real2 (aK m c)) (hC : ∀ c, Real2 (aC m c)) :
    θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ hr c => ⟨((hr.1 c).1 5).trans (final_eq m c (hQ c) (hK c) (hC c)),
    ((hr.1 c).1 0).trans ((dats m 0 c).arrAt_in 0 rfl _), ((hr.1 c).1 1).trans ((dats m 0 c).arrAt_in 1 rfl _),
    ((hr.1 c).1 2).trans ((dats m 0 c).arrAt_in 2 rfl _), ((hr.1 c).1 3).trans ((dats m 0 c).arrAt_in 3 rfl _),
    ((hr.1 c).1 4).trans ((dats m 0 c).arrAt_in 4 rfl _)⟩) (run_main m ρ)

end Cert.KernelIdeal.Steps

end
-- ==== Proof.RefValue.lean ====
/- The reference read entry by entry: the softmax of the scores times log 2, weighing the values. -/
module

public import Idealize.ShloMosaic.Lib.Pipeline.Value
public import Idealize.ShloMosaic.PureOps.Reduce
public import proofs.«01_k».proof.Proof.Spec
public import proofs.«01_k».proof.Proof.Gen.ReferenceIdeal.Read

@[expose] public section

set_option maxRecDepth 100000

noncomputable section

namespace Cert.ReferenceIdeal.Hand

open Cert.ReferenceIdeal Cert.ReferenceIdeal.Gen Cert.ReferenceIdeal.Read Cert.Soft
open Idealize.ShloMosaic Idealize.ShloMosaic.TcCoe
open scoped BigOperators

variable (x0 : Vec Ideal S1024x16384 .bf16) (x1 : Vec Ideal S16384x1024 .bf16) (x2 : Vec Ideal S512x16384 .bf16)
  (x3 : Vec Ideal S256x1024 .bf16) (x4 : Vec Ideal S512x256 .bf16)

/-- The queries, head by head. -/
theorem v2_at (i : S16384x8x128.Idx) : val_main_v2 (F := Ideal) x0 i = at2 x0 (128 * (i 1).val + (i 2).val) (i 0).val := by
  have h1 : (i 1).val < 8 := (i 1).isLt
  have h2 : (i 2).val < 128 := (i 2).isLt
  rw [val_main_v2_apply, val_main_v1_apply, val_main_v0_apply]
  refine at2_of x0 _ _ _ ?_ ?_
  · show (((i 0).val * 8 + (i 1).val) * 128 + (i 2).val) % 1024 = _
    omega
  · show (((i 0).val * 8 + (i 1).val) * 128 + (i 2).val) / 1024 = _
    omega

/-- The keys joined. -/
theorem v3_at (z : S16640x1024.Idx) : val_main_v3 (F := Ideal) x1 x3 z = keyAt x1 x3 (z 0).val (z 1).val := by
  have h0 : (z 0).val < 16640 := (z 0).isLt
  have h1 : (z 1).val < 1024 := (z 1).isLt
  unfold val_main_v3 keyAt
  split
  · rename_i h
    refine (concatenate_pair_apply_left (t := S16640x1024) (s₁ := S16384x1024) (s₂ := S256x1024) 0 x1 x3 _ z rfl (ValueIdx.ix2 ⟨(z 0).val, h⟩ ⟨(z 1).val, h1⟩) fun b => ?_).trans (at2_of x1 _ _ _ rfl rfl)
    match b with
    | ⟨0, _⟩ => rfl
    | ⟨1, _⟩ => rfl
  · rename_i h
    refine (concatenate_pair_apply_right (t := S16640x1024) (s₁ := S16384x1024) (s₂ := S256x1024) 0 x1 x3 _ z rfl rfl (ValueIdx.ix2 ⟨(z 0).val - 16384, by omega⟩ ⟨(z 1).val, h1⟩) (fun b hb => ?_) ?_).trans (at2_of x3 _ _ _ rfl rfl)
    · match b with
      | ⟨0, _⟩ => exact absurd rfl hb
      | ⟨1, _⟩ => rfl
    · show (z 0).val - 16384 + 16384 = (z 0).val
      omega

/-- The keys, head by head. -/
theorem v5_at (i : S16640x8x128.Idx) : val_main_v5 (F := Ideal) x1 x3 i = keyAt x1 x3 (i 0).val (128 * (i 1).val + (i 2).val) := by
  have h1 : (i 1).val < 8 := (i 1).isLt
  have h2 : (i 2).val < 128 := (i 2).isLt
  rw [val_main_v5_apply, val_main_v4_apply]
  refine (v3_at x1 x3 _).trans (congrArg₂ (keyAt x1 x3) ?_ ?_)
  · show (((i 0).val * 8 + (i 1).val) * 128 + (i 2).val) / 1024 = _
    omega
  · show (((i 0).val * 8 + (i 1).val) * 128 + (i 2).val) % 1024 = _
    omega

/-- The values joined. -/
theorem v6_at (z : S512x16640.Idx) : val_main_v6 (F := Ideal) x2 x4 z = valAt x2 x4 (z 0).val (z 1).val := by
  have h0 : (z 0).val < 512 := (z 0).isLt
  have h1 : (z 1).val < 16640 := (z 1).isLt
  unfold val_main_v6 valAt
  split
  · rename_i h
    refine (concatenate_pair_apply_left (t := S512x16640) (s₁ := S512x16384) (s₂ := S512x256) 1 x2 x4 _ z rfl (ValueIdx.ix2 ⟨(z 0).val, h0⟩ ⟨(z 1).val, h⟩) fun b => ?_).trans (at2_of x2 _ _ _ rfl rfl)
    match b with
    | ⟨0, _⟩ => rfl
    | ⟨1, _⟩ => rfl
  · rename_i h
    refine (concatenate_pair_apply_right (t := S512x16640) (s₁ := S512x16384) (s₂ := S512x256) 1 x2 x4 _ z rfl rfl (ValueIdx.ix2 ⟨(z 0).val, h0⟩ ⟨(z 1).val - 16384, by omega⟩) (fun b hb => ?_) ?_).trans (at2_of x4 _ _ _ rfl rfl)
    · match b with
      | ⟨0, _⟩ => rfl
      | ⟨1, _⟩ => exact absurd rfl hb
    · show (z 1).val - 16384 + 16384 = (z 1).val
      omega

/-- The values, head by head. -/
theorem v9_at (i : S16640x8x64.Idx) : val_main_v9 (F := Ideal) x2 x4 i = valAt x2 x4 (64 * (i 1).val + (i 2).val) (i 0).val := by
  have h1 : (i 1).val < 8 := (i 1).isLt
  have h2 : (i 2).val < 64 := (i 2).isLt
  rw [val_main_v9_apply, val_main_v8_apply, val_main_v7_apply]
  refine (v6_at x2 x4 _).trans (congrArg₂ (valAt x2 x4) ?_ ?_)
  · show (((i 0).val * 8 + (i 1).val) * 64 + (i 2).val) % 512 = _
    omega
  · show (((i 0).val * 8 + (i 1).val) * 64 + (i 2).val) / 512 = _
    omega

variable (hQ : Real2 x0) (hK : Real2 x1) (hC : Real2 x3)

/-- The logarithm of 2. -/
theorem v12_at (i : S8x16384x16640.Idx) : val_main_v12 (F := Ideal) i = ((Real.log 2 : ℝ) : EReal) := by
  rw [val_main_v12_apply, val_main_v11_apply, val_main_cst_apply]
  have e : (FloatOps.ofBits (F := Ideal) .f32 0x40000000#32 : EReal) = ((2 : ℝ) : EReal) := by
    show Ideal.ofBits .f32 0x40000000#32 = _
    unfold Ideal.ofBits Ideal.ieee
    dsimp only
    rw [if_neg (by decide), if_neg (by decide)]
    congr 1
    have e1 : (BitVec.extractLsb' (8 + 23) 1 0x40000000#32 == 1#1) = false := by decide
    have e2 : (BitVec.extractLsb' 23 8 0x40000000#32).toNat = 128 := by decide
    have e3 : (BitVec.extractLsb' 0 23 0x40000000#32).toNat = 0 := by decide
    rw [e1, e2, e3]
    norm_num
  rw [e]
  show (if (2 : ℝ) ≤ 0 then (⊥ : EReal) else ((Real.log 2 : ℝ) : EReal)) = _
  rw [if_neg (by norm_num)]

include hQ hK hC in
/-- The scores times log 2. -/
theorem v13_at (i : S8x16384x16640.Idx) :
    val_main_v13 (F := Ideal) x0 x1 x3 i = ((score x0 x1 x3 (i 0).val (i 1).val (i 2).val * Real.log 2 : ℝ) : EReal) := by
  rw [val_main_v13_apply, v12_at, val_main_v10_apply, EReal.coe_mul, score_eq hQ hK hC]
  refine congrArg (· * ((Real.log 2 : ℝ) : EReal)) (Finset.sum_congr rfl fun k _ => ?_)
  rw [v2_at, v5_at]
  exact mul_comm _ _

include hQ hK hC in
/-- What is subtracted from a query's scores is real, one number for all keys. -/
theorem v18_at (h : Fin 8) (n : Fin 16384) : ∃ M : ℝ, ∀ i : S8x16384x16640.Idx, (i 0).val = h.val → (i 1).val = n.val →
    val_main_v18 (F := Ideal) x0 x1 x3 i = (M : EReal) := by
  let j : S8x16384.Idx := ValueIdx.ix2 h n
  have hr : S8x16384x16640.Reduces [2] S8x16384 := by decide
  have hb : Ideal.ofBits .f32 0xFF800000#32 = (⊥ : EReal) := by simp [Ideal.ofBits, Ideal.ieee]
  obtain ⟨M, hM⟩ := fold_max_real (Finset.univ : Finset (Fin 16640)) (Ideal.ofBits .f32 0xFF800000#32) (by rw [hb]; exact bot_ne_top)
    (fun k => score x0 x1 x3 h.val n.val k.val * Real.log 2) (.inl ⟨0, Finset.mem_univ _⟩)
  refine ⟨M, fun i hi0 hi1 => ?_⟩
  rw [val_main_v18_apply, val_main_v17_apply, val_main_v16_apply]
  have ej : idx_main_v17 (idx_main_v18 i) = j := by
    funext a; apply Fin.ext
    match a with
    | ⟨0, _⟩ => exact hi0
    | ⟨1, _⟩ => exact hi1
  rw [ej]
  have e15 : val_main_v15 (F := Ideal) j = (⊥ : EReal) := by
    rw [val_main_v15_apply, val_main_cst_1_apply]; exact hb
  have e14 : val_main_v14 (F := Ideal) x0 x1 x3 j = (M : EReal) := by
    unfold val_main_v14
    rw [Host.reduce_eq_fold_single FloatOps.maximumf _ _ _ hr]
    refine Eq.trans ?_ hM
    refine congrArg (fun f => (Finset.univ : Finset (Fin 16640)).fold max (Ideal.ofBits .f32 0xFF800000#32) f) (funext fun k => ?_)
    exact v13_at x0 x1 x3 hQ hK hC _
  rw [e15, e14]
  exact max_eq_right bot_le

include hQ hK hC in
/-- The reference's result, entry by entry. -/
theorem v28_at (i : S16384x512.Idx) :
    val_main_v28 (F := Ideal) x0 x1 x2 x3 x4 i = Cert.Soft.out x0 x1 x2 x3 x4 (i 0).val (i 1).val := by
  have h0 : (i 0).val < 16384 := (i 0).isLt
  have h1 : (i 1).val < 512 := (i 1).isLt
  obtain ⟨M, hM⟩ := v18_at x0 x1 x3 hQ hK hC ⟨(i 1).val / 64, by omega⟩ (i 0)
  have e20 : ∀ z : S8x16384x16640.Idx, (z 0).val = (i 1).val / 64 → (z 1).val = (i 0).val →
      val_main_v20 (F := Ideal) x0 x1 x3 z = ((Real.exp (score x0 x1 x3 ((i 1).val / 64) (i 0).val (z 2).val * Real.log 2 - M) : ℝ) : EReal) := by
    intro z hz0 hz1
    rw [val_main_v20_apply, val_main_v19_apply, v13_at x0 x1 x3 hQ hK hC, hM z hz0 hz1, hz0, hz1]
    show Ideal.exp (((_ : ℝ) : EReal) - ((M : ℝ) : EReal)) = _
    rw [← EReal.coe_sub]; rfl
  rw [val_main_v28_apply, val_main_v27_apply, val_main_v26_apply, val_main_v25_apply]
  unfold Cert.Soft.out
  rw [← attn_exp 16640 (by norm_num) M]
  refine Finset.sum_congr rfl fun k _ => congrArg₂ (· * ·) ?_ ?_
  · refine (v9_at x2 x4 _).trans (congrArg (fun c => valAt x2 x4 c k.val) ?_)
    show 64 * (((i 0).val * 512 + (i 1).val) / 64 % 8) + ((i 0).val * 512 + (i 1).val) % 64 = (i 1).val
    omega
  · rw [val_main_v24_apply, val_main_v23_apply, val_main_v22_apply, val_main_v21_apply]
    refine congrArg₂ Ideal.div (e20 _ ?_ ?_) (congrArg₂ (· + ·) Ideal.ofBits_zero_f32 (Finset.sum_congr rfl fun j _ => e20 _ ?_ ?_)) <;> first
      | (show ((i 0).val * 512 + (i 1).val) / 64 % 8 = (i 1).val / 64; omega)
      | (show ((i 0).val * 512 + (i 1).val) / 512 = (i 0).val; omega)

end Cert.ReferenceIdeal.Hand

end
-- ==== Proof.Equal.lean ====
/- The algebraic claim: what the precondition says, and the two programs' results one array. -/
module

public import proofs.«01_k».proof.Defs
public import proofs.«01_k».proof.Proof.KernelIdeal.Array
public import proofs.«01_k».proof.Proof.RefValue
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores

@[expose] public section

set_option maxRecDepth 100000

noncomputable section

namespace Cert.Attn

open Idealize.ShloMosaic Idealize.ShloMosaic.TcCoe Idealize.SL.Sem
open Cert.Soft

/-- A number whose absolute value lies below infinity is real. -/
theorem real_of_abs_lt {x : EReal} (h : max x (-x) < ⊤) : x ≠ ⊤ ∧ x ≠ ⊥ := by
  constructor
  · rintro rfl
    exact absurd h (by simp)
  · rintro rfl
    exact absurd h (by simp)

/-- The word of infinity. -/
theorem inf_word : Ideal.ofBits .bf16 0x7F80#16 = (⊤ : EReal) := by simp [Ideal.ofBits, Ideal.ieee]

/-- The precondition's comparison, one at every place, says the matrix is real. -/
theorem real2_of {a b : Nat} (x : FVec Ideal ⟨2, ![a, b]⟩ .bf16) (h : (⟨0, ![]⟩ : Shape).BroadcastsInDim ⟨2, ![a, b]⟩ ![])
    (e : cmpf .olt (Host.absf x) (broadcastInDim ⟨2, ![a, b]⟩ ![] h (constant ⟨0, ![]⟩ .bf16 0x7F80#16)) = fun _ => 1#1) : Real2 x := by
  intro z
  have ez : BitVec.ofBool (decide (max (x z : EReal) (-(x z : EReal)) < Ideal.ofBits .bf16 0x7F80#16)) = 1#1 := congrFun e z
  rw [inf_word] at ez
  have one (p : Bool) : BitVec.ofBool p = 1#1 → p = true := by cases p <;> decide
  exact real_of_abs_lt (of_decide_eq_true (one _ ez))

/-- The two programs end with one result. -/
theorem algebraic : Cert.algebraic_KernelIdeal_ReferenceIdeal_pre_finite_scores := by
  intro m g m' g' hp ha
  have hQ : ∀ c, Real2 (Cert.KernelIdeal.Steps.aQ m c) := fun c => real2_of _ _ (hp c).1
  have hK : ∀ c, Real2 (Cert.KernelIdeal.Steps.aK m c) := fun c => real2_of _ _ (hp c).2.1
  have hC : ∀ c, Real2 (Cert.KernelIdeal.Steps.aC m c) := fun c => real2_of _ _ (hp c).2.2
  refine ⟨fun c => Cert.KernelIdeal.Steps.val m c, Cert.KernelIdeal.Steps.run_val m g hQ hK hC, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v28_eq, (ha c).1, (ha c).2.1, (ha c).2.2.1, (ha c).2.2.2.1, (ha c).2.2.2.2]
  exact funext fun i => Cert.ReferenceIdeal.Hand.v28_at _ _ _ _ _ (hQ c) (hK c) (hC c) i

end Cert.Attn

end
-- ==== Proof.Sgu.Spec.lean ====
/- The gated layer both programs compute, entry by entry, over arrays read at numbers; and its rows a block at a time. -/
module

public import Idealize.ShloMosaic.Lib.ValueIdx
public import proofs.«01_k».proof.Proof.Spec

@[expose] public section

noncomputable section

namespace Cert.Sgu

open Idealize.ShloMosaic
open scoped BigOperators

/-- The arrays of the layer, read at numbers: stream, the two attentions, gate; modulation, out-projection; modulation, norm, in-projection,
norm's scale and shift, spatial weights and biases, out-projection, last norm. -/
structure In where
  x : ℕ → ℕ → EReal
  a : ℕ → ℕ → EReal
  b : ℕ → ℕ → EReal
  s : ℕ → ℕ → EReal
  am : ℕ → ℕ → EReal
  w : ℕ → ℕ → EReal
  m : ℕ → ℕ → EReal
  ng : ℕ → ℕ → EReal
  win : ℕ → ℕ → EReal
  lg : ℕ → ℕ → EReal
  lb : ℕ → ℕ → EReal
  ws : ℕ → ℕ → ℕ → EReal
  bs : ℕ → ℕ → EReal
  wo : ℕ → ℕ → EReal
  fn : ℕ → ℕ → EReal

/-- A stack of matrices read at three numbers, 0 outside. -/
def at3 {a b c : ℕ} (x : (⟨3, ![a, b, c]⟩ : Shape).Idx → EReal) (i j k : ℕ) : EReal :=
  if h : i < a ∧ j < b ∧ k < c then x (ValueIdx.ix3 ⟨i, h.1⟩ ⟨j, h.2.1⟩ ⟨k, h.2.2⟩) else 0

/-- Inside, at any index of those coordinates. -/
theorem at3_of {a b c : ℕ} (x : (⟨3, ![a, b, c]⟩ : Shape).Idx → EReal) (z : (⟨3, ![a, b, c]⟩ : Shape).Idx) (i j k : ℕ)
    (hi : (z 0).val = i) (hj : (z 1).val = j) (hk : (z 2).val = k) : x z = at3 x i j k := by
  subst hi hj hk
  unfold at3
  rw [dif_pos ⟨(z 0).isLt, (z 1).isLt, (z 2).isLt⟩]
  exact congrArg x (ValueIdx.eq_ix3 z)

/-- The layer's arrays from arrays of their shapes. -/
def In.of (x : (⟨2, ![16384, 1024]⟩ : Shape).Idx → EReal) (a b : (⟨2, ![16384, 512]⟩ : Shape).Idx → EReal) (s : (⟨2, ![16384, 1024]⟩ : Shape).Idx → EReal)
    (am : (⟨2, ![8, 3072]⟩ : Shape).Idx → EReal) (w : (⟨2, ![1024, 1024]⟩ : Shape).Idx → EReal) (m : (⟨2, ![8, 3072]⟩ : Shape).Idx → EReal)
    (ng : (⟨2, ![1, 1024]⟩ : Shape).Idx → EReal) (win : (⟨2, ![1024, 6144]⟩ : Shape).Idx → EReal) (lg lb : (⟨2, ![1, 2048]⟩ : Shape).Idx → EReal)
    (ws : (⟨3, ![8, 128, 128]⟩ : Shape).Idx → EReal) (bs : (⟨3, ![8, 128, 1]⟩ : Shape).Idx → EReal) (wo : (⟨2, ![2048, 1024]⟩ : Shape).Idx → EReal)
    (fn : (⟨2, ![1, 1024]⟩ : Shape).Idx → EReal) : In :=
  { x := Cert.Soft.at2 x, a := Cert.Soft.at2 a, b := Cert.Soft.at2 b, s := Cert.Soft.at2 s, am := Cert.Soft.at2 am, w := Cert.Soft.at2 w, m := Cert.Soft.at2 m,
    ng := Cert.Soft.at2 ng, win := Cert.Soft.at2 win, lg := Cert.Soft.at2 lg, lb := Cert.Soft.at2 lb, ws := at3 ws, bs := fun g t => at3 bs g t 0,
    wo := Cert.Soft.at2 wo, fn := Cert.Soft.at2 fn }

/-- The constants, by their words: one half, one, a millionth, 1024, 2048. -/
def half : EReal := Ideal.ofBits .f32 0x3F000000#32
def one : EReal := Ideal.ofBits .f32 0x3F800000#32
def eps : EReal := Ideal.ofBits .f32 0x358637BD#32
def n1024 : EReal := Ideal.ofBits .f32 0x44800000#32
def n2048 : EReal := Ideal.ofBits .f32 0x45000000#32

/-- `1/√2`. -/
def isq : EReal := (((Real.sqrt 2)⁻¹ : ℝ) : EReal)

/-- The exact GELU. -/
def gelu (z : EReal) : EReal := half * z * (one + Ideal.erf (z * isq))

/-- The SiLU. -/
def silu (z : EReal) : EReal := z * Ideal.logistic z

/-- The scale that brings a row's mean square to one. -/
def rs (s n : EReal) : EReal := Ideal.rsqrt (Ideal.div s n + eps)

variable (p : In)

/-- The gated attention: the two halves side by side. -/
def att (n k : ℕ) : EReal := if k < 512 then p.a n k * p.s n k else p.b n (k - 512) * p.s n k

/-- The stream after the attention's update. -/
def x1 (n j : ℕ) : EReal := p.x n j + p.am 0 (2048 + j) * ∑ k : Fin 1024, att p n k * p.w k j

/-- The modulated norm of it. -/
def hid (n j : ℕ) : EReal :=
  x1 p n j * rs (∑ k : Fin 1024, x1 p n k * x1 p n k) n1024 * p.ng 0 j * (one + p.m 0 (1024 + j)) + p.m 0 j

/-- Its projection. -/
def pr (n c : ℕ) : EReal := ∑ k : Fin 1024, hid p n k * p.win k c

/-- The half that is mixed over positions. -/
def vv (n c : ℕ) : EReal := gelu (pr p n (2048 + c))

/-- It, less its mean. -/
def vc (n c : ℕ) : EReal := vv p n c - Ideal.div (∑ k : Fin 2048, vv p n k) n2048

/-- It, normed. -/
def vn (n c : ℕ) : EReal := vc p n c * rs (∑ k : Fin 2048, vc p n k * vc p n k) n2048 * p.lg 0 c + p.lb 0 c

/-- The mixing over the 128 positions of a position's group, with one matrix for each 256 columns. -/
def sv (n c : ℕ) : EReal := (∑ s : Fin 128, p.ws (c / 256) (n % 128) s * vn p (128 * (n / 128) + s) c) + p.bs (c / 256) (n % 128)

/-- The gated product. -/
def zz (n c : ℕ) : EReal := gelu (pr p n c) * sv p n c * silu (pr p n (4096 + c))

/-- The stream after the layer's update. -/
def oo (n j : ℕ) : EReal := x1 p n j + p.m 0 (2048 + j) * ∑ c : Fin 2048, zz p n c * p.wo c j

/-- The result: the last norm of it. -/
def res (n j : ℕ) : EReal := oo p n j * rs (∑ k : Fin 1024, oo p n k * oo p n k) n1024 * p.fn 0 j

/-- The arrays with the rows from `512 t` on. -/
def In.from (t : ℕ) : In :=
  { p with x := fun n => p.x (512 * t + n), a := fun n => p.a (512 * t + n), b := fun n => p.b (512 * t + n), s := fun n => p.s (512 * t + n) }

variable (t : ℕ)

/-- The updated stream of the later rows is its later rows. -/
theorem x1_from (n j : ℕ) : x1 (p.from t) n j = x1 p (512 * t + n) j := rfl

/-- The same for the modulated norm, -/
theorem hid_from (n j : ℕ) : hid (p.from t) n j = hid p (512 * t + n) j := rfl

/-- for the projection, -/
theorem pr_from (n c : ℕ) : pr (p.from t) n c = pr p (512 * t + n) c := rfl

/-- for the normed half, -/
theorem vn_from (n c : ℕ) : vn (p.from t) n c = vn p (512 * t + n) c := rfl

/-- The groups of 128 positions do not straddle a block. -/
theorem sv_from (n c : ℕ) : sv (p.from t) n c = sv p (512 * t + n) c := by
  unfold sv
  have e1 : (512 * t + n) % 128 = n % 128 := by omega
  have e2 : ∀ s : ℕ, 128 * ((512 * t + n) / 128) + s = 512 * t + (128 * (n / 128) + s) := fun s => by omega
  rw [e1]
  refine congrArg (· + _) (Finset.sum_congr rfl fun s _ => ?_)
  rw [e2, ← vn_from]
  rfl

/-- The gated product of a block is the product there. -/
theorem zz_from (n c : ℕ) : zz (p.from t) n c = zz p (512 * t + n) c := by
  unfold zz
  rw [sv_from, pr_from, pr_from]

/-- The same for the last stream. -/
theorem oo_from (n j : ℕ) : oo (p.from t) n j = oo p (512 * t + n) j := by
  unfold oo
  simp only [zz_from, x1_from]
  rfl

/-- A block's rows of the result are the result's rows there. -/
theorem res_from (n j : ℕ) : res (p.from t) n j = res p (512 * t + n) j := by
  unfold res
  simp only [oo_from]
  rfl

/-- A sum over 1024 by its halves. -/
theorem sum_halves (f : ℕ → EReal) : ∑ k : Fin 1024, f k = (∑ k : Fin 512, f k) + ∑ k : Fin 512, f (512 + k) := by
  show ∑ k : Fin (512 + 512), f k = _
  rw [Fin.sum_univ_add]
  rfl

/-- A sum over the first `g + 1` groups of 256. -/
theorem sum_group (f : ℕ → EReal) (g : ℕ) :
    ∑ k : Fin (256 * (g + 1)), f k = (∑ k : Fin (256 * g), f k) + ∑ k : Fin 256, f (256 * g + k) := by
  show ∑ k : Fin (256 * g + 256), f k = _
  rw [Fin.sum_univ_add]
  rfl

end Cert.Sgu

end
-- ==== Proof.Sgu.Reads.lean ====
/- Arrays read at numbers: what each vector operation makes of them. -/
module

public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.Pipeline.Value
public import Idealize.ShloMosaic.Lib.Pipeline.ValueKit

@[expose] public section

set_option maxRecDepth 100000

noncomputable section

namespace Cert.Sgu

open Idealize.ShloMosaic Idealize.ShloMosaic.ValueIdx
open Idealize.ShloMosaic.TcCoe
open scoped BigOperators

/-- A matrix reads as a function of two numbers. -/
def Is {a b : ℕ} (x : (⟨2, ![a, b]⟩ : Shape).Idx → EReal) (f : ℕ → ℕ → EReal) : Prop := ∀ (i : Fin a) (j : Fin b), x (ValueIdx.ix2 i j) = f i j

/-- So does one as a function of three. -/
def Is3 {a b c : ℕ} (x : (⟨3, ![a, b, c]⟩ : Shape).Idx → EReal) (f : ℕ → ℕ → ℕ → EReal) : Prop :=
  ∀ (i : Fin a) (j : Fin b) (k : Fin c), x (ValueIdx.ix3 i j k) = f i j k

variable {a b : ℕ} {φ : FTy}

/-- The same at equal functions. -/
theorem Is.congr {x : (⟨2, ![a, b]⟩ : Shape).Idx → EReal} {f g : ℕ → ℕ → EReal} (h : Is x f) (e : ∀ i j, i < a → j < b → f i j = g i j) : Is x g :=
  fun i j => (h i j).trans (e i j i.isLt j.isLt)

/-- The sum of two matrices, entry by entry. -/
theorem Is.addf {x y : FVec Ideal ⟨2, ![a, b]⟩ φ} {f g : ℕ → ℕ → EReal} (hx : Is x f) (hy : Is y g) :
    Is (Idealize.ShloMosaic.addf x y) (fun i j => f i j + g i j) := fun i j => congrArg₂ (· + ·) (hx i j) (hy i j)

/-- The difference. -/
theorem Is.subf {x y : FVec Ideal ⟨2, ![a, b]⟩ φ} {f g : ℕ → ℕ → EReal} (hx : Is x f) (hy : Is y g) :
    Is (Idealize.ShloMosaic.subf x y) (fun i j => f i j - g i j) := fun i j => congrArg₂ (· - ·) (hx i j) (hy i j)

/-- The product. -/
theorem Is.mulf {x y : FVec Ideal ⟨2, ![a, b]⟩ φ} {f g : ℕ → ℕ → EReal} (hx : Is x f) (hy : Is y g) :
    Is (Idealize.ShloMosaic.mulf x y) (fun i j => f i j * g i j) := fun i j => congrArg₂ (· * ·) (hx i j) (hy i j)

/-- The quotient. -/
theorem Is.divf {x y : FVec Ideal ⟨2, ![a, b]⟩ φ} {f g : ℕ → ℕ → EReal} (hx : Is x f) (hy : Is y g) :
    Is (Idealize.ShloMosaic.divf x y) (fun i j => Ideal.div (f i j) (g i j)) := fun i j => congrArg₂ Ideal.div (hx i j) (hy i j)

/-- The reciprocal square root. -/
theorem Is.rsqrt {x : FVec Ideal ⟨2, ![a, b]⟩ φ} {f : ℕ → ℕ → EReal} (hx : Is x f) :
    Is (Idealize.ShloMosaic.rsqrt x) (fun i j => Ideal.rsqrt (f i j)) := fun i j => congrArg Ideal.rsqrt (hx i j)

/-- The error function. -/
theorem Is.erf {x : FVec Ideal ⟨2, ![a, b]⟩ φ} {f : ℕ → ℕ → EReal} (hx : Is x f) :
    Is (Idealize.ShloMosaic.erf x) (fun i j => Ideal.erf (f i j)) := fun i j => congrArg Ideal.erf (hx i j)

/-- The logistic. -/
theorem Is.logistic {x : FVec Ideal ⟨2, ![a, b]⟩ φ} {f : ℕ → ℕ → EReal} (hx : Is x f) :
    Is (Idealize.ShloMosaic.logistic x) (fun i j => Ideal.logistic (f i j)) := fun i j => congrArg Ideal.logistic (hx i j)

/-- A narrower format changes nothing. -/
theorem Is.truncf {ψ : FTy} {x : FVec Ideal ⟨2, ![a, b]⟩ φ} {f : ℕ → ℕ → EReal} (hx : Is x f) (h : ψ.bits < φ.bits) :
    Is (Idealize.ShloMosaic.truncf ψ x h) f := hx

/-- A wider format changes nothing. -/
theorem Is.extf {ψ : FTy} {x : FVec Ideal ⟨2, ![a, b]⟩ φ} {f : ℕ → ℕ → EReal} (hx : Is x f) (h : φ.bits < ψ.bits) :
    Is (Idealize.ShloMosaic.extf ψ x h) f := hx

/-- A constant matrix. -/
theorem Is.splat (v : EReal) : Is (a := a) (b := b) (broadcast ⟨2, ![a, b]⟩ v) (fun _ _ => v) := fun _ _ => rfl

/-- A row over many rows. -/
theorem Is.row {v : (⟨2, ![1, b]⟩ : Shape).Idx → EReal} {f : ℕ → ℕ → EReal} (hv : Is v f) (h : (⟨2, ![1, b]⟩ : Shape).Broadcasts ⟨2, ![a, b]⟩) :
    Is (broadcastTo ⟨2, ![a, b]⟩ v h) (fun _ j => f 0 j) := fun i j => (broadcastTo_1b_ab_apply v h i j).trans (hv 0 j)

/-- A column over many columns. -/
theorem Is.col {v : (⟨2, ![a, 1]⟩ : Shape).Idx → EReal} {f : ℕ → ℕ → EReal} (hv : Is v f) (h : (⟨2, ![a, 1]⟩ : Shape).Broadcasts ⟨2, ![a, b]⟩) :
    Is (broadcastTo ⟨2, ![a, b]⟩ v h) (fun i _ => f i 0) := fun i j => by
  refine (broadcastTo_apply v h (ValueIdx.ix2 i j) (ValueIdx.ix2 i (0 : Fin 1)) fun ax => ?_).trans (hv i 0)
  match ax with
  | ⟨0, _⟩ =>
    show i.val = if a = 1 then 0 else i.val
    split
    · have := i.isLt; omega
    · rfl
  | ⟨1, _⟩ => rfl

/-- The sums of the rows, as a column. -/
theorem Is.sum {x : FVec Ideal ⟨2, ![a, b]⟩ φ} {f : ℕ → ℕ → EReal} (hx : Is x f) (acc : BitVec φ.bits)
    (h : Shape.Reduces ⟨2, ![a, b]⟩ [(1 : Fin 2)] ⟨1, ![a]⟩) (hφ : FKind.Formats φ) (hacc : acc = FKind.add.neutral φ hφ)
    (h' : (⟨1, ![a]⟩ : Shape).ShapeCasts ⟨2, ![a, 1]⟩) :
    Is (shapeCast ⟨2, ![a, 1]⟩ (multiReduction .add [(1 : Fin 2)] ⟨1, ![a]⟩ x acc h hφ hacc) h') (fun i _ => ∑ k : Fin b, f i k) := fun i j => by
  refine (shapeCast_a_a1_apply _ h' i j).trans ((Ideal.multiReduction_add_single x acc h hφ hacc (ValueIdx.ix1 i)).trans ?_)
  refine Finset.sum_congr rfl fun k _ => Eq.trans (congrArg x (funext fun ax => Fin.ext ?_)) (hx i k)
  match ax with
  | ⟨0, _⟩ => rfl
  | ⟨1, _⟩ => rfl

/-- A product of matrices. -/
theorem Is.dot {n : ℕ} {φ₁ φ₂ : FTy} {x : FVec Ideal ⟨2, ![a, n]⟩ φ₁} {y : FVec Ideal ⟨2, ![n, b]⟩ φ₂} {f g : ℕ → ℕ → EReal} (hx : Is x f) (hy : Is y g)
    (prec : Option ContractPrecision) :
    Is (FloatOps.matmul (F := Ideal) (DotDims.plain a n b) prec x y (constant ⟨2, ![a, b]⟩ .f32 0x00000000#32)) (fun i j => ∑ k : Fin n, f i k * g k j) := fun i j => by
  refine (Ideal.matmul_plain_apply prec x y _ i j).trans ?_
  rw [show (constant (F := Ideal) ⟨2, ![a, b]⟩ .f32 0x00000000#32) (ValueIdx.ix2 i j) = 0 from Ideal.ofBits_zero_f32, zero_add]
  exact Finset.sum_congr rfl fun k _ => congrArg₂ (· * ·) (hx i k) (hy k j)

/-- A slice. -/
theorem Is.slice {a' b' : ℕ} {x : (⟨2, ![a, b]⟩ : Shape).Idx → EReal} {f : ℕ → ℕ → EReal} (hx : Is x f) (p q : ℕ)
    (h : (⟨2, ![a, b]⟩ : Shape).Slices ![p, q] ⟨2, ![a', b']⟩) :
    Is (extractStridedSlice ⟨2, ![a', b']⟩ ![p, q] x h) (fun i j => f (p + i) (q + j)) := fun i j => by
  have h0 : p + a' ≤ a := h.2 0
  have h1 : q + b' ≤ b := h.2 1
  refine (extractStridedSlice_apply _ x h (ValueIdx.ix2 i j) (ValueIdx.ix2 ⟨p + i.val, by omega⟩ ⟨q + j.val, by omega⟩) fun ax => ?_).trans (hx _ _)
  match ax with
  | ⟨0, _⟩ => rfl
  | ⟨1, _⟩ => rfl

/-- A load of a rectangle. -/
theorem Is.ld {a' b' : ℕ} {x : (⟨2, ![a, b]⟩ : Shape).Idx → EReal} {f : ℕ → ℕ → EReal} (hx : Is x f) (p q : ℕ)
    (inb : ∀ ax : Fin 2, (![p, q] : Fin 2 → ℕ) ax + (![a', b'] : Fin 2 → ℕ) ax ≤ (⟨2, ![a, b]⟩ : Shape).size ax) :
    Is (a := a') (b := b') (fun y => x ((Rect.unit (s := ⟨2, ![a, b]⟩) ![p, q] ![a', b'] inb).idx y)) (fun i j => f (p + i) (q + j)) := fun i j => by
  have h0 : p + a' ≤ a := inb 0
  have h1 : q + b' ≤ b := inb 1
  refine Eq.trans (congrArg x (funext fun ax => Fin.ext ?_)) (hx ⟨p + i.val, by omega⟩ ⟨q + j.val, by omega⟩)
  refine (Rect.idx_unit_val _ _ inb (ValueIdx.ix2 i j) ax).trans ?_
  match ax with
  | ⟨0, _⟩ => rfl
  | ⟨1, _⟩ => rfl

/-- A load of one matrix of a stack, as a matrix. -/
theorem Is3.ld {c : ℕ} {x : (⟨3, ![c, a, b]⟩ : Shape).Idx → EReal} {f : ℕ → ℕ → ℕ → EReal} (hx : Is3 x f) (g : ℕ)
    (inb : ∀ ax : Fin 3, (![g, 0, 0] : Fin 3 → ℕ) ax + (![1, a, b] : Fin 3 → ℕ) ax ≤ (⟨3, ![c, a, b]⟩ : Shape).size ax)
    (h : (⟨3, ![1, a, b]⟩ : Shape).ShapeCasts ⟨2, ![a, b]⟩) :
    Is (shapeCast ⟨2, ![a, b]⟩ (fun y => x ((Rect.unit (s := ⟨3, ![c, a, b]⟩) ![g, 0, 0] ![1, a, b] inb).idx y)) h) (fun i j => f g i j) := fun i j => by
  have h0 : g + 1 ≤ c := inb 0
  refine (shapeCast_1ab_ab_apply _ h i j).trans ?_
  refine Eq.trans (congrArg x (funext fun ax => Fin.ext ?_)) (hx ⟨g, by omega⟩ i j)
  refine (Rect.idx_unit_val _ _ inb (ValueIdx.ix3 0 i j) ax).trans ?_
  match ax with
  | ⟨0, _⟩ => rfl
  | ⟨1, _⟩ => exact Nat.zero_add _
  | ⟨2, _⟩ => exact Nat.zero_add _

/-- Four pieces of 128 rows, one above the other. -/
theorem Is.four {x0 x1 x2 x3 : (⟨2, ![128, b]⟩ : Shape).Idx → EReal} {f : ℕ → ℕ → EReal}
    (h0 : Is x0 (fun i j => f (128 * 0 + i) j)) (h1 : Is x1 (fun i j => f (128 * 1 + i) j))
    (h2 : Is x2 (fun i j => f (128 * 2 + i) j)) (h3 : Is x3 (fun i j => f (128 * 3 + i) j))
    (h : Shape.Concatenates [⟨2, ![128, b]⟩, ⟨2, ![128, b]⟩, ⟨2, ![128, b]⟩, ⟨2, ![128, b]⟩] ⟨2, ![512, b]⟩ 0) :
    Is (concatenate ⟨2, ![512, b]⟩ 0 [⟨⟨2, ![128, b]⟩, x0⟩, ⟨⟨2, ![128, b]⟩, x1⟩, ⟨⟨2, ![128, b]⟩, x2⟩, ⟨⟨2, ![128, b]⟩, x3⟩] h) f := fun i j => by
  have key : ∀ (k : ℕ) (hk : k < 4) (x : (⟨2, ![128, b]⟩ : Shape).Idx → EReal)
      (hxk : [(⟨⟨2, ![128, b]⟩, x0⟩ : (s : Shape) × (s.Idx → EReal)), ⟨⟨2, ![128, b]⟩, x1⟩, ⟨⟨2, ![128, b]⟩, x2⟩, ⟨⟨2, ![128, b]⟩, x3⟩][k] = ⟨⟨2, ![128, b]⟩, x⟩)
      (hpre : ((([(⟨⟨2, ![128, b]⟩, x0⟩ : (s : Shape) × (s.Idx → EReal)), ⟨⟨2, ![128, b]⟩, x1⟩, ⟨⟨2, ![128, b]⟩, x2⟩, ⟨⟨2, ![128, b]⟩, x3⟩].take k).map (·.1)).map
        fun s => if h : s.rank = (⟨2, ![512, b]⟩ : Shape).rank then s.size ((0 : Fin 2).cast h.symm) else 0).sum = 128 * k)
      (hx : Is x (fun i j => f (128 * k + i) j)) (hi : i.val / 128 = k),
      concatenate ⟨2, ![512, b]⟩ 0 [⟨⟨2, ![128, b]⟩, x0⟩, ⟨⟨2, ![128, b]⟩, x1⟩, ⟨⟨2, ![128, b]⟩, x2⟩, ⟨⟨2, ![128, b]⟩, x3⟩] h (ValueIdx.ix2 i j) = f i j := by
    intro k hk x hxk hpre hx hi
    refine (concatenate_apply_piece (t := ⟨2, ![512, b]⟩) 0 [⟨⟨2, ![128, b]⟩, x0⟩, ⟨⟨2, ![128, b]⟩, x1⟩, ⟨⟨2, ![128, b]⟩, x2⟩, ⟨⟨2, ![128, b]⟩, x3⟩] h (ValueIdx.ix2 i j) k hk ⟨2, ![128, b]⟩ x hxk rfl (128 * k) hpre
      (ValueIdx.ix2 ⟨i.val % 128, by omega⟩ j) (fun c hc => ?_) ?_).trans ((hx _ _).trans ?_)
    · match c with
      | ⟨0, _⟩ => exact absurd rfl hc
      | ⟨1, _⟩ => rfl
    · show 128 * k + i.val % 128 = i.val
      omega
    · show f (128 * k + i.val % 128) j = f i j
      rw [show 128 * k + i.val % 128 = i.val by omega]
  have hi4 : i.val < 512 := i.isLt
  rcases (by omega : i.val / 128 = 0 ∨ i.val / 128 = 1 ∨ i.val / 128 = 2 ∨ i.val / 128 = 3) with e | e | e | e
  · exact key 0 (by omega) x0 rfl rfl h0 e
  · exact key 1 (by omega) x1 rfl rfl h1 e
  · exact key 2 (by omega) x2 rfl rfl h2 e
  · exact key 3 (by omega) x3 rfl rfl h3 e

end Cert.Sgu

end
-- ==== Proof.Sgu.Block.lean ====
/- The block of rows the second kernel's body leaves: the layer's result at those rows. -/
module

public import proofs.«01_k».proof.Proof.Sgu.Spec
public import proofs.«01_k».proof.Proof.Sgu.Reads
public import proofs.«01_k».proof.Proof.Gen.Kernel2Ideal.Frame

@[expose] public section

set_option maxRecDepth 100000

noncomputable section

namespace Cert.Sgu

open Cert.Kernel2Ideal Cert.Kernel2Ideal.Gen
open Idealize.ShloMosaic Idealize.ShloMosaic.ValueIdx
open Idealize.ShloMosaic.TcCoe
open scoped BigOperators

/-- The named constant is `1/√2`. -/
theorem named_isq : Named.named (F := Ideal) κ "inv_sqrt_two" (φ := .f32) 0x3F3504F3#32 = isq :=
  IdealRules.named_const.ideal_named_scalar _ _ _ _ rfl

/-- The exact GELU of a block. -/
theorem gelu_is {a b : ℕ} {x : FVec Ideal ⟨2, ![a, b]⟩ .f32} {f : ℕ → ℕ → EReal} (hx : Is x f) :
    Is (mulf (mulf (broadcast ⟨2, ![a, b]⟩ (Scalar.ofBits .f32 0x3F000000#32)) x)
        (addf (broadcast ⟨2, ![a, b]⟩ (Scalar.ofBits .f32 0x3F800000#32))
          (erf (mulf x (broadcast ⟨2, ![a, b]⟩ (Named.named (F := Ideal) κ "inv_sqrt_two" (φ := .f32) 0x3F3504F3#32))))))
      (fun i j => Cert.Sgu.gelu (f i j)) := by
  rw [named_isq]
  exact ((Is.splat half).mulf hx).mulf ((Is.splat one).addf ((hx.mulf (Is.splat isq)).erf))

/-- The mixing of one chunk of 128 positions, at one group of 256 columns. -/
def chunk (v : FVec Ideal S512x2048 .bf16) (ws : Vec Ideal S1x128x128 .bf16) (bs : Vec Ideal S1x128x1 .f32) (r q : ℕ)
    (h : S512x2048.Slices ![r, q] S128x256) : FVec Ideal S128x256 .f32 :=
  addf (matmul (φ₁ := .bf16) (φ₂ := .bf16) dot_S128x128_S128x256_S128x256_1_0_0_1_n_n none (shapeCast S128x128 ws shapeCasts_S1x128x128_S128x128 : FVec Ideal S128x128 .bf16)
      (extractStridedSlice S128x256 ![r, q] v h) (constant S128x256 .f32 0x00000000#32))
    (broadcastTo S128x256 (shapeCast S128x1 bs shapeCasts_S1x128x1_S128x1 : FVec Ideal S128x1 .f32) broadcasts_S128x1_S128x256)

/-- A group of 256 columns: its part of the out-projection added. -/
def group (h : FVec Ideal S512x1024 .bf16) (v : FVec Ideal S512x2048 .bf16) (acc : FVec Ideal S512x1024 .f32)
    (wu wg : Vec Ideal S1024x256 .bf16) (ws : Vec Ideal S1x128x128 .bf16) (bs : Vec Ideal S1x128x1 .f32) (wo : Vec Ideal S256x1024 .bf16) (q : ℕ)
    (h0 : S512x2048.Slices ![0, q] S128x256) (h1 : S512x2048.Slices ![128, q] S128x256)
    (h2 : S512x2048.Slices ![256, q] S128x256) (h3 : S512x2048.Slices ![384, q] S128x256) : FVec Ideal S512x1024 .f32 :=
  addf acc (matmul (φ₁ := .bf16) (φ₂ := .bf16) dot_S512x256_S256x1024_S512x1024_1_0_0_1_n_n none
    (truncf .bf16 (mulf (mulf (k0_pay8 h wu) (concatenate S512x256 0
      [⟨S128x256, chunk v ws bs 0 q h0⟩, ⟨S128x256, chunk v ws bs 128 q h1⟩, ⟨S128x256, chunk v ws bs 256 q h2⟩, ⟨S128x256, chunk v ws bs 384 q h3⟩]
      concatenates_S128x256_S128x256_S128x256_S128x256_S512x256_d0)) (k0_pay9 h wg)) bitsLt_bf16_f32)
    wo (constant S512x1024 .f32 0x00000000#32))

variable {p : In}

/-- The mixing of a chunk. -/
theorem chunk_is {v : FVec Ideal S512x2048 .bf16} {ws : Vec Ideal S1x128x128 .bf16} {bs : Vec Ideal S1x128x1 .f32} (g k r q : ℕ) (hg : g < 8)
    (hr : r = 128 * k) (hq : q = 256 * g) (h : S512x2048.Slices ![r, q] S128x256) (hv : Is v (vn p))
    (hws : Is (shapeCast S128x128 ws shapeCasts_S1x128x128_S128x128) (fun i j => p.ws g i j))
    (hbs : Is (shapeCast S128x1 bs shapeCasts_S1x128x1_S128x1) (fun i j => p.bs g i)) :
    Is (chunk v ws bs r q h) (fun i j => sv p (128 * k + i) (256 * g + j)) := by
  subst hr hq
  unfold chunk
  refine Is.congr (Is.addf (Is.dot hws (Is.slice hv _ _ h) none) (Is.col hbs broadcasts_S128x1_S128x256)) fun i j hi hj => ?_
  unfold sv
  rw [show (256 * g + j) / 256 = g by omega, show (128 * k + i) % 128 = i by omega, show (128 * k + i) / 128 = k by omega]

/-- A group added: the sum over one group more. -/
theorem group_is {h : FVec Ideal S512x1024 .bf16} {v : FVec Ideal S512x2048 .bf16} {acc : FVec Ideal S512x1024 .f32}
    {wu wg : Vec Ideal S1024x256 .bf16} {ws : Vec Ideal S1x128x128 .bf16} {bs : Vec Ideal S1x128x1 .f32} {wo : Vec Ideal S256x1024 .bf16} (g q : ℕ) (hg : g < 8)
    (hq : q = 256 * g)
    (h0 : S512x2048.Slices ![0, q] S128x256) (h1 : S512x2048.Slices ![128, q] S128x256)
    (h2 : S512x2048.Slices ![256, q] S128x256) (h3 : S512x2048.Slices ![384, q] S128x256)
    (hh : Is h (hid p)) (hv : Is v (vn p)) (hacc : Is acc (fun n j => ∑ c : Fin (256 * g), zz p n c * p.wo c j))
    (hwu : Is (a := 1024) (b := 256) wu (fun k c => p.win k (256 * g + c))) (hwg : Is (a := 1024) (b := 256) wg (fun k c => p.win k (4096 + (256 * g + c))))
    (hws : Is (shapeCast S128x128 ws shapeCasts_S1x128x128_S128x128) (fun i j => p.ws g i j))
    (hbs : Is (shapeCast S128x1 bs shapeCasts_S1x128x1_S128x1) (fun i j => p.bs g i))
    (hwo : Is (a := 256) (b := 1024) wo (fun c j => p.wo (256 * g + c) j)) :
    Is (group h v acc wu wg ws bs wo q h0 h1 h2 h3) (fun n j => ∑ c : Fin (256 * (g + 1)), zz p n c * p.wo c j) := by
  have hu : Is (k0_pay8 h wu) (fun n c => gelu (pr p n (256 * g + c))) := gelu_is (Is.dot (φ₂ := .bf16) hh hwu none)
  have hd : Is _ (fun n c => pr p n (4096 + (256 * g + c))) := Is.dot (φ₂ := .bf16) hh hwg none
  have hs : Is (k0_pay9 h wg) (fun n c => silu (pr p n (4096 + (256 * g + c)))) := Is.mulf (φ := .f32) hd (Is.logistic hd)
  have hc := Is.four (f := fun n c => sv p n (256 * g + c)) (chunk_is g 0 0 q hg rfl hq h0 hv hws hbs) (chunk_is g 1 128 q hg rfl hq h1 hv hws hbs)
    (chunk_is g 2 256 q hg rfl hq h2 hv hws hbs) (chunk_is g 3 384 q hg rfl hq h3 hv hws hbs) concatenates_S128x256_S128x256_S128x256_S128x256_S512x256_d0
  refine Is.congr (Is.addf hacc (Is.dot (φ₂ := .bf16) (Is.truncf (Is.mulf (Is.mulf hu hc) hs) bitsLt_bf16_f32) hwo none)) fun n j _ _ => ?_
  rw [sum_group (fun c => zz p n c * p.wo c j) g]
  rfl

/-- The blocks of the arrays a grid point reads. -/
structure Blk (p : In) (x0 : Vec Ideal S512x1024 .f32) (x1 x2 : Vec Ideal S512x512 .bf16) (x3 : Vec Ideal S512x1024 .bf16) (x4 : Vec Ideal S8x3072 .f32)
    (x5 : Vec Ideal S1024x1024 .bf16) (x6 : Vec Ideal S8x3072 .f32) (x7 : Vec Ideal S1x1024 .f32) (x8 : Vec Ideal S1024x6144 .bf16) (x9 x10 : Vec Ideal S1x2048 .f32)
    (x11 : Vec Ideal S8x128x128 .bf16) (x12 : Vec Ideal S8x128x1 .f32) (x13 : Vec Ideal S2048x1024 .bf16) (x14 : Vec Ideal S1x1024 .f32) : Prop where
  x : Is (a := 512) (b := 1024) x0 p.x
  a : Is (a := 512) (b := 512) x1 p.a
  b : Is (a := 512) (b := 512) x2 p.b
  s : Is (a := 512) (b := 1024) x3 p.s
  am : Is (a := 8) (b := 3072) x4 p.am
  w : Is (a := 1024) (b := 1024) x5 p.w
  m : Is (a := 8) (b := 3072) x6 p.m
  ng : Is (a := 1) (b := 1024) x7 p.ng
  win : Is (a := 1024) (b := 6144) x8 p.win
  lg : Is (a := 1) (b := 2048) x9 p.lg
  lb : Is (a := 1) (b := 2048) x10 p.lb
  ws : Is3 (a := 8) (b := 128) (c := 128) x11 p.ws
  bs : Is3 (a := 8) (b := 128) (c := 1) x12 (fun g t _ => p.bs g t)
  wo : Is (a := 2048) (b := 1024) x13 p.wo
  fn : Is (a := 1) (b := 1024) x14 p.fn

variable {x0 : Vec Ideal S512x1024 .f32} {x1 x2 : Vec Ideal S512x512 .bf16} {x3 : Vec Ideal S512x1024 .bf16} {x4 : Vec Ideal S8x3072 .f32}
    {x5 : Vec Ideal S1024x1024 .bf16} {x6 : Vec Ideal S8x3072 .f32} {x7 : Vec Ideal S1x1024 .f32} {x8 : Vec Ideal S1024x6144 .bf16} {x9 x10 : Vec Ideal S1x2048 .f32}
    {x11 : Vec Ideal S8x128x128 .bf16} {x12 : Vec Ideal S8x128x1 .f32} {x13 : Vec Ideal S2048x1024 .bf16} {x14 : Vec Ideal S1x1024 .f32}

/-- The stream after the attention's update. -/
theorem pay62_is (B : Blk p x0 x1 x2 x3 x4 x5 x6 x7 x8 x9 x10 x11 x12 x13 x14) :
    Is (k0_pay62 x0 x1 x2 x3 x4 x5 x6 x7 x8 x9 x10 x11 x12 x13 x14) (Cert.Sgu.x1 p) := by
  unfold k0_pay62 k0_pay2
  dsimp only
  refine Is.congr (Is.addf (B.x.ld 0 0 inb_S512x1024_S512x1024_0_0) (Is.mulf (Is.row (B.am.ld 0 2048 inb_S8x3072_S1x1024_0_2048) broadcasts_S1x1024_S512x1024)
    (Is.addf (Is.dot (φ₂ := .bf16) (Is.truncf (Is.mulf (Is.extf (B.a.ld 0 0 inb_S512x512_S512x512_0_0) bitsLt_bf16_f32) (Is.extf (B.s.ld 0 0 inb_S512x1024_S512x512_0_0) bitsLt_bf16_f32)) bitsLt_bf16_f32)
        (B.w.ld 0 0 inb_S1024x1024_S512x1024_0_0) none)
      (Is.dot (φ₂ := .bf16) (Is.truncf (Is.mulf (Is.extf (B.b.ld 0 0 inb_S512x512_S512x512_0_0) bitsLt_bf16_f32) (Is.extf (B.s.ld 0 512 inb_S512x1024_S512x512_0_512) bitsLt_bf16_f32)) bitsLt_bf16_f32)
        (B.w.ld 512 0 inb_S1024x1024_S512x1024_512_0) none)))) fun i j _ _ => ?_
  unfold Cert.Sgu.x1
  rw [sum_halves (fun k => att p i k * p.w k j)]
  simp only [Nat.zero_add]
  refine congrArg (fun z => p.x i j + p.am 0 (2048 + j) * z) (congrArg₂ (· + ·) (Finset.sum_congr rfl fun k _ => ?_) (Finset.sum_congr rfl fun k _ => ?_))
  · unfold att
    rw [if_pos k.isLt]
  · unfold att
    rw [if_neg (by omega), Nat.add_sub_cancel_left]

/-- Its mean square. -/
theorem pay63_is (B : Blk p x0 x1 x2 x3 x4 x5 x6 x7 x8 x9 x10 x11 x12 x13 x14) :
    Is (k0_pay63 x0 x1 x2 x3 x4 x5 x6 x7 x8 x9 x10 x11 x12 x13 x14) (fun i _ => Ideal.div (∑ k : Fin 1024, Cert.Sgu.x1 p i k * Cert.Sgu.x1 p i k) n1024) :=
  Is.divf (Is.sum (Is.mulf (pay62_is B) (pay62_is B)) _ reduces_S512x1024_S512 (.inl rfl) rfl shapeCasts_S512_S512x1) (Is.splat n1024)

/-- The modulated norm. -/
theorem pay64_is (B : Blk p x0 x1 x2 x3 x4 x5 x6 x7 x8 x9 x10 x11 x12 x13 x14) :
    Is (k0_pay64 x0 x1 x2 x3 x4 x5 x6 x7 x8 x9 x10 x11 x12 x13 x14) (hid p) := by
  unfold k0_pay64 k0_pay4
  dsimp only
  refine Is.congr (Is.truncf (Is.addf (Is.mulf (Is.mulf (Is.mulf (pay62_is B) (Is.col (Is.rsqrt (Is.addf (pay63_is B) (Is.splat eps))) broadcasts_S512x1_S512x1024))
    (Is.row (B.ng.ld 0 0 inb_S1x1024_S1x1024_0_0) broadcasts_S1x1024_S512x1024))
    (Is.row (Is.addf (Is.splat one) (B.m.ld 0 1024 inb_S8x3072_S1x1024_0_1024)) broadcasts_S1x1024_S512x1024))
    (Is.row (B.m.ld 0 0 inb_S8x3072_S1x1024_0_0) broadcasts_S1x1024_S512x1024)) bitsLt_bf16_f32) fun i j _ _ => ?_
  simp only [Nat.zero_add]
  rfl

/-- The half to be mixed, normed. -/
theorem pay66_is (B : Blk p x0 x1 x2 x3 x4 x5 x6 x7 x8 x9 x10 x11 x12 x13 x14) :
    Is (k0_pay66 x0 x1 x2 x3 x4 x5 x6 x7 x8 x9 x10 x11 x12 x13 x14) (vn p) := by
  have hv := (gelu_is (Is.dot (φ₂ := .bf16) (pay64_is B) (B.win.ld 0 2048 inb_S1024x6144_S1024x2048_0_2048) none)).congr (g := vv p) fun i j _ _ => by
    simp only [Nat.zero_add]
    rfl
  have hc : Is _ (vc p) := Is.subf (φ := .f32) hv (Is.col (Is.divf (φ := .f32) (Is.sum (φ := .f32) hv _ reduces_S512x2048_S512 (.inl rfl) rfl shapeCasts_S512_S512x1) (Is.splat n2048)) broadcasts_S512x1_S512x2048)
  have hr := Is.col (Is.rsqrt (φ := .f32) (Is.addf (φ := .f32) (Is.divf (φ := .f32) (Is.sum (φ := .f32) (Is.mulf (φ := .f32) hc hc) _ reduces_S512x2048_S512 (.inl rfl) rfl shapeCasts_S512_S512x1) (Is.splat n2048)) (Is.splat eps)))
    broadcasts_S512x1_S512x2048
  unfold k0_pay66 k0_pay6 k0_pay65 k0_pay5
  dsimp only
  refine Is.congr (Is.truncf (Is.addf (φ := .f32) (Is.mulf (φ := .f32) (Is.mulf hc hr) (Is.row (B.lg.ld 0 0 inb_S1x2048_S1x2048_0_0) broadcasts_S1x2048_S512x2048))
    (Is.row (B.lb.ld 0 0 inb_S1x2048_S1x2048_0_0) broadcasts_S1x2048_S512x2048)) bitsLt_bf16_f32) fun i j _ _ => ?_
  simp only [Nat.zero_add]
  rfl

/-- The window of 256 columns of the in-projection lies inside. -/
theorem inb_in (g : ℕ) (hg : g < 8) (o : ℕ) (ho : o ≤ 4096) :
    ∀ ax : Fin 2, (![0, o + 256 * g] : Fin 2 → ℕ) ax + (![1024, 256] : Fin 2 → ℕ) ax ≤ S1024x6144.size ax
  | ⟨0, _⟩ => Nat.le_refl 1024
  | ⟨1, _⟩ => show o + 256 * g + 256 ≤ 6144 by omega

/-- The window of 256 rows of the out-projection lies inside. -/
theorem inb_out (g : ℕ) (hg : g < 8) : ∀ ax : Fin 2, (![256 * g, 0] : Fin 2 → ℕ) ax + (![256, 1024] : Fin 2 → ℕ) ax ≤ S2048x1024.size ax
  | ⟨0, _⟩ => show 256 * g + 256 ≤ 2048 by omega
  | ⟨1, _⟩ => Nat.le_refl 1024

/-- The window of one group of a stack lies inside. -/
theorem inb_st (g : ℕ) (hg : g < 8) (b : ℕ) :
    ∀ ax : Fin 3, (![g, 0, 0] : Fin 3 → ℕ) ax + (![1, 128, b] : Fin 3 → ℕ) ax ≤ (⟨3, ![8, 128, b]⟩ : Shape).size ax
  | ⟨0, _⟩ => show g + 1 ≤ 8 by omega
  | ⟨1, _⟩ => Nat.le_refl 128
  | ⟨2, _⟩ => show 0 + b ≤ b by omega

/-- A chunk of 128 rows and 256 columns is a slice. -/
theorem slices_at (g : ℕ) (hg : g < 8) (r : ℕ) (hr : r ≤ 384) : S512x2048.Slices ![r, 256 * g] S128x256 :=
  ⟨rfl, fun ax => match ax with
  | ⟨0, _⟩ => show r + 128 ≤ 512 by omega
  | ⟨1, _⟩ => show 256 * g + 256 ≤ 2048 by omega⟩

/-- Group `g` added, its weights read from the whole arrays. -/
def grp (x8 : Vec Ideal S1024x6144 .bf16) (x11 : Vec Ideal S8x128x128 .bf16) (x12 : Vec Ideal S8x128x1 .f32) (x13 : Vec Ideal S2048x1024 .bf16)
    (h : FVec Ideal S512x1024 .bf16) (v : FVec Ideal S512x2048 .bf16) (g : ℕ) (hg : g < 8) (acc : FVec Ideal S512x1024 .f32) : FVec Ideal S512x1024 .f32 :=
  group h v acc (fun y => x8 ((Rect.unit (s := S1024x6144) ![0, 0 + 256 * g] ![1024, 256] (inb_in g hg 0 (Nat.zero_le _))).idx y))
    (fun y => x8 ((Rect.unit (s := S1024x6144) ![0, 4096 + 256 * g] ![1024, 256] (inb_in g hg 4096 (Nat.le_refl _))).idx y))
    (fun y => x11 ((Rect.unit (s := S8x128x128) ![g, 0, 0] ![1, 128, 128] (inb_st g hg 128)).idx y))
    (fun y => x12 ((Rect.unit (s := S8x128x1) ![g, 0, 0] ![1, 128, 1] (inb_st g hg 1)).idx y))
    (fun y => x13 ((Rect.unit (s := S2048x1024) ![256 * g, 0] ![256, 1024] (inb_out g hg)).idx y))
    (256 * g) (slices_at g hg 0 (by decide)) (slices_at g hg 128 (by decide)) (slices_at g hg 256 (by decide)) (slices_at g hg 384 (by decide))

/-- A group added to the groups before it. -/
theorem grp_is (B : Blk p x0 x1 x2 x3 x4 x5 x6 x7 x8 x9 x10 x11 x12 x13 x14) (g : ℕ) (hg : g < 8) {acc : FVec Ideal S512x1024 .f32}
    (hacc : Is acc (fun n j => ∑ c : Fin (256 * g), zz p n c * p.wo c j)) :
    Is (grp x8 x11 x12 x13 (k0_pay64 x0 x1 x2 x3 x4 x5 x6 x7 x8 x9 x10 x11 x12 x13 x14) (k0_pay66 x0 x1 x2 x3 x4 x5 x6 x7 x8 x9 x10 x11 x12 x13 x14) g hg acc)
      (fun n j => ∑ c : Fin (256 * (g + 1)), zz p n c * p.wo c j) := by
  refine group_is g (256 * g) hg rfl _ _ _ _ (pay64_is B) (pay66_is B) hacc ?_ ?_ (B.ws.ld g _ _) (B.bs.ld g _ _) ?_
  · refine (B.win.ld 0 (0 + 256 * g) _).congr fun i j _ _ => ?_
    rw [Nat.zero_add, Nat.zero_add]
  · refine (B.win.ld 0 (4096 + 256 * g) _).congr fun i j _ _ => ?_
    rw [Nat.zero_add, Nat.add_assoc]
  · refine (B.wo.ld (256 * g) 0 _).congr fun i j _ _ => ?_
    rw [Nat.zero_add]

/-- The accumulator starts at zero. -/
theorem pay7_is : Is (k0_pay7 (F := Ideal)) (fun n j => ∑ c : Fin (256 * 0), zz p n c * p.wo c j) := fun i j =>
  Ideal.ofBits_zero_f32.trans (Finset.sum_of_isEmpty (ι := Fin 0) _).symm

/-- The body's steps of the first group are a group. -/
theorem group_first (h : FVec Ideal S512x1024 .bf16) (v73 : FVec Ideal S512x2048 .f32) (v74 : Vec Ideal S1x2048 .f32) (acc : FVec Ideal S512x1024 .f32) (wu wg : Vec Ideal S1024x256 .bf16) (ws : Vec Ideal S1x128x128 .bf16)
    (bs : Vec Ideal S1x128x1 .f32) (wo : Vec Ideal S256x1024 .bf16) :
    k0_pay12 (k0_pay6 v73 v74) acc (k0_pay8 h wu) (k0_pay9 h wg) (k0_pay10 v73 v74 ws bs) (k0_pay11 v73 v74 ws bs) ws bs ws bs wo =
    group h (k0_pay6 v73 v74) acc wu wg ws bs wo 0 (slices_at 0 (by decide) 0 (by decide)) (slices_at 0 (by decide) 128 (by decide))
      (slices_at 0 (by decide) 256 (by decide)) (slices_at 0 (by decide) 384 (by decide)) := rfl

/-- The body's steps of the second group are a group. -/
theorem group_second (h : FVec Ideal S512x1024 .bf16) (v : FVec Ideal S512x2048 .bf16) (acc : FVec Ideal S512x1024 .f32) (wu wg : Vec Ideal S1024x256 .bf16) (ws : Vec Ideal S1x128x128 .bf16)
    (bs : Vec Ideal S1x128x1 .f32) (wo : Vec Ideal S256x1024 .bf16) :
    k0_pay21 acc (k0_pay13 h wu) (k0_pay15 (k0_pay14 h wg)) (k0_pay16 v ws bs) (k0_pay17 v ws bs) (k0_pay18 v ws bs) (k0_pay19 v ws) (k0_pay20 bs) wo =
    group h v acc wu wg ws bs wo 256 (slices_at 1 (by decide) 0 (by decide)) (slices_at 1 (by decide) 128 (by decide))
      (slices_at 1 (by decide) 256 (by decide)) (slices_at 1 (by decide) 384 (by decide)) := rfl

/-- The body's steps of the third group are a group. -/
theorem group_third (h : FVec Ideal S512x1024 .bf16) (v : FVec Ideal S512x2048 .bf16) (acc : FVec Ideal S512x1024 .f32) (wu wg : Vec Ideal S1024x256 .bf16) (ws : Vec Ideal S1x128x128 .bf16)
    (bs : Vec Ideal S1x128x1 .f32) (wo : Vec Ideal S256x1024 .bf16) :
    k0_pay26 v acc (k0_pay22 h wu) (k0_pay23 h wg) (k0_pay24 v ws bs) (k0_pay25 v ws) bs ws bs ws bs wo =
    group h v acc wu wg ws bs wo 512 (slices_at 2 (by decide) 0 (by decide)) (slices_at 2 (by decide) 128 (by decide))
      (slices_at 2 (by decide) 256 (by decide)) (slices_at 2 (by decide) 384 (by decide)) := rfl

/-- The body's steps of the fourth group are a group. -/
theorem group_fourth (h : FVec Ideal S512x1024 .bf16) (v : FVec Ideal S512x2048 .bf16) (acc : FVec Ideal S512x1024 .f32) (wu wg : Vec Ideal S1024x256 .bf16) (ws : Vec Ideal S1x128x128 .bf16)
    (bs : Vec Ideal S1x128x1 .f32) (wo : Vec Ideal S256x1024 .bf16) :
    k0_pay37 acc (k0_pay30 (k0_pay28 h wu) (k0_pay29 h wu)) (k0_pay31 h wg) (k0_pay32 v ws bs) (k0_pay33 v ws bs) (k0_pay34 v ws bs) (k0_pay35 ws) (k0_pay36 v)
      (constant S128x256 .f32 0x00000000#32) bs wo =
    group h v acc wu wg ws bs wo 768 (slices_at 3 (by decide) 0 (by decide)) (slices_at 3 (by decide) 128 (by decide))
      (slices_at 3 (by decide) 256 (by decide)) (slices_at 3 (by decide) 384 (by decide)) := rfl

/-- The body's steps of the fifth group are a group. -/
theorem group_fifth (h : FVec Ideal S512x1024 .bf16) (v : FVec Ideal S512x2048 .bf16) (acc : FVec Ideal S512x1024 .f32) (wu wg : Vec Ideal S1024x256 .bf16) (ws : Vec Ideal S1x128x128 .bf16)
    (bs : Vec Ideal S1x128x1 .f32) (wo : Vec Ideal S256x1024 .bf16) :
    k0_pay41 v acc (k0_pay38 h wu) (k0_pay39 h wg) (k0_pay40 v ws bs) ws bs ws bs ws bs wo =
    group h v acc wu wg ws bs wo 1024 (slices_at 4 (by decide) 0 (by decide)) (slices_at 4 (by decide) 128 (by decide))
      (slices_at 4 (by decide) 256 (by decide)) (slices_at 4 (by decide) 384 (by decide)) := rfl

/-- The body's steps of the sixth group are a group. -/
theorem group_sixth (h : FVec Ideal S512x1024 .bf16) (v : FVec Ideal S512x2048 .bf16) (acc : FVec Ideal S512x1024 .f32) (wu wg : Vec Ideal S1024x256 .bf16) (ws : Vec Ideal S1x128x128 .bf16)
    (bs : Vec Ideal S1x128x1 .f32) (wo : Vec Ideal S256x1024 .bf16) :
    k0_pay49 v acc (k0_pay44 (k0_pay42 h wu) (k0_pay43 h wu) (Named.named κ "inv_sqrt_two" 0x3F3504F3#32)) (k0_pay45 h wg) (k0_pay46 v ws bs) (k0_pay47 v ws bs) (k0_pay48 v ws bs) ws bs wo =
    group h v acc wu wg ws bs wo 1280 (slices_at 5 (by decide) 0 (by decide)) (slices_at 5 (by decide) 128 (by decide))
      (slices_at 5 (by decide) 256 (by decide)) (slices_at 5 (by decide) 384 (by decide)) := rfl

/-- The body's steps of the seventh group are a group. -/
theorem group_seventh (h : FVec Ideal S512x1024 .bf16) (v : FVec Ideal S512x2048 .bf16) (acc : FVec Ideal S512x1024 .f32) (wu wg : Vec Ideal S1024x256 .bf16) (ws : Vec Ideal S1x128x128 .bf16)
    (bs : Vec Ideal S1x128x1 .f32) (wo : Vec Ideal S256x1024 .bf16) :
    k0_pay54 v acc (k0_pay50 h wu) (k0_pay51 h wg) (k0_pay52 v ws) (k0_pay53 bs) ws bs ws bs ws bs wo =
    group h v acc wu wg ws bs wo 1536 (slices_at 6 (by decide) 0 (by decide)) (slices_at 6 (by decide) 128 (by decide))
      (slices_at 6 (by decide) 256 (by decide)) (slices_at 6 (by decide) 384 (by decide)) := rfl

/-- The body's steps of the eighth group are a group. -/
theorem group_eighth (x : FVec Ideal S512x1024 .f32) (v24 : Vec Ideal S1x1024 .f32) (h : FVec Ideal S512x1024 .bf16) (v : FVec Ideal S512x2048 .bf16) (acc : FVec Ideal S512x1024 .f32) (wu wg : Vec Ideal S1024x256 .bf16) (ws : Vec Ideal S1x128x128 .bf16)
    (bs : Vec Ideal S1x128x1 .f32) (wo : Vec Ideal S256x1024 .bf16) :
    k0_pay60 x v24 v acc (k0_pay55 h wu) (k0_pay56 h wg) (k0_pay57 v ws bs) (k0_pay58 v ws bs) (k0_pay59 v ws) bs ws bs wo =
    addf x (mulf (broadcastTo S512x1024 v24 broadcasts_S1x1024_S512x1024) (group h v acc wu wg ws bs wo 1792 (slices_at 7 (by decide) 0 (by decide)) (slices_at 7 (by decide) 128 (by decide))
      (slices_at 7 (by decide) 256 (by decide)) (slices_at 7 (by decide) 384 (by decide)))) := rfl

/-- The first seven groups. -/
theorem pay67_is (B : Blk p x0 x1 x2 x3 x4 x5 x6 x7 x8 x9 x10 x11 x12 x13 x14) :
    Is (k0_pay67 x0 x1 x2 x3 x4 x5 x6 x7 x8 x9 x10 x11 x12 x13 x14) (fun n j => ∑ c : Fin (256 * (6 + 1)), zz p n c * p.wo c j) := by
  have e := grp_is B 6 (by decide) (grp_is B 5 (by decide) (grp_is B 4 (by decide) (grp_is B 3 (by decide) (grp_is B 2 (by decide) (grp_is B 1 (by decide)
    (grp_is B 0 (by decide) pay7_is))))))
  unfold k0_pay67
  rw [group_seventh, group_sixth, group_fifth, group_fourth, group_third, group_second]
  unfold k0_pay66 at e ⊢
  rw [group_first]
  exact e

/-- The stream after the layer's update. -/
theorem pay60_is (B : Blk p x0 x1 x2 x3 x4 x5 x6 x7 x8 x9 x10 x11 x12 x13 x14) :
    Is (k0_pay60 (k0_pay62 x0 x1 x2 x3 x4 x5 x6 x7 x8 x9 x10 x11 x12 x13 x14) (View.ld x6 r0_6) (k0_pay66 x0 x1 x2 x3 x4 x5 x6 x7 x8 x9 x10 x11 x12 x13 x14) (k0_pay67 x0 x1 x2 x3 x4 x5 x6 x7 x8 x9 x10 x11 x12 x13 x14) (k0_pay68 x0 x1 x2 x3 x4 x5 x6 x7 x8 x9 x10 x11 x12 x13 x14) (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (k0_pay72 x0 x1 x2 x3 x4 x5 x6 x7 x8 x9 x10 x11 x12 x13 x14)
      (View.ld x12 r0_50) (View.ld x11 r0_49) (View.ld x12 r0_50) (View.ld x13 r0_51)) (oo p) := by
  have e := Is.addf (φ := .f32) (pay62_is B) (Is.mulf (φ := .f32) (Is.row (B.m.ld 0 2048 inb_S8x3072_S1x1024_0_2048) broadcasts_S1x1024_S512x1024) (grp_is B 7 (by decide) (pay67_is B)))
  unfold k0_pay68 k0_pay69 k0_pay70 k0_pay71 k0_pay72
  rw [group_eighth]
  exact e

/-- The block of rows the body leaves is the layer's result. -/
theorem out_is (B : Blk p x0 x1 x2 x3 x4 x5 x6 x7 x8 x9 x10 x11 x12 x13 x14) : Is (out0_15 x0 x1 x2 x3 x4 x5 x6 x7 x8 x9 x10 x11 x12 x13 x14) (res p) := by
  have ho := pay60_is B
  unfold out0_15
  rw [View.canon_cons_unit_lit _ _ _ (fun a => by match a with | ⟨0, _⟩ => rfl | ⟨1, _⟩ => rfl)]
  unfold k0_pay61
  generalize k0_pay60 (k0_pay62 x0 x1 x2 x3 x4 x5 x6 x7 x8 x9 x10 x11 x12 x13 x14) (View.ld x6 r0_6) (k0_pay66 x0 x1 x2 x3 x4 x5 x6 x7 x8 x9 x10 x11 x12 x13 x14) (k0_pay67 x0 x1 x2 x3 x4 x5 x6 x7 x8 x9 x10 x11 x12 x13 x14) (k0_pay68 x0 x1 x2 x3 x4 x5 x6 x7 x8 x9 x10 x11 x12 x13 x14) (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (k0_pay72 x0 x1 x2 x3 x4 x5 x6 x7 x8 x9 x10 x11 x12 x13 x14)
      (View.ld x12 r0_50) (View.ld x11 r0_49) (View.ld x12 r0_50) (View.ld x13 r0_51) = o at ho ⊢
  have e := Is.mulf (φ := .f32) (Is.mulf (φ := .f32) ho (Is.col (Is.rsqrt (φ := .f32) (Is.addf (φ := .f32) (Is.divf (φ := .f32)
    (Is.sum (φ := .f32) (Is.mulf (φ := .f32) ho ho) _ reduces_S512x1024_S512 (.inl rfl) rfl shapeCasts_S512_S512x1) (Is.splat n1024)) (Is.splat eps))) broadcasts_S512x1_S512x1024))
    (Is.row (B.fn.ld 0 0 inb_S1x1024_S1x1024_0_0) broadcasts_S1x1024_S512x1024)
  unfold k0_pay1
  dsimp only
  refine e.congr fun i j _ _ => ?_
  rw [Nat.zero_add, Nat.zero_add]
  rfl

end Cert.Sgu

end
-- ==== Proof.Sgu.Array.lean ====
/- The second kernel's blocks put together: the result array entry by entry, and the run that leaves it. -/
module

public import Idealize.ShloMosaic.Lib.Pipeline.Value
public import Idealize.ShloMosaic.Lib.Pipeline.ValueKit
public import proofs.«01_k».proof.Proof.Sgu.Spec
public import proofs.«01_k».proof.Proof.Sgu.Block
public import proofs.«01_k».proof.Proof.Gen.Kernel2Ideal.Value

@[expose] public section

set_option maxRecDepth 100000

noncomputable section

namespace Cert.Sgu

open Cert.Kernel2Ideal Cert.Kernel2Ideal.Gen Cert.Soft
open Idealize.ShloMosaic Idealize.ShloMosaic.ValueIdx
open Idealize.ShloMosaic.TcCoe Idealize.SL.Sem
open Idealize.ShloMosaic.Pipeline (Dat)
open scoped BigOperators

/-- A block whose rows start at a number. -/
theorem Is.read {A B a b : ℕ} (x : (⟨2, ![A, B]⟩ : Shape).Idx → EReal) (e : (⟨2, ![a, b]⟩ : Shape).Idx → (⟨2, ![A, B]⟩ : Shape).Idx) (o : ℕ)
    (h0 : ∀ (i : Fin a) (j : Fin b), (e (ValueIdx.ix2 i j) 0).val = o + i.val) (h1 : ∀ (i : Fin a) (j : Fin b), (e (ValueIdx.ix2 i j) 1).val = j.val) :
    Is (fun y => x (e y)) (fun n j => at2 x (o + n) j) := fun i j => at2_of x _ _ _ (h0 i j) (h1 i j)

/-- A block that is the whole array. -/
theorem Is.read_all {A B a b : ℕ} (x : (⟨2, ![A, B]⟩ : Shape).Idx → EReal) (e : (⟨2, ![a, b]⟩ : Shape).Idx → (⟨2, ![A, B]⟩ : Shape).Idx)
    (h0 : ∀ (i : Fin a) (j : Fin b), (e (ValueIdx.ix2 i j) 0).val = i.val) (h1 : ∀ (i : Fin a) (j : Fin b), (e (ValueIdx.ix2 i j) 1).val = j.val) :
    Is (fun y => x (e y)) (at2 x) := fun i j => at2_of x _ _ _ (h0 i j) (h1 i j)

variable (m : (ℓ : Loc nD τ sig) → Buf (Elt Ideal) ℓ) (ρ : Dev nD → PrngReg) (c : Dev nD)

/-- Each window's block index at a grid point. -/
theorem index_eq : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = t.val ∧ (cfg0.win 2).index t 1 = 0)
    ∧ ((cfg0.win 3).index t 0 = t.val ∧ (cfg0.win 3).index t 1 = 0)
    ∧ ((cfg0.win 4).index t 0 = 0 ∧ (cfg0.win 4).index t 1 = 0)
    ∧ ((cfg0.win 5).index t 0 = 0 ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = 0 ∧ (cfg0.win 8).index t 1 = 0)
    ∧ ((cfg0.win 9).index t 0 = 0 ∧ (cfg0.win 9).index t 1 = 0)
    ∧ ((cfg0.win 10).index t 0 = 0 ∧ (cfg0.win 10).index t 1 = 0)
    ∧ ((cfg0.win 11).index t 0 = 0 ∧ (cfg0.win 11).index t 1 = 0 ∧ (cfg0.win 11).index t 2 = 0)
    ∧ ((cfg0.win 12).index t 0 = 0 ∧ (cfg0.win 12).index t 1 = 0 ∧ (cfg0.win 12).index t 2 = 0)
    ∧ ((cfg0.win 13).index t 0 = 0 ∧ (cfg0.win 13).index t 1 = 0)
    ∧ ((cfg0.win 14).index t 0 = 0 ∧ (cfg0.win 14).index t 1 = 0)
    ∧ ((cfg0.win 15).index t 0 = t.val ∧ (cfg0.win 15).index t 1 = 0) := by
  decide +kernel

/-- The layer's arrays, from the arguments. -/
def args : In := In.of (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14))

/-- The blocks at a grid point are the layer's arrays with the rows from there on. -/
theorem blk_args (t : Fin cfg0.N) : Blk ((args m c).from t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) :=
  {
    x := Is.read (m ((c : Thread nD τ).loc main_arg0)) ((cfg0.win 0).rect t).emb (512 * t.val)
      (fun i j => by show (cfg0.win 0).index t 0 * 512 + 1 * i.val = _; rw [((index_eq t).1).1]; omega)
      (fun i j => by show (cfg0.win 0).index t 1 * 1024 + 1 * j.val = _; rw [((index_eq t).1).2]; omega)
    a := Is.read (m ((c : Thread nD τ).loc main_arg1)) ((cfg0.win 1).rect t).emb (512 * t.val)
      (fun i j => by show (cfg0.win 1).index t 0 * 512 + 1 * i.val = _; rw [((index_eq t).2.1).1]; omega)
      (fun i j => by show (cfg0.win 1).index t 1 * 512 + 1 * j.val = _; rw [((index_eq t).2.1).2]; omega)
    b := Is.read (m ((c : Thread nD τ).loc main_arg2)) ((cfg0.win 2).rect t).emb (512 * t.val)
      (fun i j => by show (cfg0.win 2).index t 0 * 512 + 1 * i.val = _; rw [((index_eq t).2.2.1).1]; omega)
      (fun i j => by show (cfg0.win 2).index t 1 * 512 + 1 * j.val = _; rw [((index_eq t).2.2.1).2]; omega)
    s := Is.read (m ((c : Thread nD τ).loc main_arg3)) ((cfg0.win 3).rect t).emb (512 * t.val)
      (fun i j => by show (cfg0.win 3).index t 0 * 512 + 1 * i.val = _; rw [((index_eq t).2.2.2.1).1]; omega)
      (fun i j => by show (cfg0.win 3).index t 1 * 1024 + 1 * j.val = _; rw [((index_eq t).2.2.2.1).2]; omega)
    am := Is.read_all (m ((c : Thread nD τ).loc main_arg4)) ((cfg0.win 4).rect t).emb
      (fun i j => by show (cfg0.win 4).index t 0 * 8 + 1 * i.val = _; rw [((index_eq t).2.2.2.2.1).1]; omega)
      (fun i j => by show (cfg0.win 4).index t 1 * 3072 + 1 * j.val = _; rw [((index_eq t).2.2.2.2.1).2]; omega)
    w := Is.read_all (m ((c : Thread nD τ).loc main_arg5)) ((cfg0.win 5).rect t).emb
      (fun i j => by show (cfg0.win 5).index t 0 * 1024 + 1 * i.val = _; rw [((index_eq t).2.2.2.2.2.1).1]; omega)
      (fun i j => by show (cfg0.win 5).index t 1 * 1024 + 1 * j.val = _; rw [((index_eq t).2.2.2.2.2.1).2]; omega)
    m := Is.read_all (m ((c : Thread nD τ).loc main_arg6)) ((cfg0.win 6).rect t).emb
      (fun i j => by show (cfg0.win 6).index t 0 * 8 + 1 * i.val = _; rw [((index_eq t).2.2.2.2.2.2.1).1]; omega)
      (fun i j => by show (cfg0.win 6).index t 1 * 3072 + 1 * j.val = _; rw [((index_eq t).2.2.2.2.2.2.1).2]; omega)
    ng := Is.read_all (m ((c : Thread nD τ).loc main_arg7)) ((cfg0.win 7).rect t).emb
      (fun i j => by show (cfg0.win 7).index t 0 * 1 + 1 * i.val = _; rw [((index_eq t).2.2.2.2.2.2.2.1).1]; omega)
      (fun i j => by show (cfg0.win 7).index t 1 * 1024 + 1 * j.val = _; rw [((index_eq t).2.2.2.2.2.2.2.1).2]; omega)
    win := Is.read_all (m ((c : Thread nD τ).loc main_arg8)) ((cfg0.win 8).rect t).emb
      (fun i j => by show (cfg0.win 8).index t 0 * 1024 + 1 * i.val = _; rw [((index_eq t).2.2.2.2.2.2.2.2.1).1]; omega)
      (fun i j => by show (cfg0.win 8).index t 1 * 6144 + 1 * j.val = _; rw [((index_eq t).2.2.2.2.2.2.2.2.1).2]; omega)
    lg := Is.read_all (m ((c : Thread nD τ).loc main_arg9)) ((cfg0.win 9).rect t).emb
      (fun i j => by show (cfg0.win 9).index t 0 * 1 + 1 * i.val = _; rw [((index_eq t).2.2.2.2.2.2.2.2.2.1).1]; omega)
      (fun i j => by show (cfg0.win 9).index t 1 * 2048 + 1 * j.val = _; rw [((index_eq t).2.2.2.2.2.2.2.2.2.1).2]; omega)
    lb := Is.read_all (m ((c : Thread nD τ).loc main_arg10)) ((cfg0.win 10).rect t).emb
      (fun i j => by show (cfg0.win 10).index t 0 * 1 + 1 * i.val = _; rw [((index_eq t).2.2.2.2.2.2.2.2.2.2.1).1]; omega)
      (fun i j => by show (cfg0.win 10).index t 1 * 2048 + 1 * j.val = _; rw [((index_eq t).2.2.2.2.2.2.2.2.2.2.1).2]; omega)
    ws := fun i j k => at3_of (m ((c : Thread nD τ).loc main_arg11)) (((cfg0.win 11).rect t).emb (ValueIdx.ix3 i j k)) _ _ _
      (by show (cfg0.win 11).index t 0 * 8 + 1 * i.val = _; rw [((index_eq t).2.2.2.2.2.2.2.2.2.2.2.1).1]; omega)
      (by show (cfg0.win 11).index t 1 * 128 + 1 * j.val = _; rw [((index_eq t).2.2.2.2.2.2.2.2.2.2.2.1).2.1]; omega)
      (by show (cfg0.win 11).index t 2 * 128 + 1 * k.val = _; rw [((index_eq t).2.2.2.2.2.2.2.2.2.2.2.1).2.2]; omega)
    bs := fun i j k => at3_of (m ((c : Thread nD τ).loc main_arg12)) (((cfg0.win 12).rect t).emb (ValueIdx.ix3 i j k)) _ _ _
      (by show (cfg0.win 12).index t 0 * 8 + 1 * i.val = _; rw [((index_eq t).2.2.2.2.2.2.2.2.2.2.2.2.1).1]; omega)
      (by show (cfg0.win 12).index t 1 * 128 + 1 * j.val = _; rw [((index_eq t).2.2.2.2.2.2.2.2.2.2.2.2.1).2.1]; omega)
      (by show (cfg0.win 12).index t 2 * 1 + 1 * k.val = _; rw [((index_eq t).2.2.2.2.2.2.2.2.2.2.2.2.1).2.2]; omega)
    wo := Is.read_all (m ((c : Thread nD τ).loc main_arg13)) ((cfg0.win 13).rect t).emb
      (fun i j => by show (cfg0.win 13).index t 0 * 2048 + 1 * i.val = _; rw [((index_eq t).2.2.2.2.2.2.2.2.2.2.2.2.2.1).1]; omega)
      (fun i j => by show (cfg0.win 13).index t 1 * 1024 + 1 * j.val = _; rw [((index_eq t).2.2.2.2.2.2.2.2.2.2.2.2.2.1).2]; omega)
    fn := Is.read_all (m ((c : Thread nD τ).loc main_arg14)) ((cfg0.win 14).rect t).emb
      (fun i j => by show (cfg0.win 14).index t 0 * 1 + 1 * i.val = _; rw [((index_eq t).2.2.2.2.2.2.2.2.2.2.2.2.2.2.1).1]; omega)
      (fun i j => by show (cfg0.win 14).index t 1 * 1024 + 1 * j.val = _; rw [((index_eq t).2.2.2.2.2.2.2.2.2.2.2.2.2.2.1).2]; omega)
  }

/-- The result array. -/
def val : Vec Ideal S16384x1024 .f32 := fun z => res (args m c) (z 0).val (z 1).val

/-- What each grid point writes back is its block of the result array. -/
theorem flushed_eq (t : Fin cfg0.N) : (dats m 0 c).flushed 15 t = ((cfg0.win 15).blk t).view.read (Elt Ideal) (val m c) := by
  rw [Value.flushed15]
  have ho := out_is (blk_args m c t)
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = o at ho ⊢
  funext y
  have h := (index_eq t).2.2.2.2.2.2.2.2.2.2.2.2.2.2.2
  have hy0 : (y 0).val < 512 := (y 0).isLt
  have hy1 : (y 1).val < 1024 := (y 1).isLt
  have hi : (((cfg0.win 15).rect t).emb y 0).val = 512 * t.val + (y 0).val := by
    show (cfg0.win 15).index t 0 * 512 + 1 * (y 0).val = _
    rw [h.1]; omega
  have hj : (((cfg0.win 15).rect t).emb y 1).val = (y 1).val := by
    show (cfg0.win 15).index t 1 * 1024 + 1 * (y 1).val = _
    rw [h.2]; omega
  have e1 : (cfg0.win 15).cut (grid0.coords t) o y = o (ValueIdx.ix2 ⟨(y 0).val, hy0⟩ ⟨(y 1).val, hy1⟩) := by
    refine congrArg o (funext fun a => Fin.ext ?_)
    match a with
    | ⟨0, _⟩ => rfl
    | ⟨1, _⟩ => rfl
  refine e1.trans ((ho _ _).trans ((res_from _ _ _ _).trans ?_))
  show _ = res (args m c) (((cfg0.win 15).rect t).emb y 0).val (((cfg0.win 15).rect t).emb y 1).val
  rw [hi, hj]

/-- The blocks cover the result array. -/
theorem cover (z : S16384x1024.Idx) : ∃ t : Fin cfg0.N, (cfg0.win 15).flush t = true ∧ z ∈ ((cfg0.win 15).blk t).view.set := by
  have h0 : (z 0).val < 16384 := (z 0).isLt
  have h1 : (z 1).val < 1024 := (z 1).isLt
  let t0 : Fin cfg0.N := ⟨(z 0).val / 512, by rw [show cfg0.N = 32 from N_0]; omega⟩
  refine ⟨t0, flush0_15 t0, ?_⟩
  show z ∈ ((View.whole main_v0).slice ((cfg0.win 15).rect t0)).set
  erw [View.set_slice_whole]
  refine (Pipeline.Window.mem_rect_iff (cfg0.win 15) t0 z (by rfl)).mpr fun a => ?_
  have h := (index_eq t0).2.2.2.2.2.2.2.2.2.2.2.2.2.2.2
  have hv : t0.val = (z 0).val / 512 := rfl
  match a with
  | ⟨0, _⟩ =>
    show (cfg0.win 15).index t0 0 * 512 ≤ (z 0).val ∧ (z 0).val < (cfg0.win 15).index t0 0 * 512 + 512
    rw [h.1, hv]; omega
  | ⟨1, _⟩ =>
    show (cfg0.win 15).index t0 1 * 1024 ≤ (z 1).val ∧ (z 1).val < (cfg0.win 15).index t0 1 * 1024 + 1024
    rw [h.2]; omega

/-- The result array at the end. -/
theorem final_eq : (dats m 0 c).arrAt 15 cfg0.N = val m c :=
  (dats m 0 c).arrAt_eq_of_cover 15 (val m c) (fun t _ => flushed_eq m c t) cover

/-- The run: the result array at the layer's result, the arguments unchanged. -/
theorem run_val :
    θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ hr c => ⟨(hr c).1.trans (final_eq m c), (hr c).2⟩) (Value.run_blocks m ρ)

end Cert.Sgu

end
-- ==== Proof.Sgu.Ref.lean ====
/- The second reference read entry by entry: the gated layer of the arguments. -/
module

public import Idealize.ShloMosaic.Lib.Pipeline.Value
public import Idealize.ShloMosaic.PureOps.Ideal.Laws
public import proofs.«01_k».proof.Proof.Sgu.Spec
public import proofs.«01_k».proof.Proof.Gen.Reference2Ideal.Read

@[expose] public section

set_option maxRecDepth 100000

noncomputable section

namespace Cert.Reference2Ideal.Hand

open Cert.Reference2Ideal Cert.Reference2Ideal.Gen Cert.Reference2Ideal.Read Cert.Sgu
open Idealize.ShloMosaic Idealize.ShloMosaic.TcCoe
open scoped BigOperators

/-- The arguments read as the layer's arrays. -/
structure Rd (p : In) (a0 : Vec Ideal S16384x1024 .f32) (a1 : Vec Ideal S16384x512 .bf16) (a2 : Vec Ideal S16384x512 .bf16) (a3 : Vec Ideal S16384x1024 .bf16) (a4 : Vec Ideal S8x3072 .f32) (a5 : Vec Ideal S1024x1024 .bf16) (a6 : Vec Ideal S8x3072 .f32) (a7 : Vec Ideal S1x1024 .f32) (a8 : Vec Ideal S1024x6144 .bf16) (a9 : Vec Ideal S1x2048 .f32) (a10 : Vec Ideal S1x2048 .f32) (a11 : Vec Ideal S8x128x128 .bf16) (a12 : Vec Ideal S8x128x1 .f32) (a13 : Vec Ideal S2048x1024 .bf16) (a14 : Vec Ideal S1x1024 .f32) : Prop where
  x : ∀ z, a0 z = p.x (z 0).val (z 1).val
  a : ∀ z, a1 z = p.a (z 0).val (z 1).val
  b : ∀ z, a2 z = p.b (z 0).val (z 1).val
  s : ∀ z, a3 z = p.s (z 0).val (z 1).val
  am : ∀ z, a4 z = p.am (z 0).val (z 1).val
  w : ∀ z, a5 z = p.w (z 0).val (z 1).val
  m : ∀ z, a6 z = p.m (z 0).val (z 1).val
  ng : ∀ z, a7 z = p.ng (z 0).val (z 1).val
  win : ∀ z, a8 z = p.win (z 0).val (z 1).val
  lg : ∀ z, a9 z = p.lg (z 0).val (z 1).val
  lb : ∀ z, a10 z = p.lb (z 0).val (z 1).val
  ws : ∀ z, a11 z = p.ws (z 0).val (z 1).val (z 2).val
  bs : ∀ z, a12 z = p.bs (z 0).val (z 1).val
  wo : ∀ z, a13 z = p.wo (z 0).val (z 1).val
  fn : ∀ z, a14 z = p.fn (z 0).val (z 1).val

variable {p : In} {a0 : Vec Ideal S16384x1024 .f32} {a1 : Vec Ideal S16384x512 .bf16} {a2 : Vec Ideal S16384x512 .bf16} {a3 : Vec Ideal S16384x1024 .bf16} {a4 : Vec Ideal S8x3072 .f32} {a5 : Vec Ideal S1024x1024 .bf16} {a6 : Vec Ideal S8x3072 .f32} {a7 : Vec Ideal S1x1024 .f32} {a8 : Vec Ideal S1024x6144 .bf16} {a9 : Vec Ideal S1x2048 .f32} {a10 : Vec Ideal S1x2048 .f32} {a11 : Vec Ideal S8x128x128 .bf16} {a12 : Vec Ideal S8x128x1 .f32} {a13 : Vec Ideal S2048x1024 .bf16} {a14 : Vec Ideal S1x1024 .f32}

/-- The word of two. -/
theorem two_word : Ideal.ofBits .f32 0x40000000#32 = ((2 : ℝ) : EReal) := by
  simp [Ideal.ofBits, Ideal.ieee]
  rw [← EReal.coe_mul]
  exact congrArg Real.toEReal (by norm_num)

/-- The word of one. -/
theorem one_word : Ideal.ofBits .f32 0x3F800000#32 = (1 : EReal) := by
  simp [Ideal.ofBits, Ideal.ieee]
  rw [← EReal.coe_mul, ← EReal.coe_one]
  exact congrArg Real.toEReal (by norm_num)

/-- The quotient by the square root of two is the product with its reciprocal. -/
theorem div_sqrt_two (z : EReal) : Ideal.div z (Ideal.sqrt (Ideal.ofBits .f32 0x40000000#32)) = z * isq := by
  rw [two_word, Ideal.sqrt_coe, if_neg (by norm_num), Ideal.div_coe (Real.sqrt_ne_zero'.mpr (by norm_num)), one_div]
  rfl

/-- The sum from a start of zero. -/
theorem zero_start (s : EReal) : Ideal.ofBits .f32 0x00000000#32 + s = s := by
  rw [Ideal.ofBits_zero_f32, zero_add]

/-- The quotient of one by one and the exponential is the logistic. -/
theorem logistic_at (z : EReal) : Ideal.div (Ideal.ofBits .f32 0x3F800000#32) (Ideal.ofBits .f32 0x3F800000#32 + Ideal.exp (-z)) = Ideal.logistic z := by
  rw [one_word]
  rfl

/-- The gated attention. -/
theorem v11_at (R : Rd p a0 a1 a2 a3 a4 a5 a6 a7 a8 a9 a10 a11 a12 a13 a14) (z : S16384x1024.Idx) : val_main_v11 (F := Ideal) a1 a2 a3 z = att p (z 0).val (z 1).val := by
  have h0 : (z 0).val < 16384 := (z 0).isLt
  have h1 : (z 1).val < 1024 := (z 1).isLt
  unfold val_main_v11 att
  split
  · rename_i h
    refine (concatenate_pair_apply_left (t := S16384x1024) (s₁ := S16384x512) (s₂ := S16384x512) 1 _ _ _ z rfl (ValueIdx.ix2 ⟨(z 0).val, h0⟩ ⟨(z 1).val, h⟩) fun b => ?_).trans ?_
    · match b with
      | ⟨0, _⟩ => rfl
      | ⟨1, _⟩ => rfl
    · rw [val_main_v8_apply, val_main_v7_apply, val_main_v2_apply, val_main_v0_apply]
      exact congrArg₂ (· * ·) (R.a _) (R.s _)
  · rename_i h
    refine (concatenate_pair_apply_right (t := S16384x1024) (s₁ := S16384x512) (s₂ := S16384x512) 1 _ _ _ z rfl rfl (ValueIdx.ix2 ⟨(z 0).val, h0⟩ ⟨(z 1).val - 512, by omega⟩) (fun b hb => ?_) ?_).trans ?_
    · match b with
      | ⟨0, _⟩ => rfl
      | ⟨1, _⟩ => exact absurd rfl hb
    · show (z 1).val - 512 + 512 = (z 1).val
      omega
    · rw [val_main_v10_apply, val_main_v9_apply, val_main_v2_apply, val_main_v1_apply]
      refine congrArg₂ (· * ·) (R.b _) ((R.s _).trans ?_)
      show p.s (z 0).val (512 + ((z 1).val - 512)) = _
      rw [show 512 + ((z 1).val - 512) = (z 1).val by omega]

/-- The stream after the attention's update. -/
theorem v18_at (R : Rd p a0 a1 a2 a3 a4 a5 a6 a7 a8 a9 a10 a11 a12 a13 a14) (z : S16384x1024.Idx) : val_main_v18 (F := Ideal) a0 a1 a2 a3 a4 a5 z = Cert.Sgu.x1 p (z 0).val (z 1).val := by
  have h1 : (z 1).val < 1024 := (z 1).isLt
  rw [val_main_v18_apply, val_main_v17_apply, val_main_v16_apply, val_main_v15_apply, val_main_v14_apply, val_main_v13_apply, val_main_v12_apply]
  refine congrArg₂ (· + ·) (R.x _) (congrArg₂ (· * ·) ((R.am _).trans ?_) (Finset.sum_congr rfl fun k _ => ?_))
  · show p.am 0 (2048 + (z 1).val % 1024) = _
    rw [Nat.mod_eq_of_lt h1]
  · rw [val_main_v3_apply]
    exact congrArg₂ (· * ·) (v11_at R _) (R.w _)

/-- The scale of its norm. -/
theorem v33_at (R : Rd p a0 a1 a2 a3 a4 a5 a6 a7 a8 a9 a10 a11 a12 a13 a14) (z : S16384x1024.Idx) :
    val_main_v33 (F := Ideal) a0 a1 a2 a3 a4 a5 z = rs (∑ k : Fin 1024, Cert.Sgu.x1 p (z 0).val k * Cert.Sgu.x1 p (z 0).val k) n1024 := by
  rw [val_main_v33_apply, val_main_v32_apply, val_main_v31_apply, val_main_v30_apply, val_main_v29_apply, val_main_v28_apply, val_main_v27_apply, val_main_v26_apply, val_main_cst_apply, val_main_cst_0_apply, val_main_cst_1_apply]
  refine congrArg (fun s => Ideal.rsqrt (Ideal.div s n1024 + eps)) ((zero_start _).trans (Finset.sum_congr rfl fun k _ => ?_))
  rw [val_main_v25_apply]
  exact congrArg₂ (· * ·) (v18_at R _) (v18_at R _)

/-- The modulated norm. -/
theorem v45_at (R : Rd p a0 a1 a2 a3 a4 a5 a6 a7 a8 a9 a10 a11 a12 a13 a14) (z : S16384x1024.Idx) : val_main_v45 (F := Ideal) a0 a1 a2 a3 a4 a5 a6 a7 z = hid p (z 0).val (z 1).val := by
  have h1 : (z 1).val < 1024 := (z 1).isLt
  rw [val_main_v45_apply, val_main_v42_apply, val_main_v37_apply, val_main_v34_apply, val_main_v36_apply, val_main_v35_apply, val_main_v24_apply, val_main_v41_apply, val_main_v40_apply, val_main_v39_apply, val_main_v38_apply, val_main_v22_apply, val_main_v44_apply, val_main_v43_apply, val_main_v21_apply]
  rw [val_main_v20_apply, val_main_v20_apply, val_main_v19_apply, val_main_v19_apply, val_main_cst_2_apply]
  refine congrArg₂ (· + ·) (congrArg₂ (· * ·) (congrArg₂ (· * ·) (congrArg₂ (· * ·) (v18_at R z) (v33_at R z)) ((R.ng _).trans ?_)) (congrArg (one + ·) ((R.m _).trans ?_))) ((R.m _).trans ?_)
  · show p.ng 0 ((z 1).val % 1024) = _
    rw [Nat.mod_eq_of_lt h1]
  · show p.m 0 ((1024 + (z 1).val) % 3072) = _
    rw [Nat.mod_eq_of_lt (by omega)]
  · show p.m 0 ((z 1).val % 3072) = _
    rw [Nat.mod_eq_of_lt (by omega)]

/-- Its projection. -/
theorem v46_at (R : Rd p a0 a1 a2 a3 a4 a5 a6 a7 a8 a9 a10 a11 a12 a13 a14) (z : S16384x6144.Idx) : val_main_v46 (F := Ideal) a0 a1 a2 a3 a4 a5 a6 a7 a8 z = pr p (z 0).val (z 1).val := by
  rw [val_main_v46_apply]
  refine Finset.sum_congr rfl fun k _ => ?_
  rw [val_main_v4_apply]
  exact congrArg₂ (· * ·) (v45_at R _) (R.win _)

/-- The gating half. -/
theorem v58_at (R : Rd p a0 a1 a2 a3 a4 a5 a6 a7 a8 a9 a10 a11 a12 a13 a14) (z : S16384x2048.Idx) : val_main_v58 (F := Ideal) a0 a1 a2 a3 a4 a5 a6 a7 a8 z = gelu (pr p (z 0).val (z 1).val) := by
  rw [val_main_v58_apply, val_main_v51_apply, val_main_v50_apply, val_main_v57_apply, val_main_v56_apply, val_main_v55_apply, val_main_v54_apply, val_main_v53_apply, val_main_v52_apply, val_main_v47_apply, val_main_cst_3_apply, val_main_cst_4_apply, val_main_cst_5_apply]
  rw [v46_at R]
  refine congrArg (fun s => half * _ * (one + Ideal.erf s)) (div_sqrt_two _)

/-- The half to be mixed. -/
theorem v67_at (R : Rd p a0 a1 a2 a3 a4 a5 a6 a7 a8 a9 a10 a11 a12 a13 a14) (z : S16384x2048.Idx) : val_main_v67 (F := Ideal) a0 a1 a2 a3 a4 a5 a6 a7 a8 z = vv p (z 0).val (z 1).val := by
  rw [val_main_v67_apply, val_main_v60_apply, val_main_v59_apply, val_main_v66_apply, val_main_v65_apply, val_main_v64_apply, val_main_v63_apply, val_main_v62_apply, val_main_v61_apply, val_main_v48_apply, val_main_cst_6_apply, val_main_cst_7_apply, val_main_cst_8_apply]
  rw [v46_at R]
  refine congrArg (fun s => half * _ * (one + Ideal.erf s)) (div_sqrt_two _)

/-- Its mean. -/
theorem v73_at (R : Rd p a0 a1 a2 a3 a4 a5 a6 a7 a8 a9 a10 a11 a12 a13 a14) (z : S16384x1.Idx) : val_main_v73 (F := Ideal) a0 a1 a2 a3 a4 a5 a6 a7 a8 z = Ideal.div (∑ k : Fin 2048, vv p (z 0).val k) n2048 := by
  rw [val_main_v73_apply, val_main_v72_apply, val_main_v71_apply, val_main_v70_apply, val_main_cst_9_apply, val_main_cst_10_apply]
  exact congrArg (fun s => Ideal.div s n2048) ((zero_start _).trans (Finset.sum_congr rfl fun k _ => v67_at R _))

/-- It, less its mean. -/
theorem v75_at (R : Rd p a0 a1 a2 a3 a4 a5 a6 a7 a8 a9 a10 a11 a12 a13 a14) (z : S16384x2048.Idx) : val_main_v75 (F := Ideal) a0 a1 a2 a3 a4 a5 a6 a7 a8 z = vc p (z 0).val (z 1).val := by
  rw [val_main_v75_apply, val_main_v74_apply]
  exact congrArg₂ (· - ·) (v67_at R z) (v73_at R _)

/-- Once more. -/
theorem v82_at (R : Rd p a0 a1 a2 a3 a4 a5 a6 a7 a8 a9 a10 a11 a12 a13 a14) (z : S16384x2048.Idx) : val_main_v82 (F := Ideal) a0 a1 a2 a3 a4 a5 a6 a7 a8 z = vc p (z 0).val (z 1).val := by
  rw [val_main_v82_apply, val_main_v81_apply]
  exact congrArg₂ (· - ·) (v67_at R z) (v73_at R _)

/-- The scale of its norm. -/
theorem v86_at (R : Rd p a0 a1 a2 a3 a4 a5 a6 a7 a8 a9 a10 a11 a12 a13 a14) (z : S16384x2048.Idx) : val_main_v86 (F := Ideal) a0 a1 a2 a3 a4 a5 a6 a7 a8 z = rs (∑ k : Fin 2048, vc p (z 0).val k * vc p (z 0).val k) n2048 := by
  rw [val_main_v86_apply, val_main_v85_apply, val_main_v84_apply, val_main_v83_apply, val_main_v80_apply, val_main_v79_apply, val_main_v78_apply, val_main_v77_apply, val_main_cst_11_apply, val_main_cst_12_apply, val_main_cst_13_apply]
  refine congrArg (fun s => Ideal.rsqrt (Ideal.div s n2048 + eps)) ((zero_start _).trans (Finset.sum_congr rfl fun k _ => ?_))
  rw [val_main_v76_apply]
  exact congrArg₂ (· * ·) (v75_at R _) (v75_at R _)

/-- The half to be mixed, normed. -/
theorem v93_at (R : Rd p a0 a1 a2 a3 a4 a5 a6 a7 a8 a9 a10 a11 a12 a13 a14) (z : S16384x2048.Idx) : val_main_v93 (F := Ideal) a0 a1 a2 a3 a4 a5 a6 a7 a8 a9 a10 z = vn p (z 0).val (z 1).val := by
  have h1 : (z 1).val < 2048 := (z 1).isLt
  rw [val_main_v93_apply, val_main_v90_apply, val_main_v87_apply, val_main_v89_apply, val_main_v88_apply, val_main_v68_apply, val_main_v92_apply, val_main_v91_apply, val_main_v69_apply]
  refine congrArg₂ (· + ·) (congrArg₂ (· * ·) (congrArg₂ (· * ·) (v82_at R z) (v86_at R z)) ((R.lg _).trans ?_)) ((R.lb _).trans ?_)
  · show p.lg 0 ((z 1).val % 2048) = _
    rw [Nat.mod_eq_of_lt h1]
  · show p.lb 0 ((z 1).val % 2048) = _
    rw [Nat.mod_eq_of_lt h1]

/-- The mixed half before its bias, by group. -/
theorem v95_at (R : Rd p a0 a1 a2 a3 a4 a5 a6 a7 a8 a9 a10 a11 a12 a13 a14) (z : S8x128x256x128.Idx) :
    val_main_v95 (F := Ideal) a0 a1 a2 a3 a4 a5 a6 a7 a8 a9 a10 a11 z = ∑ s : Fin 128, p.ws (z 0).val (z 3).val s * vn p (128 * (z 1).val + s) (256 * (z 0).val + (z 2).val) := by
  have h0 : (z 0).val < 8 := (z 0).isLt
  have h2 : (z 2).val < 256 := (z 2).isLt
  rw [val_main_v95_apply]
  refine Finset.sum_congr rfl fun k _ => ?_
  rw [val_main_v94_apply, val_main_v5_apply]
  refine (mul_comm _ _).trans (congrArg₂ (· * ·) (R.ws _) ((v93_at R _).trans (congrArg₂ (vn p) ?_ ?_)))
  · show ((((z 1).val * 128 + k.val) * 8 + (z 0).val) * 256 + (z 2).val) / 2048 = _
    omega
  · show ((((z 1).val * 128 + k.val) * 8 + (z 0).val) * 256 + (z 2).val) % 2048 = _
    omega

/-- The mixed half. -/
theorem v102_at (R : Rd p a0 a1 a2 a3 a4 a5 a6 a7 a8 a9 a10 a11 a12 a13 a14) (z : S16384x2048.Idx) : val_main_v102 (F := Ideal) a0 a1 a2 a3 a4 a5 a6 a7 a8 a9 a10 a11 a12 z = sv p (z 0).val (z 1).val := by
  have h0 : (z 0).val < 16384 := (z 0).isLt
  have h1 : (z 1).val < 2048 := (z 1).isLt
  have e0 : ((z 0).val * 2048 + (z 1).val) / 256 % 8 = (z 1).val / 256 := by omega
  have e1 : ((z 0).val * 2048 + (z 1).val) / 262144 = (z 0).val / 128 := by omega
  have e2 : ((z 0).val * 2048 + (z 1).val) % 256 = (z 1).val % 256 := by omega
  have e3 : ((z 0).val * 2048 + (z 1).val) / 2048 % 128 = (z 0).val % 128 := by omega
  rw [val_main_v102_apply, val_main_v101_apply, val_main_v96_apply, val_main_v100_apply, val_main_v99_apply, val_main_v98_apply, val_main_v97_apply]
  refine congrArg₂ (· + ·) ((v95_at R _).trans (Finset.sum_congr rfl fun k _ => ?_)) ((R.bs _).trans ?_)
  · show p.ws (((z 0).val * 2048 + (z 1).val) / 256 % 8) (((z 0).val * 2048 + (z 1).val) / 2048 % 128) k
      * vn p (128 * (((z 0).val * 2048 + (z 1).val) / 262144) + k) (256 * (((z 0).val * 2048 + (z 1).val) / 256 % 8) + ((z 0).val * 2048 + (z 1).val) % 256) = _
    rw [e0, e1, e2, e3, Nat.div_add_mod]
  · show p.bs ((((z 0).val * 2048 + (z 1).val) / 256 % 8 * 128 + ((z 0).val * 2048 + (z 1).val) / 2048 % 128) / 128)
      ((((z 0).val * 2048 + (z 1).val) / 256 % 8 * 128 + ((z 0).val * 2048 + (z 1).val) / 2048 % 128) / 1 % 128) = _
    rw [e0, e3]
    exact congrArg₂ p.bs (by omega) (by omega)

/-- The gate. -/
theorem v104_at (R : Rd p a0 a1 a2 a3 a4 a5 a6 a7 a8 a9 a10 a11 a12 a13 a14) (z : S16384x2048.Idx) : val_main_v104 (F := Ideal) a0 a1 a2 a3 a4 a5 a6 a7 a8 z = silu (pr p (z 0).val (4096 + (z 1).val)) := by
  rw [val_main_v104_apply, val_main_call0_v5_apply, val_main_call0_v4_apply, val_main_call0_v3_apply, val_main_call0_v2_apply, val_main_call0_v1_apply, val_main_call0_v0_apply, val_main_v49_apply, val_main_call0_cst_apply, val_main_call0_cst_0_apply]
  rw [v46_at R]
  exact congrArg (fun s => _ * s) (logistic_at _)

/-- The gated product. -/
theorem v105_at (R : Rd p a0 a1 a2 a3 a4 a5 a6 a7 a8 a9 a10 a11 a12 a13 a14) (z : S16384x2048.Idx) : val_main_v105 (F := Ideal) a0 a1 a2 a3 a4 a5 a6 a7 a8 a9 a10 a11 a12 z = zz p (z 0).val (z 1).val := by
  rw [val_main_v105_apply, val_main_v103_apply]
  exact congrArg₂ (· * ·) (congrArg₂ (· * ·) (v58_at R z) (v102_at R z)) (v104_at R z)

/-- The stream after the layer's update. -/
theorem v110_at (R : Rd p a0 a1 a2 a3 a4 a5 a6 a7 a8 a9 a10 a11 a12 a13 a14) (z : S16384x1024.Idx) : val_main_v110 (F := Ideal) a0 a1 a2 a3 a4 a5 a6 a7 a8 a9 a10 a11 a12 a13 z = oo p (z 0).val (z 1).val := by
  have h1 : (z 1).val < 1024 := (z 1).isLt
  rw [val_main_v110_apply, val_main_v109_apply, val_main_v108_apply, val_main_v107_apply, val_main_v23_apply, val_main_v20_apply, val_main_v19_apply, val_main_v106_apply]
  refine congrArg₂ (· + ·) (v18_at R z) (congrArg₂ (· * ·) ((R.m _).trans ?_) (Finset.sum_congr rfl fun k _ => ?_))
  · show p.m 0 ((2048 + (z 1).val) % 3072) = _
    rw [Nat.mod_eq_of_lt (by omega)]
  · rw [val_main_v6_apply]
    exact congrArg₂ (· * ·) (v105_at R _) (R.wo _)

/-- The scale of the last norm. -/
theorem v120_at (R : Rd p a0 a1 a2 a3 a4 a5 a6 a7 a8 a9 a10 a11 a12 a13 a14) (z : S16384x1024.Idx) : val_main_v120 (F := Ideal) a0 a1 a2 a3 a4 a5 a6 a7 a8 a9 a10 a11 a12 a13 z = rs (∑ k : Fin 1024, oo p (z 0).val k * oo p (z 0).val k) n1024 := by
  rw [val_main_v120_apply, val_main_v119_apply, val_main_v118_apply, val_main_v117_apply, val_main_v116_apply, val_main_v115_apply, val_main_v114_apply, val_main_v113_apply, val_main_cst_14_apply, val_main_cst_15_apply, val_main_cst_16_apply]
  refine congrArg (fun s => Ideal.rsqrt (Ideal.div s n1024 + eps)) ((zero_start _).trans (Finset.sum_congr rfl fun k _ => ?_))
  rw [val_main_v112_apply]
  exact congrArg₂ (· * ·) (v110_at R _) (v110_at R _)

/-- The result. -/
theorem v124_at (R : Rd p a0 a1 a2 a3 a4 a5 a6 a7 a8 a9 a10 a11 a12 a13 a14) (z : S16384x1024.Idx) : val_main_v124 (F := Ideal) a0 a1 a2 a3 a4 a5 a6 a7 a8 a9 a10 a11 a12 a13 a14 z = res p (z 0).val (z 1).val := by
  have h1 : (z 1).val < 1024 := (z 1).isLt
  rw [val_main_v124_apply, val_main_v121_apply, val_main_v123_apply, val_main_v122_apply, val_main_v111_apply]
  refine congrArg₂ (· * ·) (congrArg₂ (· * ·) (v110_at R z) (v120_at R z)) ((R.fn _).trans ?_)
  show p.fn 0 ((z 1).val % 1024) = _
  rw [Nat.mod_eq_of_lt h1]

/-- Arrays of their shapes read as themselves. -/
theorem rd_of : Rd (In.of a0 a1 a2 a3 a4 a5 a6 a7 a8 a9 a10 a11 a12 a13 a14) a0 a1 a2 a3 a4 a5 a6 a7 a8 a9 a10 a11 a12 a13 a14 where
  x := fun z => Cert.Soft.at2_of a0 z _ _ rfl rfl
  a := fun z => Cert.Soft.at2_of a1 z _ _ rfl rfl
  b := fun z => Cert.Soft.at2_of a2 z _ _ rfl rfl
  s := fun z => Cert.Soft.at2_of a3 z _ _ rfl rfl
  am := fun z => Cert.Soft.at2_of a4 z _ _ rfl rfl
  w := fun z => Cert.Soft.at2_of a5 z _ _ rfl rfl
  m := fun z => Cert.Soft.at2_of a6 z _ _ rfl rfl
  ng := fun z => Cert.Soft.at2_of a7 z _ _ rfl rfl
  win := fun z => Cert.Soft.at2_of a8 z _ _ rfl rfl
  lg := fun z => Cert.Soft.at2_of a9 z _ _ rfl rfl
  lb := fun z => Cert.Soft.at2_of a10 z _ _ rfl rfl
  ws := fun z => at3_of a11 z _ _ _ rfl rfl rfl
  bs := fun z => at3_of a12 z _ _ _ rfl rfl (Nat.lt_one_iff.mp (z 2).isLt)
  wo := fun z => Cert.Soft.at2_of a13 z _ _ rfl rfl
  fn := fun z => Cert.Soft.at2_of a14 z _ _ rfl rfl

end Cert.Reference2Ideal.Hand

end
-- ==== Proof.Sgu.Equal.lean ====
/- The second algebraic claim: the two programs' results one array. -/
module

public import proofs.«01_k».proof.Defs
public import proofs.«01_k».proof.Proof.Sgu.Array
public import proofs.«01_k».proof.Proof.Sgu.Ref
public import proofs.«01_k».proof.Proof.Gen.Kernel2Ideal
public import proofs.«01_k».proof.Proof.Gen.Reference2Ideal
public import proofs.«01_k».proof.Proof.Gen.Reference2Ideal.Run

@[expose] public section

set_option maxRecDepth 100000

noncomputable section

namespace Cert.Sgu

open Idealize.ShloMosaic Idealize.ShloMosaic.TcCoe Idealize.SL.Sem

/-- The two programs of the gated layer end with one result. -/
theorem algebraic : Cert.algebraic_Kernel2Ideal_Reference2Ideal := by
  intro m g m' g' _ ha
  refine ⟨fun c => val m c, run_val m g, ?_⟩
  refine (θ_run Cert.Reference2Ideal.defs _ _).mono (fun r h c => ⟨(h c).1.trans ?_, (h c).2⟩)
    (Cert.Reference2Ideal.Value.run (F := Ideal) m' g')
  obtain ⟨h0, h1, h2, h3, h4, h5, h6, h7, h8, h9, h10, h11, h12, h13, h14⟩ := ha c
  rw [Cert.Reference2Ideal.Read.val_main_v124_eq,
    show StableHlo.launchContents m' c (Proc.devRef .tc Cert.Reference2Ideal.main_arg0) = _ from h0,
    show StableHlo.launchContents m' c (Proc.devRef .tc Cert.Reference2Ideal.main_arg1) = _ from h1,
    show StableHlo.launchContents m' c (Proc.devRef .tc Cert.Reference2Ideal.main_arg2) = _ from h2,
    show StableHlo.launchContents m' c (Proc.devRef .tc Cert.Reference2Ideal.main_arg3) = _ from h3,
    show StableHlo.launchContents m' c (Proc.devRef .tc Cert.Reference2Ideal.main_arg4) = _ from h4,
    show StableHlo.launchContents m' c (Proc.devRef .tc Cert.Reference2Ideal.main_arg5) = _ from h5,
    show StableHlo.launchContents m' c (Proc.devRef .tc Cert.Reference2Ideal.main_arg6) = _ from h6,
    show StableHlo.launchContents m' c (Proc.devRef .tc Cert.Reference2Ideal.main_arg7) = _ from h7,
    show StableHlo.launchContents m' c (Proc.devRef .tc Cert.Reference2Ideal.main_arg8) = _ from h8,
    show StableHlo.launchContents m' c (Proc.devRef .tc Cert.Reference2Ideal.main_arg9) = _ from h9,
    show StableHlo.launchContents m' c (Proc.devRef .tc Cert.Reference2Ideal.main_arg10) = _ from h10,
    show StableHlo.launchContents m' c (Proc.devRef .tc Cert.Reference2Ideal.main_arg11) = _ from h11,
    show StableHlo.launchContents m' c (Proc.devRef .tc Cert.Reference2Ideal.main_arg12) = _ from h12,
    show StableHlo.launchContents m' c (Proc.devRef .tc Cert.Reference2Ideal.main_arg13) = _ from h13,
    show StableHlo.launchContents m' c (Proc.devRef .tc Cert.Reference2Ideal.main_arg14) = _ from h14]
  exact funext fun i => Cert.Reference2Ideal.Hand.v124_at Cert.Reference2Ideal.Hand.rd_of i

end Cert.Sgu

end
-- ==== Proof.AttIn.Spec.lean ====
/- The layer's way into its attention as both programs compute it, entry by entry, over arrays read at numbers; and its rows a block at a time. -/
module

public import proofs.«01_k».proof.Proof.Sgu.Spec

@[expose] public section

noncomputable section

namespace Cert.AttIn

open Idealize.ShloMosaic
open Cert.Sgu (one eps n1024 silu rs)
open scoped BigOperators

/-- The arrays, read at numbers: stream; modulation; norm's scale; packed in-projection; the queries' norm and up-projection; the keys' and values' norm,
up-projections; the two tables of the rotary embedding. -/
structure In where
  x : ℕ → ℕ → EReal
  m : ℕ → ℕ → EReal
  ng : ℕ → ℕ → EReal
  win : ℕ → ℕ → EReal
  qn : ℕ → ℕ → EReal
  uq : ℕ → ℕ → EReal
  kn : ℕ → ℕ → EReal
  wk : ℕ → ℕ → EReal
  wv : ℕ → ℕ → EReal
  ck : ℕ → ℕ → EReal
  sk : ℕ → ℕ → EReal

/-- The arrays from arrays of their shapes. -/
def In.of (x : (⟨2, ![16384, 1024]⟩ : Shape).Idx → EReal) (m : (⟨2, ![8, 3072]⟩ : Shape).Idx → EReal) (ng : (⟨2, ![1, 1024]⟩ : Shape).Idx → EReal)
    (win : (⟨2, ![1024, 3712]⟩ : Shape).Idx → EReal) (qn : (⟨2, ![1, 768]⟩ : Shape).Idx → EReal) (uq : (⟨2, ![768, 1024]⟩ : Shape).Idx → EReal)
    (kn : (⟨2, ![1, 256]⟩ : Shape).Idx → EReal) (wk : (⟨2, ![256, 1024]⟩ : Shape).Idx → EReal) (wv : (⟨2, ![256, 512]⟩ : Shape).Idx → EReal)
    (ck sk : (⟨2, ![16384, 128]⟩ : Shape).Idx → EReal) : In :=
  { x := Cert.Soft.at2 x, m := Cert.Soft.at2 m, ng := Cert.Soft.at2 ng, win := Cert.Soft.at2 win, qn := Cert.Soft.at2 qn, uq := Cert.Soft.at2 uq,
    kn := Cert.Soft.at2 kn, wk := Cert.Soft.at2 wk, wv := Cert.Soft.at2 wv, ck := Cert.Soft.at2 ck, sk := Cert.Soft.at2 sk }

/-- The constants 768 and 256, by their words. -/
def n768 : EReal := Ideal.ofBits .f32 0x44400000#32
def n256 : EReal := Ideal.ofBits .f32 0x43800000#32

/-- `1/ln 2`, -/
def l2e : EReal := (((Real.log 2)⁻¹ : ℝ) : EReal)

/-- and `1/(√96 ln 2)`: the scale of the queries. -/
def qs : EReal := (((Real.sqrt 96)⁻¹ * (Real.log 2)⁻¹ : ℝ) : EReal)

variable (p : In)

/-- The modulated norm of the stream. -/
def hid (n j : ℕ) : EReal :=
  p.x n j * rs (∑ k : Fin 1024, p.x n k * p.x n k) n1024 * p.ng 0 j * (one + p.m 0 (1024 + j)) + p.m 0 j

/-- Its projection. -/
def pr (n c : ℕ) : EReal := ∑ k : Fin 1024, hid p n k * p.win k c

/-- The queries' latent, normed. -/
def cq (n j : ℕ) : EReal := pr p n j * rs (∑ k : Fin 768, pr p n k * pr p n k) n768 * p.qn 0 j

/-- The queries, eight heads of 128 columns. -/
def qq (n c : ℕ) : EReal := ∑ k : Fin 768, cq p n k * p.uq k c

/-- The queries after the rotary embedding: of a head's columns, 64 as they are, 32 turned with the 32 after them, and zeros there. -/
def qr (n c : ℕ) : EReal :=
  if c % 128 < 64 then qq p n c
  else if c % 128 < 96 then qq p n c * p.ck n (c % 128) + qq p n (c + 32) * p.sk n (c % 128) else 0

/-- The queries' result. -/
def qo (n c : ℕ) : EReal := qr p n c * qs

/-- The keys' and values' latent, normed. -/
def ckv (n j : ℕ) : EReal := pr p n (768 + j) * rs (∑ k : Fin 256, pr p n (768 + k) * pr p n (768 + k)) n256 * p.kn 0 j

/-- The keys' part from the latent. -/
def kk (n c : ℕ) : EReal := ∑ k : Fin 256, ckv p n k * p.wk k c

/-- The keys' turned part, the same for each head. -/
def kr (n d : ℕ) : EReal :=
  if d < 64 then 0 else if d < 96 then pr p n (1024 + d) * p.ck n d + pr p n (1024 + (d + 32)) * p.sk n d else 0

/-- The keys' result. -/
def ko (n c : ℕ) : EReal := kk p n c + kr p n (c % 128)

/-- The values' result. -/
def vo (n c : ℕ) : EReal := ∑ k : Fin 256, ckv p n k * p.wv k c

/-- The other attention's queries, scaled; its keys and its values are columns of the projection. -/
def qno (n c : ℕ) : EReal := pr p n (1664 + c) * l2e

/-- The gate: the two attentions' side by side. -/
def gate (n c : ℕ) : EReal := if c < 512 then silu (pr p n (1152 + c)) else silu (pr p n (3200 + (c - 512)))

/-- The tables are 0 outside the 32 columns that turn. -/
def In.Pad : Prop := ∀ n d : ℕ, d < 64 ∨ 96 ≤ d → p.ck n d = 0 ∧ p.sk n d = 0

/-- The arrays with the rows from `512 t` on. -/
def In.from (t : ℕ) : In :=
  { p with x := fun n => p.x (512 * t + n), ck := fun n => p.ck (512 * t + n), sk := fun n => p.sk (512 * t + n) }

/-- Later rows of padded tables are padded. -/
theorem In.Pad.from {p : In} (h : p.Pad) (t : ℕ) : (p.from t).Pad := fun n d hd => h (512 * t + n) d hd

variable (t n c : ℕ)

/-- The results of the later rows are the results' later rows: the queries, -/
theorem qo_from : qo (p.from t) n c = qo p (512 * t + n) c := rfl

/-- the keys, -/
theorem ko_from : ko (p.from t) n c = ko p (512 * t + n) c := rfl

/-- the values, -/
theorem vo_from : vo (p.from t) n c = vo p (512 * t + n) c := rfl

/-- the other attention's queries, -/
theorem qno_from : qno (p.from t) n c = qno p (512 * t + n) c := rfl

/-- the projection, -/
theorem pr_from : pr (p.from t) n c = pr p (512 * t + n) c := rfl

/-- the gate. -/
theorem gate_from : gate (p.from t) n c = gate p (512 * t + n) c := rfl

end Cert.AttIn

end
-- ==== Proof.AttIn.Reads.lean ====
/- More of arrays read at numbers: transposes, rotations, blocks of an array. -/
module

public import Idealize.ShloMosaic.Lib.KernelVsHost
public import Idealize.ShloMosaic.Lib.Pipeline.Value
public import proofs.«01_k».proof.Proof.Spec
public import proofs.«01_k».proof.Proof.Sgu.Reads

@[expose] public section

set_option maxRecDepth 100000

noncomputable section

namespace Cert.AttIn

open Cert.Sgu
open Idealize.ShloMosaic Idealize.ShloMosaic.ValueIdx
open Idealize.ShloMosaic.TcCoe
open scoped BigOperators

variable {a b : ℕ}

/-- The reading at any index of those coordinates. -/
theorem is_at {x : (⟨2, ![a, b]⟩ : Shape).Idx → EReal} {f : ℕ → ℕ → EReal} (h : Is x f) (z : (⟨2, ![a, b]⟩ : Shape).Idx) (i j : ℕ)
    (hi : (z 0).val = i) (hj : (z 1).val = j) : x z = f i j := by
  subst hi hj
  exact (congrArg x (ValueIdx.eq_ix2 z)).trans (h (z 0) (z 1))

/-- A transpose. -/
theorem is_tr {x : (⟨2, ![a, b]⟩ : Shape).Idx → EReal} {f : ℕ → ℕ → EReal} (hx : Is x f) (h : (⟨2, ![a, b]⟩ : Shape).Transposes [1, 0] ⟨2, ![b, a]⟩) :
    Is (transpose ⟨2, ![b, a]⟩ [1, 0] x h) (fun i j => f j i) := fun i j => (transpose_ix2_apply x h i j).trans (hx j i)

/-- A rotation of the columns. -/
theorem is_roll {φ : FTy} {x : FVec Ideal ⟨2, ![a, b]⟩ φ} {f : ℕ → ℕ → EReal} (hx : Is x f) (s : BitVec 32)
    (h : (⟨2, ![a, b]⟩ : Shape).Rotates 1 none) :
    Is (dynamicRotate 1 s none x h) (fun i j => f i ((j + b - s.toNat % b) % b)) := fun i j => by
  have hb : 0 < b := by have := j.isLt; omega
  refine (dynamicRotate_apply 1 s x h (ValueIdx.ix2 i j) (ValueIdx.ix2 i ⟨(j.val + b - s.toNat % b) % b, Nat.mod_lt _ hb⟩) fun ax => ?_).trans (hx _ _)
  match ax with
  | ⟨0, _⟩ => rfl
  | ⟨1, _⟩ => rfl

/-- A block whose rows start at a number. -/
theorem is_read {A B : ℕ} (x : (⟨2, ![A, B]⟩ : Shape).Idx → EReal) (e : (⟨2, ![a, b]⟩ : Shape).Idx → (⟨2, ![A, B]⟩ : Shape).Idx) (o : ℕ)
    (h0 : ∀ (i : Fin a) (j : Fin b), (e (ValueIdx.ix2 i j) 0).val = o + i.val) (h1 : ∀ (i : Fin a) (j : Fin b), (e (ValueIdx.ix2 i j) 1).val = j.val) :
    Is (fun y => x (e y)) (fun n j => Cert.Soft.at2 x (o + n) j) := fun i j => Cert.Soft.at2_of x _ _ _ (h0 i j) (h1 i j)

/-- A block that is the whole array. -/
theorem is_read_all {A B : ℕ} (x : (⟨2, ![A, B]⟩ : Shape).Idx → EReal) (e : (⟨2, ![a, b]⟩ : Shape).Idx → (⟨2, ![A, B]⟩ : Shape).Idx)
    (h0 : ∀ (i : Fin a) (j : Fin b), (e (ValueIdx.ix2 i j) 0).val = i.val) (h1 : ∀ (i : Fin a) (j : Fin b), (e (ValueIdx.ix2 i j) 1).val = j.val) :
    Is (fun y => x (e y)) (Cert.Soft.at2 x) := fun i j => Cert.Soft.at2_of x _ _ _ (h0 i j) (h1 i j)

/-- A nonnegative real distributes over a sum, whatever its terms. -/
theorem add_mul_real (x y : EReal) {r : ℝ} (hr : 0 ≤ r) : (x + y) * (r : EReal) = x * r + y * r :=
  EReal.right_distrib_of_nonneg_of_ne_top (EReal.coe_nonneg.2 hr) (EReal.coe_ne_top r) x y

end Cert.AttIn

end
-- ==== Proof.AttIn.Block.lean ====
/- The blocks the third kernel's body leaves: the seven results at a grid point's rows. -/
module

public import proofs.«01_k».proof.Proof.AttIn.Spec
public import proofs.«01_k».proof.Proof.AttIn.Reads
public import proofs.«01_k».proof.Proof.Gen.Kernel3Ideal.Value

@[expose] public section

set_option maxRecDepth 100000

noncomputable section

namespace Cert.AttIn

open Cert.Kernel3Ideal Cert.Kernel3Ideal.Gen
open Cert.Sgu (Is one eps n1024 silu rs)
open Idealize.ShloMosaic Idealize.ShloMosaic.ValueIdx
open Idealize.ShloMosaic.TcCoe
open scoped BigOperators

/-- The scale of the queries, named. -/
theorem named_qs : Named.named (F := Ideal) κ "q_scale" (φ := .f32) 0x3E16C740#32 = qs :=
  IdealRules.named_const.ideal_named_scalar _ _ _ _ rfl

/-- The scale of the other attention's, named. -/
theorem named_l2e : Named.named (F := Ideal) κ "log2_e" (φ := .f32) 0x3FB8AA3B#32 = l2e :=
  IdealRules.named_const.ideal_named_scalar _ _ _ _ rfl

/-- The word of a comparison of a column's number with 64. -/
theorem mask_word : ∀ j : Fin 128, (BitVec.setWidth 32 (BitVec.ofBool ((BitVec.ofNat 32 j.val).slt 64#32))).toInt = if j.val < 64 then 1 else 0 := by
  decide +kernel

/-- One in the columns below 64, zero in the others. -/
theorem mask_is : Is (a := 1) (b := 128) (sitofp (F := Ideal) .f32 (extui 32 (cmpi .slt (iota .tc S1x128 32 [1] iota_S1x128_d1_w32) (broadcast S1x128 64#32)) natLt_1_32))
    (fun _ j => if j < 64 then 1 else 0) := fun i j => by
  have e : iota .tc S1x128 32 [1] iota_S1x128_d1_w32 (ValueIdx.ix2 i j) = BitVec.ofNat 32 j.val := iota_single_apply _ _ _ _ _ _
  show (((BitVec.setWidth 32 (BitVec.ofBool ((iota .tc S1x128 32 [1] iota_S1x128_d1_w32 (ValueIdx.ix2 i j)).slt 64#32))).toInt : ℝ) : EReal) = _
  rw [e, mask_word]
  split <;> simp <;> omega

variable {p : In}

/-- The blocks of the arrays a grid point reads. -/
structure Blk (p : In) (x0 : Vec Ideal S512x1024 .f32) (x1 : Vec Ideal S8x3072 .f32) (x2 : Vec Ideal S1x1024 .f32) (x3 : Vec Ideal S1024x3712 .bf16)
    (x4 : Vec Ideal S1x768 .f32) (x5 : Vec Ideal S768x1024 .bf16) (x6 : Vec Ideal S1x256 .f32) (x7 : Vec Ideal S256x1024 .bf16) (x8 : Vec Ideal S256x512 .bf16)
    (x9 x10 : Vec Ideal S512x128 .f32) : Prop where
  x : Is (a := 512) (b := 1024) x0 p.x
  m : Is (a := 8) (b := 3072) x1 p.m
  ng : Is (a := 1) (b := 1024) x2 p.ng
  win : Is (a := 1024) (b := 3712) x3 p.win
  qn : Is (a := 1) (b := 768) x4 p.qn
  uq : Is (a := 768) (b := 1024) x5 p.uq
  kn : Is (a := 1) (b := 256) x6 p.kn
  wk : Is (a := 256) (b := 1024) x7 p.wk
  wv : Is (a := 256) (b := 512) x8 p.wv
  ck : Is (a := 512) (b := 128) x9 p.ck
  sk : Is (a := 512) (b := 128) x10 p.sk

variable {x0 : Vec Ideal S512x1024 .f32} {x1 : Vec Ideal S8x3072 .f32} {x2 : Vec Ideal S1x1024 .f32} {x3 : Vec Ideal S1024x3712 .bf16}
    {x4 : Vec Ideal S1x768 .f32} {x5 : Vec Ideal S768x1024 .bf16} {x6 : Vec Ideal S1x256 .f32} {x7 : Vec Ideal S256x1024 .bf16} {x8 : Vec Ideal S256x512 .bf16}
    {x9 x10 : Vec Ideal S512x128 .f32}

/-- The modulated norm. -/
theorem pay34_is (B : Blk p x0 x1 x2 x3 x4 x5 x6 x7 x8 x9 x10) : Is (k0_pay34 x0 x1 x2 x3 x4 x5 x6 x7 x8 x9 x10) (hid p) := by
  have hx := B.x.ld 0 0 inb_S512x1024_S512x1024_0_0
  unfold k0_pay34 k0_pay5
  dsimp only
  refine Is.congr (Is.truncf (Is.addf (Is.mulf (Is.mulf (Is.mulf hx (Is.col (Is.rsqrt (Is.addf (Is.divf
      (Is.sum (Is.mulf hx hx) _ reduces_S512x1024_S512 (.inl rfl) rfl shapeCasts_S512_S512x1) (Is.splat n1024)) (Is.splat eps))) broadcasts_S512x1_S512x1024))
    (Is.row (B.ng.ld 0 0 inb_S1x1024_S1x1024_0_0) broadcasts_S1x1024_S512x1024))
    (Is.row (Is.addf (Is.splat one) (B.m.ld 0 1024 inb_S8x3072_S1x1024_0_1024)) broadcasts_S1x1024_S512x1024))
    (Is.row (B.m.ld 0 0 inb_S8x3072_S1x1024_0_0) broadcasts_S1x1024_S512x1024)) bitsLt_bf16_f32) fun i j _ _ => ?_
  simp only [Nat.zero_add]
  rfl

/-- The projection's columns from a number on. -/
theorem proj_is (B : Blk p x0 x1 x2 x3 x4 x5 x6 x7 x8 x9 x10) {b : ℕ} (q : ℕ)
    (inb : ∀ ax : Fin 2, (![0, q] : Fin 2 → ℕ) ax + (![1024, b] : Fin 2 → ℕ) ax ≤ (⟨2, ![1024, 3712]⟩ : Shape).size ax) :
    Is (FloatOps.matmul (F := Ideal) (φ₁ := .bf16) (φ₂ := .bf16) (DotDims.plain 512 1024 b) none (k0_pay34 x0 x1 x2 x3 x4 x5 x6 x7 x8 x9 x10)
      (fun y => x3 ((Rect.unit (s := ⟨2, ![1024, 3712]⟩) ![0, q] ![1024, b] inb).idx y)) (constant ⟨2, ![512, b]⟩ .f32 0x00000000#32))
      (fun n c => pr p n (q + c)) := by
  refine (Is.dot (φ₁ := .bf16) (φ₂ := .bf16) (pay34_is B) (B.win.ld 0 q inb) none).congr fun i j _ _ => ?_
  simp only [Nat.zero_add]
  rfl

/-- The queries' latent, normed. -/
theorem pay35_is (B : Blk p x0 x1 x2 x3 x4 x5 x6 x7 x8 x9 x10) : Is (k0_pay35 x0 x1 x2 x3 x4 x5 x6 x7 x8 x9 x10) (cq p) := by
  have hx := (proj_is B 0 inb_S1024x3712_S1024x768_0_0)
  unfold k0_pay35 k0_pay6
  dsimp only
  refine Is.congr (Is.truncf (Is.mulf (φ := .f32) (Is.mulf (φ := .f32) hx (Is.col (Is.rsqrt (φ := .f32) (Is.addf (φ := .f32) (Is.divf (φ := .f32)
      (Is.sum (φ := .f32) (Is.mulf (φ := .f32) hx hx) _ reduces_S512x768_S512 (.inl rfl) rfl shapeCasts_S512_S512x1) (Is.splat n768)) (Is.splat eps))) broadcasts_S512x1_S512x768))
    (Is.row (B.qn.ld 0 0 inb_S1x768_S1x768_0_0) broadcasts_S1x768_S512x768)) bitsLt_bf16_f32) fun i j _ _ => ?_
  simp only [Nat.zero_add]
  rfl

/-- The queries. -/
theorem pay36_is (B : Blk p x0 x1 x2 x3 x4 x5 x6 x7 x8 x9 x10) : Is (k0_pay36 x0 x1 x2 x3 x4 x5 x6 x7 x8 x9 x10) (qq p) := by
  refine (Is.dot (φ₁ := .bf16) (φ₂ := .bf16) (pay35_is B) (B.uq.ld 0 0 inb_S768x1024_S768x1024_0_0) none).congr fun i j _ _ => ?_
  simp only [Nat.zero_add]
  rfl

/-- The queries, each column's partner 32 columns on. -/
theorem pay37_is (B : Blk p x0 x1 x2 x3 x4 x5 x6 x7 x8 x9 x10) : Is (k0_pay37 x0 x1 x2 x3 x4 x5 x6 x7 x8 x9 x10) (fun n c => qq p n ((c + 32) % 1024)) :=
  (is_roll (φ := .f32) (pay36_is B) 992#32 rotates_S512x1024_d1).congr fun i j _ _ =>
    congrArg (qq p i) (congrArg (· % 1024) (show j + 1024 - 992 = j + 32 by omega))

/-- The first table, one added where the columns stay, scaled. -/
theorem pay38_is (B : Blk p x0 x1 x2 x3 x4 x5 x6 x7 x8 x9 x10) :
    Is (k0_pay38 x0 x1 x2 x3 x4 x5 x6 x7 x8 x9 x10) (fun n d => (p.ck n d + if d < 64 then 1 else 0) * qs) := by
  unfold k0_pay38 k0_pay9
  dsimp only
  rw [named_qs]
  refine Is.congr (Is.mulf (Is.addf (B.ck.ld 0 0 inb_S512x128_S512x128_0_0) (Is.row mask_is broadcasts_S1x128_S512x128)) (Is.splat qs)) fun i j _ _ => ?_
  simp only [Nat.zero_add]

/-- The second table, scaled. -/
theorem pay39_is (B : Blk p x0 x1 x2 x3 x4 x5 x6 x7 x8 x9 x10) : Is (k0_pay39 x0 x1 x2 x3 x4 x5 x6 x7 x8 x9 x10) (fun n d => p.sk n d * qs) := by
  unfold k0_pay39 k0_pay10
  dsimp only
  rw [named_qs]
  refine Is.congr (Is.mulf (B.sk.ld 0 0 inb_S512x128_S512x128_0_0) (Is.splat qs)) fun i j _ _ => ?_
  simp only [Nat.zero_add]

/-- The scaled tables turn the queries' columns: over padded tables, the queries' result. -/
theorem turn (hp : p.Pad) (n c : ℕ) (hc : c < 1024) :
    qq p n c * ((p.ck n (c % 128) + if c % 128 < 64 then 1 else 0) * qs) + qq p n ((c + 32) % 1024) * (p.sk n (c % 128) * qs) = qo p n c := by
  have hq : (0 : ℝ) ≤ (Real.sqrt 96)⁻¹ * (Real.log 2)⁻¹ :=
    mul_nonneg (inv_nonneg.2 (Real.sqrt_nonneg _)) (inv_nonneg.2 (Real.log_nonneg (by norm_num)))
  unfold qo qr
  by_cases h1 : c % 128 < 64
  · rw [if_pos h1, if_pos h1, (hp n _ (Or.inl h1)).1, (hp n _ (Or.inl h1)).2]
    simp
  · rw [if_neg h1, if_neg h1]
    by_cases h2 : c % 128 < 96
    · rw [if_pos h2, show (c + 32) % 1024 = c + 32 by omega, add_zero]
      unfold qs
      rw [add_mul_real _ _ hq, mul_assoc, mul_assoc]
    · rw [if_neg h2, (hp n _ (Or.inr (by omega))).1, (hp n _ (Or.inr (by omega))).2]
      simp

/-- The queries' block, a head's columns down. -/
theorem out11_is (B : Blk p x0 x1 x2 x3 x4 x5 x6 x7 x8 x9 x10) (hp : p.Pad) :
    Is (a := 1024) (b := 512) (out0_11 x0 x1 x2 x3 x4 x5 x6 x7 x8 x9 x10) (fun c n => qo p n c) := fun i j => by
  refine (Value.canon11_eq (View.ld x1 r0_0) (View.ld x1 r0_1) (View.ld x0 r0_2) (View.ld x2 r0_3) (View.ld x3 r0_4) (View.ld x4 r0_5) (View.ld x5 r0_6)
    (View.ld x9 r0_7) (View.ld x10 r0_7) (ValueIdx.ix2 i j)).trans ?_
  exact Eq.trans (congrArg₂ (· + ·) (congrArg₂ (· * ·) (is_at (pay36_is B) _ j.val i.val rfl rfl) (is_at (pay38_is B) _ j.val (i.val % 128) rfl rfl))
    (congrArg₂ (· * ·) (is_at (pay37_is B) _ j.val i.val rfl rfl) (is_at (pay39_is B) _ j.val (i.val % 128) rfl rfl))) (turn hp j i i.isLt)

/-- The keys' and values' latent, normed. -/
theorem latent_is (B : Blk p x0 x1 x2 x3 x4 x5 x6 x7 x8 x9 x10) :
    Is (k0_pay20 (k0_pay40 x0 x1 x2 x3 x4 x5 x6 x7 x8 x9 x10) (View.ld x6 r0_17)) (ckv p) := by
  have hx : Is (k0_pay40 x0 x1 x2 x3 x4 x5 x6 x7 x8 x9 x10) (fun n c => pr p n (768 + c)) := proj_is B 768 inb_S1024x3712_S1024x256_0_768
  unfold k0_pay20
  dsimp only
  refine Is.congr (Is.truncf (Is.mulf (Is.mulf hx (Is.col (Is.rsqrt (Is.addf (Is.divf
      (Is.sum (Is.mulf hx hx) _ reduces_S512x256_S512 (.inl rfl) rfl shapeCasts_S512_S512x1) (Is.splat n256)) (Is.splat eps))) broadcasts_S512x1_S512x256))
    (Is.row (B.kn.ld 0 0 inb_S1x256_S1x256_0_0) broadcasts_S1x256_S512x256)) bitsLt_bf16_f32) fun i j _ _ => ?_
  simp only [Nat.zero_add]
  rfl

/-- The keys' part from it. -/
theorem pay41_is (B : Blk p x0 x1 x2 x3 x4 x5 x6 x7 x8 x9 x10) : Is (k0_pay41 x0 x1 x2 x3 x4 x5 x6 x7 x8 x9 x10) (kk p) := by
  refine (Is.dot (φ₁ := .bf16) (φ₂ := .bf16) (latent_is B) (B.wk.ld 0 0 inb_S256x1024_S256x1024_0_0) none).congr fun i j _ _ => ?_
  simp only [Nat.zero_add]
  rfl

/-- The keys' turned part. -/
theorem pay42_is (B : Blk p x0 x1 x2 x3 x4 x5 x6 x7 x8 x9 x10) (hp : p.Pad) : Is (k0_pay42 x0 x1 x2 x3 x4 x5 x6 x7 x8 x9 x10) (kr p) := by
  have hx := proj_is B 1024 inb_S1024x3712_S1024x128_0_1024
  unfold k0_pay42 k0_pay22
  dsimp only
  refine Is.congr (Is.addf (φ := .f32) (Is.mulf (φ := .f32) hx (B.ck.ld 0 0 inb_S512x128_S512x128_0_0))
    (Is.mulf (φ := .f32) (is_roll (φ := .f32) hx 96#32 rotates_S512x128_d1) (B.sk.ld 0 0 inb_S512x128_S512x128_0_0))) fun n d _ hd => ?_
  simp only [Nat.zero_add]
  unfold kr
  by_cases h1 : d < 64
  · rw [if_pos h1, (hp n _ (Or.inl h1)).1, (hp n _ (Or.inl h1)).2]
    simp
  · rw [if_neg h1]
    by_cases h2 : d < 96
    · rw [if_pos h2, show (d + 128 - (96#32).toNat % 128) % 128 = d + 32 by show (d + 128 - 96) % 128 = d + 32; omega]
    · rw [if_neg h2, (hp n _ (Or.inr (by omega))).1, (hp n _ (Or.inr (by omega))).2]
      simp

/-- The keys' block. -/
theorem out12_is (B : Blk p x0 x1 x2 x3 x4 x5 x6 x7 x8 x9 x10) (hp : p.Pad) :
    Is (a := 512) (b := 1024) (out0_12 x0 x1 x2 x3 x4 x5 x6 x7 x8 x9 x10) (ko p) := fun i j => by
  refine (Value.canon12_eq (View.ld x0 r0_2) (View.ld x2 r0_3) (View.ld x1 r0_1) (View.ld x1 r0_0) (View.ld x3 r0_16) (View.ld x6 r0_17) (View.ld x7 r0_18)
    (View.ld x9 r0_7) (View.ld x10 r0_7) (View.ld x3 r0_19) (ValueIdx.ix2 i j)).trans ?_
  exact congrArg₂ (· + ·) (is_at (pay41_is B) _ i.val j.val rfl rfl) (is_at (pay42_is B hp) _ i.val (j.val % 128) rfl rfl)

/-- The values' block. -/
theorem out13_is (B : Blk p x0 x1 x2 x3 x4 x5 x6 x7 x8 x9 x10) : Is (a := 512) (b := 512) (out0_13 x0 x1 x2 x3 x4 x5 x6 x7 x8 x9 x10) (fun c n => vo p n c) := by
  unfold out0_13
  erw [View.canon_cons_unit_lit _ _ _ (fun a => by match a with | ⟨0, _⟩ => rfl | ⟨1, _⟩ => rfl)]
  refine (is_tr (Is.dot (φ₁ := .bf16) (φ₂ := .bf16) (latent_is B) (B.wv.ld 0 0 inb_S256x512_S256x512_0_0) none) transposes_S512x512_p1_0_S512x512).congr fun i j _ _ => ?_
  simp only [Nat.zero_add]
  rfl

/-- The other attention's queries' block. -/
theorem out14_is (B : Blk p x0 x1 x2 x3 x4 x5 x6 x7 x8 x9 x10) : Is (a := 512) (b := 512) (out0_14 x0 x1 x2 x3 x4 x5 x6 x7 x8 x9 x10) (fun c n => qno p n c) := by
  unfold out0_14
  erw [View.canon_cons_unit_lit _ _ _ (fun a => by match a with | ⟨0, _⟩ => rfl | ⟨1, _⟩ => rfl)]
  unfold k0_pay32
  dsimp only
  rw [named_l2e]
  exact is_tr (Is.mulf (φ := .f32) (proj_is B 1664 inb_S1024x3712_S1024x512_0_1664) (Is.splat l2e)) transposes_S512x512_p1_0_S512x512

/-- Its keys' block. -/
theorem out15_is (B : Blk p x0 x1 x2 x3 x4 x5 x6 x7 x8 x9 x10) : Is (a := 512) (b := 512) (out0_15 x0 x1 x2 x3 x4 x5 x6 x7 x8 x9 x10) (fun n c => pr p n (2176 + c)) := by
  unfold out0_15
  erw [View.canon_cons_unit_lit _ _ _ (fun a => by match a with | ⟨0, _⟩ => rfl | ⟨1, _⟩ => rfl)]
  exact proj_is B 2176 inb_S1024x3712_S1024x512_0_2176

/-- Its values' block. -/
theorem out16_is (B : Blk p x0 x1 x2 x3 x4 x5 x6 x7 x8 x9 x10) : Is (a := 512) (b := 512) (out0_16 x0 x1 x2 x3 x4 x5 x6 x7 x8 x9 x10) (fun c n => pr p n (2688 + c)) := by
  unfold out0_16
  erw [View.canon_cons_unit_lit _ _ _ (fun a => by match a with | ⟨0, _⟩ => rfl | ⟨1, _⟩ => rfl)]
  exact is_tr (proj_is B 2688 inb_S1024x3712_S1024x512_0_2688) transposes_S512x512_p1_0_S512x512

/-- A half of the gate. -/
theorem half_is (B : Blk p x0 x1 x2 x3 x4 x5 x6 x7 x8 x9 x10) (q : ℕ)
    (inb : ∀ ax : Fin 2, (![0, q] : Fin 2 → ℕ) ax + (![1024, 512] : Fin 2 → ℕ) ax ≤ (⟨2, ![1024, 3712]⟩ : Shape).size ax) :
    Is (k0_pay3 (k0_pay34 x0 x1 x2 x3 x4 x5 x6 x7 x8 x9 x10) (fun y => x3 ((Rect.unit (s := ⟨2, ![1024, 3712]⟩) ![0, q] ![1024, 512] inb).idx y)))
      (fun n c => silu (pr p n (q + c))) :=
  Is.mulf (φ := .f32) (proj_is B q inb) (Is.logistic (φ := .f32) (proj_is B q inb))

/-- Two halves of 512 columns side by side. -/
theorem halves_is {l r : FVec Ideal S512x512 .bf16} {f : ℕ → ℕ → EReal} (hl : Is l f) (hr : Is r (fun n c => f n (512 + c))) :
    Is (a := 512) (b := 1024) (View.canon (e := .bf16) (Val := Elt Ideal) [⟨r0_36, r⟩, ⟨r0_34, l⟩]) f := fun i j => by
  refine View.canon_apply_of_pieces (Val := Elt Ideal) (e := .bf16) (fun y : S512x1024.Idx => (f (y 0).val (y 1).val : EReal)) _ (fun q hq x => ?_) (ValueIdx.ix2 i j) (cover0_17 _ _ _)
  rcases List.mem_cons.mp hq with rfl | hq
  · refine (is_at hr x _ _ rfl rfl).trans ?_
    show f (x 0).val (512 + (x 1).val) = f (r0_36.idx x 0).val (r0_36.idx x 1).val
    rw [Rect.idx_unit_val _ _ _ x 0, Rect.idx_unit_val _ _ _ x 1]
    show _ = f (0 + (x 0).val) (512 + (x 1).val)
    rw [Nat.zero_add]
  · obtain rfl := List.mem_singleton.mp hq
    refine (is_at hl x _ _ rfl rfl).trans ?_
    show f (x 0).val (x 1).val = f (r0_34.idx x 0).val (r0_34.idx x 1).val
    rw [Rect.idx_unit_val _ _ _ x 0, Rect.idx_unit_val _ _ _ x 1]
    show _ = f (0 + (x 0).val) (0 + (x 1).val)
    rw [Nat.zero_add, Nat.zero_add]

/-- The gate's block. -/
theorem out17_is (B : Blk p x0 x1 x2 x3 x4 x5 x6 x7 x8 x9 x10) : Is (a := 512) (b := 1024) (out0_17 x0 x1 x2 x3 x4 x5 x6 x7 x8 x9 x10) (gate p) :=
  halves_is (f := gate p)
    ((half_is B 1152 inb_S1024x3712_S1024x512_0_1152).congr fun i j _ hj => by
      unfold gate
      rw [if_pos hj])
    ((half_is B 3200 inb_S1024x3712_S1024x512_0_3200).congr fun i j _ hj => by
      unfold gate
      rw [if_neg (by omega), Nat.add_sub_cancel_left])

end Cert.AttIn

end
-- ==== Proof.AttIn.Array.lean ====
/- The third kernel's blocks put together: the seven result arrays entry by entry, and the run that leaves them. -/
module

public import Idealize.ShloMosaic.Lib.Pipeline.Value
public import Idealize.ShloMosaic.Lib.Pipeline.ValueKit
public import proofs.«01_k».proof.Proof.AttIn.Spec
public import proofs.«01_k».proof.Proof.AttIn.Block
public import proofs.«01_k».proof.Proof.Gen.Kernel3Ideal.Value

@[expose] public section

set_option maxRecDepth 100000

noncomputable section

namespace Cert.AttIn

open Cert.Kernel3Ideal Cert.Kernel3Ideal.Gen
open Cert.Sgu (Is)
open Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

/-- Each window's block index at a grid point. -/
theorem index_eq : ∀ t : Fin cfg0.N,
    ((cfg0.win 0).index t 0 = t.val ∧ (cfg0.win 0).index t 1 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = 0 ∧ (cfg0.win 3).index t 1 = 0)
    ∧ ((cfg0.win 4).index t 0 = 0 ∧ (cfg0.win 4).index t 1 = 0)
    ∧ ((cfg0.win 5).index t 0 = 0 ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = 0 ∧ (cfg0.win 8).index t 1 = 0)
    ∧ ((cfg0.win 9).index t 0 = t.val ∧ (cfg0.win 9).index t 1 = 0)
    ∧ ((cfg0.win 10).index t 0 = t.val ∧ (cfg0.win 10).index t 1 = 0)
    ∧ ((cfg0.win 11).index t 0 = 0 ∧ (cfg0.win 11).index t 1 = t.val)
    ∧ ((cfg0.win 12).index t 0 = t.val ∧ (cfg0.win 12).index t 1 = 0)
    ∧ ((cfg0.win 13).index t 0 = 0 ∧ (cfg0.win 13).index t 1 = t.val)
    ∧ ((cfg0.win 14).index t 0 = 0 ∧ (cfg0.win 14).index t 1 = t.val)
    ∧ ((cfg0.win 15).index t 0 = t.val ∧ (cfg0.win 15).index t 1 = 0)
    ∧ ((cfg0.win 16).index t 0 = 0 ∧ (cfg0.win 16).index t 1 = t.val)
    ∧ ((cfg0.win 17).index t 0 = t.val ∧ (cfg0.win 17).index t 1 = 0) := by
  decide +kernel

/-- The layer's arrays, from the arguments. -/
def args : In := In.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The blocks at a grid point are the layer's arrays with the rows from there on. -/
theorem blk_args (t : Fin cfg0.N) : Blk ((args m c).from t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  {
    x := is_read (m ((c : Thread nD τ).loc main_arg0)) ((cfg0.win 0).rect t).emb (512 * t.val)
      (fun i j => by show (cfg0.win 0).index t 0 * 512 + 1 * i.val = _; rw [((index_eq t).1).1]; omega)
      (fun i j => by show (cfg0.win 0).index t 1 * 1024 + 1 * j.val = _; rw [((index_eq t).1).2]; omega)
    m := is_read_all (m ((c : Thread nD τ).loc main_arg1)) ((cfg0.win 1).rect t).emb
      (fun i j => by show (cfg0.win 1).index t 0 * 8 + 1 * i.val = _; rw [((index_eq t).2.1).1]; omega)
      (fun i j => by show (cfg0.win 1).index t 1 * 3072 + 1 * j.val = _; rw [((index_eq t).2.1).2]; omega)
    ng := is_read_all (m ((c : Thread nD τ).loc main_arg2)) ((cfg0.win 2).rect t).emb
      (fun i j => by show (cfg0.win 2).index t 0 * 1 + 1 * i.val = _; rw [((index_eq t).2.2.1).1]; omega)
      (fun i j => by show (cfg0.win 2).index t 1 * 1024 + 1 * j.val = _; rw [((index_eq t).2.2.1).2]; omega)
    win := is_read_all (m ((c : Thread nD τ).loc main_arg3)) ((cfg0.win 3).rect t).emb
      (fun i j => by show (cfg0.win 3).index t 0 * 1024 + 1 * i.val = _; rw [((index_eq t).2.2.2.1).1]; omega)
      (fun i j => by show (cfg0.win 3).index t 1 * 3712 + 1 * j.val = _; rw [((index_eq t).2.2.2.1).2]; omega)
    qn := is_read_all (m ((c : Thread nD τ).loc main_arg4)) ((cfg0.win 4).rect t).emb
      (fun i j => by show (cfg0.win 4).index t 0 * 1 + 1 * i.val = _; rw [((index_eq t).2.2.2.2.1).1]; omega)
      (fun i j => by show (cfg0.win 4).index t 1 * 768 + 1 * j.val = _; rw [((index_eq t).2.2.2.2.1).2]; omega)
    uq := is_read_all (m ((c : Thread nD τ).loc main_arg5)) ((cfg0.win 5).rect t).emb
      (fun i j => by show (cfg0.win 5).index t 0 * 768 + 1 * i.val = _; rw [((index_eq t).2.2.2.2.2.1).1]; omega)
      (fun i j => by show (cfg0.win 5).index t 1 * 1024 + 1 * j.val = _; rw [((index_eq t).2.2.2.2.2.1).2]; omega)
    kn := is_read_all (m ((c : Thread nD τ).loc main_arg6)) ((cfg0.win 6).rect t).emb
      (fun i j => by show (cfg0.win 6).index t 0 * 1 + 1 * i.val = _; rw [((index_eq t).2.2.2.2.2.2.1).1]; omega)
      (fun i j => by show (cfg0.win 6).index t 1 * 256 + 1 * j.val = _; rw [((index_eq t).2.2.2.2.2.2.1).2]; omega)
    wk := is_read_all (m ((c : Thread nD τ).loc main_arg7)) ((cfg0.win 7).rect t).emb
      (fun i j => by show (cfg0.win 7).index t 0 * 256 + 1 * i.val = _; rw [((index_eq t).2.2.2.2.2.2.2.1).1]; omega)
      (fun i j => by show (cfg0.win 7).index t 1 * 1024 + 1 * j.val = _; rw [((index_eq t).2.2.2.2.2.2.2.1).2]; omega)
    wv := is_read_all (m ((c : Thread nD τ).loc main_arg8)) ((cfg0.win 8).rect t).emb
      (fun i j => by show (cfg0.win 8).index t 0 * 256 + 1 * i.val = _; rw [((index_eq t).2.2.2.2.2.2.2.2.1).1]; omega)
      (fun i j => by show (cfg0.win 8).index t 1 * 512 + 1 * j.val = _; rw [((index_eq t).2.2.2.2.2.2.2.2.1).2]; omega)
    ck := is_read (m ((c : Thread nD τ).loc main_arg9)) ((cfg0.win 9).rect t).emb (512 * t.val)
      (fun i j => by show (cfg0.win 9).index t 0 * 512 + 1 * i.val = _; rw [((index_eq t).2.2.2.2.2.2.2.2.2.1).1]; omega)
      (fun i j => by show (cfg0.win 9).index t 1 * 128 + 1 * j.val = _; rw [((index_eq t).2.2.2.2.2.2.2.2.2.1).2]; omega)
    sk := is_read (m ((c : Thread nD τ).loc main_arg10)) ((cfg0.win 10).rect t).emb (512 * t.val)
      (fun i j => by show (cfg0.win 10).index t 0 * 512 + 1 * i.val = _; rw [((index_eq t).2.2.2.2.2.2.2.2.2.2.1).1]; omega)
      (fun i j => by show (cfg0.win 10).index t 1 * 128 + 1 * j.val = _; rw [((index_eq t).2.2.2.2.2.2.2.2.2.2.1).2]; omega)
  }

/-- The seven result arrays: the queries, -/
def oq : Vec Ideal S1024x16384 .bf16 := fun z => qo (args m c) (z 1).val (z 0).val

/-- the keys, -/
def ok : Vec Ideal S16384x1024 .bf16 := fun z => ko (args m c) (z 0).val (z 1).val

/-- the values, -/
def ov : Vec Ideal S512x16384 .bf16 := fun z => vo (args m c) (z 1).val (z 0).val

/-- the other attention's queries, -/
def onq : Vec Ideal S512x16384 .bf16 := fun z => qno (args m c) (z 1).val (z 0).val

/-- its keys, -/
def onk : Vec Ideal S16384x512 .bf16 := fun z => pr (args m c) (z 0).val (2176 + (z 1).val)

/-- its values, -/
def onv : Vec Ideal S512x16384 .bf16 := fun z => pr (args m c) (z 1).val (2688 + (z 0).val)

/-- and the gate. -/
def og : Vec Ideal S16384x1024 .f32 := fun z => gate (args m c) (z 0).val (z 1).val

/-- A block index and an offset in the block, the row's or the column's number in the array: of the axis that moves, -/
theorem moves {a t i : ℕ} (h : a = t) : 512 * t + i = a * 512 + 1 * i := by omega

/-- and of the one that does not. -/
theorem stays {a s i : ℕ} (h : a = 0) : i = a * s + 1 * i := by rw [h]; omega

/-- The result windows' blocks cover their arrays. -/
theorem covers : (cfg0.win 11).Covers ∧ (cfg0.win 12).Covers ∧ (cfg0.win 13).Covers ∧ (cfg0.win 14).Covers ∧ (cfg0.win 15).Covers ∧ (cfg0.win 16).Covers ∧ (cfg0.win 17).Covers := by
  refine ⟨?_, ?_, ?_, ?_, ?_, ?_, ?_⟩ <;> decide +kernel

/-- Each grid point's block of the queries. -/
theorem block11 (hp : (args m c).Pad) (t : Fin cfg0.N) (y : ((cfg0.win 11).xblock (cfg0.grid.coords t)).Idx) :
    _root_.cast (congrArg (Elt Ideal) ((cfg0.win 11).blk t).view.elt_eq.symm) ((dats m 0 c).after 11 t ((cfg0.win 11).xinj (cfg0.grid.coords t) y))
      = oq m c (((cfg0.win 11).blk t).view.emb y) := by
  rw [after0_11]
  have ho := out11_is (blk_args m c t) (hp.from t.val)
  generalize out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = o at ho ⊢
  refine (is_at ho ((cfg0.win 11).xinj (cfg0.grid.coords t) y) (y 0).val (y 1).val rfl rfl).trans ((qo_from _ _ _ _).trans ?_)
  exact congrArg₂ (qo (args m c)) (moves ((index_eq t).2.2.2.2.2.2.2.2.2.2.2.1).2) (stays ((index_eq t).2.2.2.2.2.2.2.2.2.2.2.1).1)

/-- At the end the array is the queries. -/
theorem final11 (hp : (args m c).Pad) : (dats m 0 c).arrAt 11 cfg0.N = oq m c :=
  (dats m 0 c).arrAt_eq_of_covers 11 (oq m c) covers.1 (fun t _ y => block11 m c hp t y) (by exact Memref.isWhole_whole _)

/-- Each grid point's block of the keys. -/
theorem block12 (hp : (args m c).Pad) (t : Fin cfg0.N) (y : ((cfg0.win 12).xblock (cfg0.grid.coords t)).Idx) :
    _root_.cast (congrArg (Elt Ideal) ((cfg0.win 12).blk t).view.elt_eq.symm) ((dats m 0 c).after 12 t ((cfg0.win 12).xinj (cfg0.grid.coords t) y))
      = ok m c (((cfg0.win 12).blk t).view.emb y) := by
  rw [after0_12]
  have ho := out12_is (blk_args m c t) (hp.from t.val)
  generalize out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) = o at ho ⊢
  refine (is_at ho ((cfg0.win 12).xinj (cfg0.grid.coords t) y) (y 0).val (y 1).val rfl rfl).trans ((ko_from _ _ _ _).trans ?_)
  exact congrArg₂ (ko (args m c)) (moves ((index_eq t).2.2.2.2.2.2.2.2.2.2.2.2.1).1) (stays ((index_eq t).2.2.2.2.2.2.2.2.2.2.2.2.1).2)

/-- At the end the array is the keys. -/
theorem final12 (hp : (args m c).Pad) : (dats m 0 c).arrAt 12 cfg0.N = ok m c :=
  (dats m 0 c).arrAt_eq_of_covers 12 (ok m c) covers.2.1 (fun t _ y => block12 m c hp t y) (by exact Memref.isWhole_whole _)

/-- Each grid point's block of the values. -/
theorem block13 (t : Fin cfg0.N) (y : ((cfg0.win 13).xblock (cfg0.grid.coords t)).Idx) :
    _root_.cast (congrArg (Elt Ideal) ((cfg0.win 13).blk t).view.elt_eq.symm) ((dats m 0 c).after 13 t ((cfg0.win 13).xinj (cfg0.grid.coords t) y))
      = ov m c (((cfg0.win 13).blk t).view.emb y) := by
  rw [after0_13]
  have ho := out13_is (blk_args m c t)
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) = o at ho ⊢
  refine (is_at ho ((cfg0.win 13).xinj (cfg0.grid.coords t) y) (y 0).val (y 1).val rfl rfl).trans ((vo_from _ _ _ _).trans ?_)
  exact congrArg₂ (vo (args m c)) (moves ((index_eq t).2.2.2.2.2.2.2.2.2.2.2.2.2.1).2) (stays ((index_eq t).2.2.2.2.2.2.2.2.2.2.2.2.2.1).1)

/-- At the end the array is the values. -/
theorem final13 : (dats m 0 c).arrAt 13 cfg0.N = ov m c :=
  (dats m 0 c).arrAt_eq_of_covers 13 (ov m c) covers.2.2.1 (fun t _ y => block13 m c t y) (by exact Memref.isWhole_whole _)

/-- Each grid point's block of the other attention's queries. -/
theorem block14 (t : Fin cfg0.N) (y : ((cfg0.win 14).xblock (cfg0.grid.coords t)).Idx) :
    _root_.cast (congrArg (Elt Ideal) ((cfg0.win 14).blk t).view.elt_eq.symm) ((dats m 0 c).after 14 t ((cfg0.win 14).xinj (cfg0.grid.coords t) y))
      = onq m c (((cfg0.win 14).blk t).view.emb y) := by
  rw [after0_14]
  have ho := out14_is (blk_args m c t)
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) = o at ho ⊢
  refine (is_at ho ((cfg0.win 14).xinj (cfg0.grid.coords t) y) (y 0).val (y 1).val rfl rfl).trans ((qno_from _ _ _ _).trans ?_)
  exact congrArg₂ (qno (args m c)) (moves ((index_eq t).2.2.2.2.2.2.2.2.2.2.2.2.2.2.1).2) (stays ((index_eq t).2.2.2.2.2.2.2.2.2.2.2.2.2.2.1).1)

/-- At the end the array is the other attention's queries. -/
theorem final14 : (dats m 0 c).arrAt 14 cfg0.N = onq m c :=
  (dats m 0 c).arrAt_eq_of_covers 14 (onq m c) covers.2.2.2.1 (fun t _ y => block14 m c t y) (by exact Memref.isWhole_whole _)

/-- Each grid point's block of its keys. -/
theorem block15 (t : Fin cfg0.N) (y : ((cfg0.win 15).xblock (cfg0.grid.coords t)).Idx) :
    _root_.cast (congrArg (Elt Ideal) ((cfg0.win 15).blk t).view.elt_eq.symm) ((dats m 0 c).after 15 t ((cfg0.win 15).xinj (cfg0.grid.coords t) y))
      = onk m c (((cfg0.win 15).blk t).view.emb y) := by
  rw [after0_15]
  have ho := out15_is (blk_args m c t)
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) = o at ho ⊢
  refine (is_at ho ((cfg0.win 15).xinj (cfg0.grid.coords t) y) (y 0).val (y 1).val rfl rfl).trans ((pr_from _ _ _ _).trans ?_)
  exact congrArg₂ (pr (args m c)) (moves ((index_eq t).2.2.2.2.2.2.2.2.2.2.2.2.2.2.2.1).1) (congrArg (2176 + ·) (stays ((index_eq t).2.2.2.2.2.2.2.2.2.2.2.2.2.2.2.1).2))

/-- At the end the array is its keys. -/
theorem final15 : (dats m 0 c).arrAt 15 cfg0.N = onk m c :=
  (dats m 0 c).arrAt_eq_of_covers 15 (onk m c) covers.2.2.2.2.1 (fun t _ y => block15 m c t y) (by exact Memref.isWhole_whole _)

/-- Each grid point's block of its values. -/
theorem block16 (t : Fin cfg0.N) (y : ((cfg0.win 16).xblock (cfg0.grid.coords t)).Idx) :
    _root_.cast (congrArg (Elt Ideal) ((cfg0.win 16).blk t).view.elt_eq.symm) ((dats m 0 c).after 16 t ((cfg0.win 16).xinj (cfg0.grid.coords t) y))
      = onv m c (((cfg0.win 16).blk t).view.emb y) := by
  rw [after0_16]
  have ho := out16_is (blk_args m c t)
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) = o at ho ⊢
  refine (is_at ho ((cfg0.win 16).xinj (cfg0.grid.coords t) y) (y 0).val (y 1).val rfl rfl).trans ((pr_from _ _ _ _).trans ?_)
  exact congrArg₂ (pr (args m c)) (moves ((index_eq t).2.2.2.2.2.2.2.2.2.2.2.2.2.2.2.2.1).2) (congrArg (2688 + ·) (stays ((index_eq t).2.2.2.2.2.2.2.2.2.2.2.2.2.2.2.2.1).1))

/-- At the end the array is its values. -/
theorem final16 : (dats m 0 c).arrAt 16 cfg0.N = onv m c :=
  (dats m 0 c).arrAt_eq_of_covers 16 (onv m c) covers.2.2.2.2.2.1 (fun t _ y => block16 m c t y) (by exact Memref.isWhole_whole _)

/-- Each grid point's block of the gate. -/
theorem block17 (t : Fin cfg0.N) (y : ((cfg0.win 17).xblock (cfg0.grid.coords t)).Idx) :
    _root_.cast (congrArg (Elt Ideal) ((cfg0.win 17).blk t).view.elt_eq.symm) ((dats m 0 c).after 17 t ((cfg0.win 17).xinj (cfg0.grid.coords t) y))
      = og m c (((cfg0.win 17).blk t).view.emb y) := by
  rw [after0_17]
  have ho := out17_is (blk_args m c t)
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) = o at ho ⊢
  refine (is_at ho ((cfg0.win 17).xinj (cfg0.grid.coords t) y) (y 0).val (y 1).val rfl rfl).trans ((gate_from _ _ _ _).trans ?_)
  exact congrArg₂ (gate (args m c)) (moves ((index_eq t).2.2.2.2.2.2.2.2.2.2.2.2.2.2.2.2.2).1) (stays ((index_eq t).2.2.2.2.2.2.2.2.2.2.2.2.2.2.2.2.2).2)

/-- At the end the array is the gate. -/
theorem final17 : (dats m 0 c).arrAt 17 cfg0.N = og m c :=
  (dats m 0 c).arrAt_eq_of_covers 17 (og m c) covers.2.2.2.2.2.2 (fun t _ y => block17 m c t y) (by exact Memref.isWhole_whole _)

/-- The run: the seven results, the arguments unchanged. -/
theorem run_val (hp : ∀ c, (args m c).Pad) :
    θ_run defs (onTc (τ := τ) (main (F := Ideal))) ⟨m, fun _ => 0, ρ⟩ fun r => ∀ c : Dev nD,
      r.2.mem ((c : Thread nD τ).loc main_v0_0) = oq m c
      ∧ r.2.mem ((c : Thread nD τ).loc main_v0_1) = ok m c
      ∧ r.2.mem ((c : Thread nD τ).loc main_v0_2) = ov m c
      ∧ r.2.mem ((c : Thread nD τ).loc main_v0_3) = onq m c
      ∧ r.2.mem ((c : Thread nD τ).loc main_v0_4) = onk m c
      ∧ r.2.mem ((c : Thread nD τ).loc main_v0_5) = onv m c
      ∧ r.2.mem ((c : Thread nD τ).loc main_v0_6) = og m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ hr c => ⟨(hr c).1.trans (final11 m c (hp c)), (hr c).2.1.trans (final12 m c (hp c)), (hr c).2.2.1.trans (final13 m c), (hr c).2.2.2.1.trans (final14 m c), (hr c).2.2.2.2.1.trans (final15 m c), (hr c).2.2.2.2.2.1.trans (final16 m c), (hr c).2.2.2.2.2.2.1.trans (final17 m c), (hr c).2.2.2.2.2.2.2⟩) (Value.run_blocks m ρ)

end Cert.AttIn

end
-- ==== Proof.AttIn.Ref.lean ====
/- The third reference read entry by entry: the layer's way into its attention, of the arguments. -/
module

public import Idealize.ShloMosaic.Lib.Pipeline.Value
public import Idealize.ShloMosaic.PureOps.Ideal.Laws
public import proofs.«01_k».proof.Proof.AttIn.Spec
public import proofs.«01_k».proof.Proof.Sgu.Ref
public import proofs.«01_k».proof.Proof.Gen.Reference3Ideal.Read

@[expose] public section

set_option maxRecDepth 100000

noncomputable section

namespace Cert.Reference3Ideal.Hand

open Cert.Reference3Ideal Cert.Reference3Ideal.Gen Cert.Reference3Ideal.Read Cert.AttIn
open Cert.Sgu (one eps n1024 silu rs)
open Cert.Reference2Ideal.Hand (zero_start two_word logistic_at)
open Idealize.ShloMosaic Idealize.ShloMosaic.TcCoe
open scoped BigOperators

/-- The arguments read as the layer's arrays. -/
structure Rd (p : In) (a0 : Vec Ideal S16384x1024 .f32) (a1 : Vec Ideal S8x3072 .f32) (a2 : Vec Ideal S1x1024 .f32) (a3 : Vec Ideal S1024x3712 .bf16)
    (a4 : Vec Ideal S1x768 .f32) (a5 : Vec Ideal S768x1024 .bf16) (a6 : Vec Ideal S1x256 .f32) (a7 : Vec Ideal S256x1024 .bf16) (a8 : Vec Ideal S256x512 .bf16)
    (a9 a10 : Vec Ideal S16384x128 .f32) : Prop where
  x : ∀ z, a0 z = p.x (z 0).val (z 1).val
  m : ∀ z, a1 z = p.m (z 0).val (z 1).val
  ng : ∀ z, a2 z = p.ng (z 0).val (z 1).val
  win : ∀ z, a3 z = p.win (z 0).val (z 1).val
  qn : ∀ z, a4 z = p.qn (z 0).val (z 1).val
  uq : ∀ z, a5 z = p.uq (z 0).val (z 1).val
  kn : ∀ z, a6 z = p.kn (z 0).val (z 1).val
  wk : ∀ z, a7 z = p.wk (z 0).val (z 1).val
  wv : ∀ z, a8 z = p.wv (z 0).val (z 1).val
  ck : ∀ z, a9 z = p.ck (z 0).val (z 1).val
  sk : ∀ z, a10 z = p.sk (z 0).val (z 1).val

variable {p : In} {a0 : Vec Ideal S16384x1024 .f32} {a1 : Vec Ideal S8x3072 .f32} {a2 : Vec Ideal S1x1024 .f32} {a3 : Vec Ideal S1024x3712 .bf16}
    {a4 : Vec Ideal S1x768 .f32} {a5 : Vec Ideal S768x1024 .bf16} {a6 : Vec Ideal S1x256 .f32} {a7 : Vec Ideal S256x1024 .bf16} {a8 : Vec Ideal S256x512 .bf16}
    {a9 a10 : Vec Ideal S16384x128 .f32}

/-- The word of 96. -/
theorem word_96 : Ideal.ofBits .f32 0x42C00000#32 = ((96 : ℝ) : EReal) := by
  simp [Ideal.ofBits, Ideal.ieee]
  rw [← EReal.coe_mul]
  exact congrArg Real.toEReal (by norm_num)

/-- The quotient by the logarithm of two is the product with its reciprocal. -/
theorem div_log_two (z : EReal) : Ideal.div z (Ideal.log (Ideal.ofBits .f32 0x40000000#32)) = z * l2e := by
  rw [two_word, Ideal.log_coe, if_neg (by norm_num), Ideal.div_coe (Real.log_pos (by norm_num)).ne', one_div]
  rfl

/-- The quotient by the square root of 96 and by the logarithm of two is one product. -/
theorem div_both (z : EReal) :
    Ideal.div (Ideal.div z (Ideal.sqrt (Ideal.ofBits .f32 0x42C00000#32))) (Ideal.log (Ideal.ofBits .f32 0x40000000#32)) = z * qs := by
  rw [div_log_two, word_96, Ideal.sqrt_coe, if_neg (by norm_num), Ideal.div_coe (Real.sqrt_ne_zero'.mpr (by norm_num)), one_div, mul_assoc]
  unfold l2e qs
  rw [← EReal.coe_mul]

/-- The scale of the stream's norm. -/
theorem v18_at (R : Rd p a0 a1 a2 a3 a4 a5 a6 a7 a8 a9 a10) (z : S16384x1024.Idx) : val_main_v18 (F := Ideal) a0 z = rs (∑ k : Fin 1024, p.x (z 0).val k * p.x (z 0).val k) n1024 := by
  rw [val_main_v18_apply, val_main_v17_apply, val_main_v16_apply, val_main_v15_apply, val_main_v14_apply, val_main_v13_apply, val_main_v12_apply, val_main_v11_apply, val_main_cst_apply, val_main_cst_0_apply, val_main_cst_1_apply]
  refine congrArg (fun s => Ideal.rsqrt (Ideal.div s n1024 + eps)) ((zero_start _).trans (Finset.sum_congr rfl fun k _ => ?_))
  rw [val_main_v10_apply]
  exact congrArg₂ (· * ·) (R.x _) (R.x _)

/-- The modulated norm. -/
theorem v30_at (R : Rd p a0 a1 a2 a3 a4 a5 a6 a7 a8 a9 a10) (z : S16384x1024.Idx) : val_main_v30 (F := Ideal) a0 a1 a2 z = hid p (z 0).val (z 1).val := by
  have h1 : (z 1).val < 1024 := (z 1).isLt
  rw [val_main_v30_apply, val_main_v27_apply, val_main_v22_apply, val_main_v19_apply, val_main_v21_apply, val_main_v20_apply, val_main_v9_apply, val_main_v26_apply, val_main_v25_apply, val_main_v24_apply, val_main_v23_apply, val_main_v7_apply, val_main_v29_apply, val_main_v28_apply, val_main_v6_apply]
  rw [val_main_v5_apply, val_main_v5_apply, val_main_v4_apply, val_main_v4_apply, val_main_cst_2_apply]
  refine congrArg₂ (· + ·) (congrArg₂ (· * ·) (congrArg₂ (· * ·) (congrArg₂ (· * ·) (R.x z) (v18_at R z)) ((R.ng _).trans ?_)) (congrArg (one + ·) ((R.m _).trans ?_))) ((R.m _).trans ?_)
  · show p.ng 0 ((z 1).val % 1024) = _
    rw [Nat.mod_eq_of_lt h1]
  · show p.m 0 ((1024 + (z 1).val) % 3072) = _
    rw [Nat.mod_eq_of_lt (by omega)]
  · show p.m 0 ((z 1).val % 3072) = _
    rw [Nat.mod_eq_of_lt (by omega)]

/-- Its projection. -/
theorem v31_at (R : Rd p a0 a1 a2 a3 a4 a5 a6 a7 a8 a9 a10) (z : S16384x3712.Idx) : val_main_v31 (F := Ideal) a0 a1 a2 a3 z = pr p (z 0).val (z 1).val := by
  rw [val_main_v31_apply]
  refine Finset.sum_congr rfl fun k _ => ?_
  rw [val_main_v0_apply]
  exact congrArg₂ (· * ·) (v30_at R _) (R.win _)

/-- The queries' latent. -/
theorem v32_at (R : Rd p a0 a1 a2 a3 a4 a5 a6 a7 a8 a9 a10) (z : S16384x768.Idx) : val_main_v32 (F := Ideal) a0 a1 a2 a3 z = pr p (z 0).val (z 1).val := by
  rw [val_main_v32_apply]
  exact v31_at R _

/-- The keys' and values'. -/
theorem v33_at (R : Rd p a0 a1 a2 a3 a4 a5 a6 a7 a8 a9 a10) (z : S16384x256.Idx) : val_main_v33 (F := Ideal) a0 a1 a2 a3 z = pr p (z 0).val (768 + (z 1).val) := by
  rw [val_main_v33_apply]
  exact v31_at R _

/-- The scale of the queries' norm. -/
theorem v51_at (R : Rd p a0 a1 a2 a3 a4 a5 a6 a7 a8 a9 a10) (z : S16384x768.Idx) : val_main_v51 (F := Ideal) a0 a1 a2 a3 z = rs (∑ k : Fin 768, pr p (z 0).val k * pr p (z 0).val k) n768 := by
  rw [val_main_v51_apply, val_main_v50_apply, val_main_v49_apply, val_main_v48_apply, val_main_v47_apply, val_main_v46_apply, val_main_v45_apply, val_main_v44_apply, val_main_cst_3_apply, val_main_cst_4_apply, val_main_cst_5_apply]
  refine congrArg (fun s => Ideal.rsqrt (Ideal.div s n768 + eps)) ((zero_start _).trans (Finset.sum_congr rfl fun k _ => ?_))
  rw [val_main_v43_apply]
  exact congrArg₂ (· * ·) (v32_at R _) (v32_at R _)

/-- The queries' latent, normed. -/
theorem v55_at (R : Rd p a0 a1 a2 a3 a4 a5 a6 a7 a8 a9 a10) (z : S16384x768.Idx) : val_main_v55 (F := Ideal) a0 a1 a2 a3 a4 z = cq p (z 0).val (z 1).val := by
  have h1 : (z 1).val < 768 := (z 1).isLt
  rw [val_main_v55_apply, val_main_v52_apply, val_main_v54_apply, val_main_v53_apply, val_main_v42_apply]
  refine congrArg₂ (· * ·) (congrArg₂ (· * ·) (v32_at R z) (v51_at R z)) ((R.qn _).trans ?_)
  show p.qn 0 ((z 1).val % 768) = _
  rw [Nat.mod_eq_of_lt h1]

/-- The queries. -/
theorem v56_at (R : Rd p a0 a1 a2 a3 a4 a5 a6 a7 a8 a9 a10) (z : S16384x1024.Idx) : val_main_v56 (F := Ideal) a0 a1 a2 a3 a4 a5 z = qq p (z 0).val (z 1).val := by
  rw [val_main_v56_apply]
  refine Finset.sum_congr rfl fun k _ => ?_
  rw [val_main_v1_apply]
  exact congrArg₂ (· * ·) (v55_at R _) (R.uq _)

/-- By head. -/
theorem v57_at (R : Rd p a0 a1 a2 a3 a4 a5 a6 a7 a8 a9 a10) (z : S16384x8x128.Idx) : val_main_v57 (F := Ideal) a0 a1 a2 a3 a4 a5 z = qq p (z 0).val (128 * (z 1).val + (z 2).val) := by
  have h1 : (z 1).val < 8 := (z 1).isLt
  have h2 : (z 2).val < 128 := (z 2).isLt
  rw [val_main_v57_apply]
  refine (v56_at R _).trans (congrArg₂ (qq p) ?_ ?_)
  · show (((z 0).val * 8 + (z 1).val) * 128 + (z 2).val) / 1024 = _
    omega
  · show (((z 0).val * 8 + (z 1).val) * 128 + (z 2).val) % 1024 = _
    omega

/-- A head's 32 columns that turn. -/
theorem v66_at (R : Rd p a0 a1 a2 a3 a4 a5 a6 a7 a8 a9 a10) (z : S16384x8x32.Idx) : val_main_v66 (F := Ideal) a0 a1 a2 a3 a4 a5 a9 a10 z =
    qq p (z 0).val (128 * (z 1).val + (64 + (z 2).val)) * p.ck (z 0).val (64 + (z 2).val) + qq p (z 0).val (128 * (z 1).val + (96 + (z 2).val)) * p.sk (z 0).val (64 + (z 2).val) := by
  rw [val_main_v66_apply, val_main_v61_apply, val_main_v58_apply, val_main_v60_apply, val_main_v59_apply, val_main_v40_apply, val_main_v65_apply, val_main_v62_apply, val_main_v64_apply, val_main_v63_apply, val_main_v41_apply]
  exact congrArg₂ (· + ·) (congrArg₂ (· * ·) (v57_at R _) (R.ck _)) (congrArg₂ (· * ·) (v57_at R _) (R.sk _))

/-- The queries after the rotary embedding, by head. -/
theorem v69_at (R : Rd p a0 a1 a2 a3 a4 a5 a6 a7 a8 a9 a10) (z : S16384x8x128.Idx) : val_main_v69 (F := Ideal) a0 a1 a2 a3 a4 a5 a9 a10 z = qr p (z 0).val (128 * (z 1).val + (z 2).val) := by
  have h0 : (z 0).val < 16384 := (z 0).isLt
  have h1 : (z 1).val < 8 := (z 1).isLt
  have h2 : (z 2).val < 128 := (z 2).isLt
  have e : (128 * (z 1).val + (z 2).val) % 128 = (z 2).val := by omega
  unfold val_main_v69 qr
  rw [e]
  by_cases l1 : (z 2).val < 64
  · rw [if_pos l1]
    refine (concatenate_apply_piece (t := S16384x8x128) 2 _ _ z 0 (by simp) S16384x8x64 (val_main_v67 (F := Ideal) a0 a1 a2 a3 a4 a5) rfl rfl 0 rfl
      (ValueIdx.ix3 ⟨(z 0).val, h0⟩ ⟨(z 1).val, h1⟩ ⟨(z 2).val, l1⟩) (fun b hb => ?_) ?_).trans ?_
    · match b with
      | ⟨0, _⟩ => rfl
      | ⟨1, _⟩ => rfl
      | ⟨2, _⟩ => exact absurd rfl hb
    · exact Nat.zero_add _
    · rw [val_main_v67_apply]
      exact v57_at R _
  · rw [if_neg l1]
    by_cases l2 : (z 2).val < 96
    · rw [if_pos l2]
      refine (concatenate_apply_piece (t := S16384x8x128) 2 _ _ z 1 (by simp) S16384x8x32 (val_main_v66 (F := Ideal) a0 a1 a2 a3 a4 a5 a9 a10) rfl rfl 64 rfl
        (ValueIdx.ix3 ⟨(z 0).val, h0⟩ ⟨(z 1).val, h1⟩ ⟨(z 2).val - 64, by omega⟩) (fun b hb => ?_) ?_).trans ((v66_at R _).trans ?_)
      · match b with
        | ⟨0, _⟩ => rfl
        | ⟨1, _⟩ => rfl
        | ⟨2, _⟩ => exact absurd rfl hb
      · show 64 + ((z 2).val - 64) = (z 2).val
        omega
      · show qq p (z 0).val (128 * (z 1).val + (64 + ((z 2).val - 64))) * p.ck (z 0).val (64 + ((z 2).val - 64))
          + qq p (z 0).val (128 * (z 1).val + (96 + ((z 2).val - 64))) * p.sk (z 0).val (64 + ((z 2).val - 64)) = _
        rw [show 64 + ((z 2).val - 64) = (z 2).val by omega, show 96 + ((z 2).val - 64) = (z 2).val + 32 by omega, Nat.add_assoc]
    · rw [if_neg l2]
      refine (concatenate_apply_piece (t := S16384x8x128) 2 _ _ z 2 (by simp) S16384x8x32 (val_main_v68 (F := Ideal)) rfl rfl 96 rfl
        (ValueIdx.ix3 ⟨(z 0).val, h0⟩ ⟨(z 1).val, h1⟩ ⟨(z 2).val - 96, by omega⟩) (fun b hb => ?_) ?_).trans ?_
      · match b with
        | ⟨0, _⟩ => rfl
        | ⟨1, _⟩ => rfl
        | ⟨2, _⟩ => exact absurd rfl hb
      · show 96 + ((z 2).val - 96) = (z 2).val
        omega
      · rw [val_main_v68_apply, val_main_cst_6_apply]
        exact Ideal.ofBits_zero_f32

/-- The queries' result. -/
theorem v116_at (R : Rd p a0 a1 a2 a3 a4 a5 a6 a7 a8 a9 a10) (z : S1024x16384.Idx) : val_main_v116 (F := Ideal) a0 a1 a2 a3 a4 a5 a9 a10 z = qo p (z 1).val (z 0).val := by
  have h0 : (z 0).val < 1024 := (z 0).isLt
  rw [val_main_v116_apply, val_main_v111_apply, val_main_v110_apply, val_main_v75_apply, val_main_v74_apply, val_main_v73_apply, val_main_v72_apply, val_main_v71_apply, val_main_v70_apply, val_main_cst_7_apply, val_main_cst_8_apply]
  refine (div_both _).trans (congrArg (· * qs) ((v69_at R _).trans (congrArg₂ (qr p) ?_ ?_)))
  · show ((z 1).val * 1024 + (z 0).val) / 1024 = _
    omega
  · show 128 * (((z 1).val * 1024 + (z 0).val) / 128 % 8) + ((z 1).val * 1024 + (z 0).val) % 128 = _
    omega

/-- The scale of the keys' and values' norm. -/
theorem v85_at (R : Rd p a0 a1 a2 a3 a4 a5 a6 a7 a8 a9 a10) (z : S16384x256.Idx) : val_main_v85 (F := Ideal) a0 a1 a2 a3 z = rs (∑ k : Fin 256, pr p (z 0).val (768 + k) * pr p (z 0).val (768 + k)) n256 := by
  rw [val_main_v85_apply, val_main_v84_apply, val_main_v83_apply, val_main_v82_apply, val_main_v81_apply, val_main_v80_apply, val_main_v79_apply, val_main_v78_apply, val_main_cst_9_apply, val_main_cst_10_apply, val_main_cst_11_apply]
  refine congrArg (fun s => Ideal.rsqrt (Ideal.div s n256 + eps)) ((zero_start _).trans (Finset.sum_congr rfl fun k _ => ?_))
  rw [val_main_v77_apply]
  exact congrArg₂ (· * ·) (v33_at R _) (v33_at R _)

/-- The keys' and values' latent, normed. -/
theorem v89_at (R : Rd p a0 a1 a2 a3 a4 a5 a6 a7 a8 a9 a10) (z : S16384x256.Idx) : val_main_v89 (F := Ideal) a0 a1 a2 a3 a6 z = ckv p (z 0).val (z 1).val := by
  have h1 : (z 1).val < 256 := (z 1).isLt
  rw [val_main_v89_apply, val_main_v86_apply, val_main_v88_apply, val_main_v87_apply, val_main_v76_apply]
  refine congrArg₂ (· * ·) (congrArg₂ (· * ·) (v33_at R z) (v85_at R z)) ((R.kn _).trans ?_)
  show p.kn 0 ((z 1).val % 256) = _
  rw [Nat.mod_eq_of_lt h1]

/-- The keys' 32 columns that turn. -/
theorem v94_at (R : Rd p a0 a1 a2 a3 a4 a5 a6 a7 a8 a9 a10) (z : S16384x32.Idx) : val_main_v94 (F := Ideal) a0 a1 a2 a3 a9 a10 z =
    pr p (z 0).val (1024 + (64 + (z 1).val)) * p.ck (z 0).val (64 + (z 1).val) + pr p (z 0).val (1024 + (96 + (z 1).val)) * p.sk (z 0).val (64 + (z 1).val) := by
  rw [val_main_v94_apply, val_main_v91_apply, val_main_v90_apply, val_main_v34_apply, val_main_v40_apply, val_main_v93_apply, val_main_v92_apply, val_main_v34_apply, val_main_v41_apply]
  exact congrArg₂ (· + ·) (congrArg₂ (· * ·) (v31_at R _) (R.ck _)) (congrArg₂ (· * ·) (v31_at R _) (R.sk _))

/-- The keys' turned part. -/
theorem v97_at (R : Rd p a0 a1 a2 a3 a4 a5 a6 a7 a8 a9 a10) (z : S16384x128.Idx) : val_main_v97 (F := Ideal) a0 a1 a2 a3 a9 a10 z = kr p (z 0).val (z 1).val := by
  have h0 : (z 0).val < 16384 := (z 0).isLt
  have h1 : (z 1).val < 128 := (z 1).isLt
  unfold val_main_v97 kr
  by_cases l1 : (z 1).val < 64
  · rw [if_pos l1]
    refine (concatenate_apply_piece (t := S16384x128) 1 _ _ z 0 (by simp) S16384x64 (val_main_v95 (F := Ideal)) rfl rfl 0 rfl
      (ValueIdx.ix2 ⟨(z 0).val, h0⟩ ⟨(z 1).val, l1⟩) (fun b hb => ?_) ?_).trans ?_
    · match b with
      | ⟨0, _⟩ => rfl
      | ⟨1, _⟩ => exact absurd rfl hb
    · exact Nat.zero_add _
    · rw [val_main_v95_apply, val_main_cst_12_apply]
      exact Ideal.ofBits_zero_f32
  · rw [if_neg l1]
    by_cases l2 : (z 1).val < 96
    · rw [if_pos l2]
      refine (concatenate_apply_piece (t := S16384x128) 1 _ _ z 1 (by simp) S16384x32 (val_main_v94 (F := Ideal) a0 a1 a2 a3 a9 a10) rfl rfl 64 rfl
        (ValueIdx.ix2 ⟨(z 0).val, h0⟩ ⟨(z 1).val - 64, by omega⟩) (fun b hb => ?_) ?_).trans ((v94_at R _).trans ?_)
      · match b with
        | ⟨0, _⟩ => rfl
        | ⟨1, _⟩ => exact absurd rfl hb
      · show 64 + ((z 1).val - 64) = (z 1).val
        omega
      · show pr p (z 0).val (1024 + (64 + ((z 1).val - 64))) * p.ck (z 0).val (64 + ((z 1).val - 64))
          + pr p (z 0).val (1024 + (96 + ((z 1).val - 64))) * p.sk (z 0).val (64 + ((z 1).val - 64)) = _
        rw [show 64 + ((z 1).val - 64) = (z 1).val by omega, show 96 + ((z 1).val - 64) = (z 1).val + 32 by omega]
    · rw [if_neg l2]
      refine (concatenate_apply_piece (t := S16384x128) 1 _ _ z 2 (by simp) S16384x32 (val_main_v96 (F := Ideal)) rfl rfl 96 rfl
        (ValueIdx.ix2 ⟨(z 0).val, h0⟩ ⟨(z 1).val - 96, by omega⟩) (fun b hb => ?_) ?_).trans ?_
      · match b with
        | ⟨0, _⟩ => rfl
        | ⟨1, _⟩ => exact absurd rfl hb
      · show 96 + ((z 1).val - 96) = (z 1).val
        omega
      · rw [val_main_v96_apply, val_main_cst_13_apply]
        exact Ideal.ofBits_zero_f32

/-- The keys' part from the latent. -/
theorem v98_at (R : Rd p a0 a1 a2 a3 a4 a5 a6 a7 a8 a9 a10) (z : S16384x1024.Idx) : val_main_v98 (F := Ideal) a0 a1 a2 a3 a6 a7 z = kk p (z 0).val (z 1).val := by
  rw [val_main_v98_apply]
  refine Finset.sum_congr rfl fun k _ => ?_
  rw [val_main_v2_apply]
  exact congrArg₂ (· * ·) (v89_at R _) (R.wk _)

/-- The keys' result. -/
theorem v117_at (R : Rd p a0 a1 a2 a3 a4 a5 a6 a7 a8 a9 a10) (z : S16384x1024.Idx) : val_main_v117 (F := Ideal) a0 a1 a2 a3 a6 a7 a9 a10 z = ko p (z 0).val (z 1).val := by
  have h1 : (z 1).val < 1024 := (z 1).isLt
  have e0 : ((z 0).val * 1024 + (z 1).val) / 1024 = (z 0).val := by omega
  have e1 : ((z 0).val * 1024 + (z 1).val) / 128 % 8 = (z 1).val / 128 := by omega
  have e2 : ((z 0).val * 1024 + (z 1).val) % 128 = (z 1).val % 128 := by omega
  rw [val_main_v117_apply, val_main_v112_apply, val_main_v102_apply, val_main_v99_apply, val_main_v101_apply, val_main_v100_apply]
  refine congrArg₂ (· + ·) ((v98_at R _).trans (congrArg₂ (kk p) ?_ ?_)) ((v97_at R _).trans (congrArg₂ (kr p) e0 e2))
  · show ((((z 0).val * 1024 + (z 1).val) / 1024 * 8 + ((z 0).val * 1024 + (z 1).val) / 128 % 8) * 128 + ((z 0).val * 1024 + (z 1).val) % 128) / 1024 = _
    rw [e0, e1, e2]; omega
  · show ((((z 0).val * 1024 + (z 1).val) / 1024 * 8 + ((z 0).val * 1024 + (z 1).val) / 128 % 8) * 128 + ((z 0).val * 1024 + (z 1).val) % 128) % 1024 = _
    rw [e0, e1, e2]; omega

/-- The values' result. -/
theorem v118_at (R : Rd p a0 a1 a2 a3 a4 a5 a6 a7 a8 a9 a10) (z : S512x16384.Idx) : val_main_v118 (F := Ideal) a0 a1 a2 a3 a6 a8 z = vo p (z 1).val (z 0).val := by
  rw [val_main_v118_apply, val_main_v113_apply, val_main_v103_apply]
  refine Finset.sum_congr rfl fun k _ => ?_
  rw [val_main_v3_apply]
  exact congrArg₂ (· * ·) (v89_at R _) (R.wv _)

/-- The other attention's queries. -/
theorem v119_at (R : Rd p a0 a1 a2 a3 a4 a5 a6 a7 a8 a9 a10) (z : S512x16384.Idx) : val_main_v119 (F := Ideal) a0 a1 a2 a3 z = qno p (z 1).val (z 0).val := by
  rw [val_main_v119_apply, val_main_v114_apply, val_main_v106_apply, val_main_v105_apply, val_main_v104_apply, val_main_v36_apply, val_main_cst_14_apply]
  exact (div_log_two _).trans (congrArg (· * l2e) (v31_at R _))

/-- Its keys. -/
theorem v120_at (R : Rd p a0 a1 a2 a3 a4 a5 a6 a7 a8 a9 a10) (z : S16384x512.Idx) : val_main_v120 (F := Ideal) a0 a1 a2 a3 z = pr p (z 0).val (2176 + (z 1).val) := by
  rw [val_main_v120_apply, val_main_v37_apply]
  exact v31_at R _

/-- Its values. -/
theorem v121_at (R : Rd p a0 a1 a2 a3 a4 a5 a6 a7 a8 a9 a10) (z : S512x16384.Idx) : val_main_v121 (F := Ideal) a0 a1 a2 a3 z = pr p (z 1).val (2688 + (z 0).val) := by
  rw [val_main_v121_apply, val_main_v115_apply, val_main_v38_apply]
  exact v31_at R _

/-- The gate of the one attention. -/
theorem v107_at (R : Rd p a0 a1 a2 a3 a4 a5 a6 a7 a8 a9 a10) (z : S16384x512.Idx) : val_main_v107 (F := Ideal) a0 a1 a2 a3 z = silu (pr p (z 0).val (1152 + (z 1).val)) := by
  rw [val_main_v107_apply, val_main_call0_v5_apply, val_main_call0_v4_apply, val_main_call0_v3_apply, val_main_call0_v2_apply, val_main_call0_v1_apply, val_main_call0_v0_apply, val_main_v35_apply, val_main_call0_cst_apply, val_main_call0_cst_0_apply]
  rw [v31_at R]
  exact congrArg (fun s => _ * s) (logistic_at _)

/-- The gate of the other. -/
theorem v108_at (R : Rd p a0 a1 a2 a3 a4 a5 a6 a7 a8 a9 a10) (z : S16384x512.Idx) : val_main_v108 (F := Ideal) a0 a1 a2 a3 z = silu (pr p (z 0).val (3200 + (z 1).val)) := by
  rw [val_main_v108_apply, val_main_call1_v5_apply, val_main_call1_v4_apply, val_main_call1_v3_apply, val_main_call1_v2_apply, val_main_call1_v1_apply, val_main_call1_v0_apply, val_main_v39_apply, val_main_call1_cst_apply, val_main_call1_cst_0_apply]
  rw [v31_at R]
  exact congrArg (fun s => _ * s) (logistic_at _)

/-- The gate. -/
theorem v122_at (R : Rd p a0 a1 a2 a3 a4 a5 a6 a7 a8 a9 a10) (z : S16384x1024.Idx) : val_main_v122 (F := Ideal) a0 a1 a2 a3 z = gate p (z 0).val (z 1).val := by
  have h0 : (z 0).val < 16384 := (z 0).isLt
  have h1 : (z 1).val < 1024 := (z 1).isLt
  rw [val_main_v122_apply]
  show val_main_v109 (F := Ideal) a0 a1 a2 a3 z = _
  unfold val_main_v109 gate
  split
  · rename_i h
    refine (concatenate_pair_apply_left (t := S16384x1024) (s₁ := S16384x512) (s₂ := S16384x512) 1 _ _ _ z rfl (ValueIdx.ix2 ⟨(z 0).val, h0⟩ ⟨(z 1).val, h⟩) fun b => ?_).trans (v107_at R _)
    match b with
    | ⟨0, _⟩ => rfl
    | ⟨1, _⟩ => rfl
  · rename_i h
    refine (concatenate_pair_apply_right (t := S16384x1024) (s₁ := S16384x512) (s₂ := S16384x512) 1 _ _ _ z rfl rfl (ValueIdx.ix2 ⟨(z 0).val, h0⟩ ⟨(z 1).val - 512, by omega⟩) (fun b hb => ?_) ?_).trans (v108_at R _)
    · match b with
      | ⟨0, _⟩ => rfl
      | ⟨1, _⟩ => exact absurd rfl hb
    · show (z 1).val - 512 + 512 = (z 1).val
      omega

/-- Arrays of their shapes read as themselves. -/
theorem rd_of : Rd (In.of a0 a1 a2 a3 a4 a5 a6 a7 a8 a9 a10) a0 a1 a2 a3 a4 a5 a6 a7 a8 a9 a10 where
  x := fun z => Cert.Soft.at2_of a0 z _ _ rfl rfl
  m := fun z => Cert.Soft.at2_of a1 z _ _ rfl rfl
  ng := fun z => Cert.Soft.at2_of a2 z _ _ rfl rfl
  win := fun z => Cert.Soft.at2_of a3 z _ _ rfl rfl
  qn := fun z => Cert.Soft.at2_of a4 z _ _ rfl rfl
  uq := fun z => Cert.Soft.at2_of a5 z _ _ rfl rfl
  kn := fun z => Cert.Soft.at2_of a6 z _ _ rfl rfl
  wk := fun z => Cert.Soft.at2_of a7 z _ _ rfl rfl
  wv := fun z => Cert.Soft.at2_of a8 z _ _ rfl rfl
  ck := fun z => Cert.Soft.at2_of a9 z _ _ rfl rfl
  sk := fun z => Cert.Soft.at2_of a10 z _ _ rfl rfl

end Cert.Reference3Ideal.Hand

end
-- ==== Proof.AttIn.Equal.lean ====
/- The third algebraic claim: what the precondition says, and the two programs' seven results one by one the same arrays. -/
module

public import proofs.«01_k».proof.Defs
public import proofs.«01_k».proof.Proof.AttIn.Array
public import proofs.«01_k».proof.Proof.AttIn.Ref
public import proofs.«01_k».proof.Proof.Gen.Kernel3Ideal
public import proofs.«01_k».proof.Proof.Gen.Reference3Ideal
public import proofs.«01_k».proof.Proof.Gen.Reference3Ideal.Run
public import proofs.«01_k».proof.Proof.Gen.Pre_padded_tables

@[expose] public section

set_option maxRecDepth 100000

noncomputable section

namespace Cert.AttIn

open Idealize.ShloMosaic Idealize.ShloMosaic.TcCoe Idealize.SL.Sem

/-- The precondition's comparison, one at every place, says those columns are 0. -/
theorem zero_of {a b w o : ℕ} (x : FVec Ideal ⟨2, ![a, b]⟩ .f32) (hs : (⟨2, ![a, b]⟩ : Shape).Slices ![0, o] ⟨2, ![a, w]⟩)
    (h : (⟨0, ![]⟩ : Shape).BroadcastsInDim ⟨2, ![a, w]⟩ ![])
    (e : cmpf .oeq (extractStridedSlice ⟨2, ![a, w]⟩ ![0, o] x hs) (broadcastInDim ⟨2, ![a, w]⟩ ![] h (constant ⟨0, ![]⟩ .f32 0x00000000#32)) = fun _ => 1#1)
    (n d : ℕ) (hd : d < w) : Cert.Soft.at2 x n (o + d) = 0 := by
  unfold Cert.Soft.at2
  split
  · rename_i hn
    have ez : BitVec.ofBool (decide ((extractStridedSlice ⟨2, ![a, w]⟩ ![0, o] x hs (ValueIdx.ix2 ⟨n, hn.1⟩ ⟨d, hd⟩) : EReal) = Ideal.ofBits .f32 0x00000000#32)) = 1#1 :=
      congrFun e (ValueIdx.ix2 ⟨n, hn.1⟩ ⟨d, hd⟩)
    rw [Ideal.ofBits_zero_f32] at ez
    have one (p : Bool) : BitVec.ofBool p = 1#1 → p = true := by cases p <;> decide
    refine Eq.trans (congrArg x (funext fun ax => Fin.ext ?_)) (of_decide_eq_true (one _ ez))
    match ax with
    | ⟨0, _⟩ => exact (Nat.zero_add n).symm
    | ⟨1, _⟩ => rfl
  · rfl

/-- The precondition says the tables are padded with zeros. -/
theorem pad_of (m : (ℓ : Loc Cert.Kernel3Ideal.nD Cert.Kernel3Ideal.τ Cert.Kernel3Ideal.sig) → Buf (Elt Ideal) ℓ) (hp : Cert.Pre_Kernel3Ideal_padded_tables m)
    (c : Dev Cert.Kernel3Ideal.nD) : (args m c).Pad := fun n d hd => by
  have lo {x : FVec Ideal ⟨2, ![16384, 128]⟩ .f32} (h : ∀ n d : ℕ, d < 64 → Cert.Soft.at2 x n (0 + d) = 0) (hl : d < 64) : Cert.Soft.at2 x n d = 0 :=
    (congrArg (Cert.Soft.at2 x n) (Nat.zero_add d).symm).trans (h n d hl)
  have hi {x : FVec Ideal ⟨2, ![16384, 128]⟩ .f32} (h : ∀ n d : ℕ, d < 32 → Cert.Soft.at2 x n (96 + d) = 0) (hl : 96 ≤ d) : Cert.Soft.at2 x n d = 0 := by
    by_cases h2 : d < 128
    · exact (congrArg (Cert.Soft.at2 x n) (by omega)).trans (h n (d - 96) (by omega))
    · unfold Cert.Soft.at2
      exact dif_neg fun hh => h2 hh.2
  rcases hd with h | h
  · exact ⟨lo (zero_of _ _ _ (hp c).1) h, lo (zero_of _ _ _ (hp c).2.2.1) h⟩
  · exact ⟨hi (zero_of _ _ _ (hp c).2.1) h, hi (zero_of _ _ _ (hp c).2.2.2) h⟩

/-- The two programs of the way into the attention end with the same results. -/
theorem algebraic : Cert.algebraic_Kernel3Ideal_Reference3Ideal_pre_padded_tables := by
  intro m g m' g' hp ha
  refine ⟨fun c => oq m c, fun c => ok m c, fun c => ov m c, fun c => onq m c, fun c => onk m c, fun c => onv m c, fun c => og m c,
    run_val m g (pad_of m hp), ?_⟩
  refine (θ_run Cert.Reference3Ideal.defs _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2⟩)
    (Cert.Reference3Ideal.Value.run (F := Ideal) m' g')
  all_goals obtain ⟨h0, h1, h2, h3, h4, h5, h6, h7, h8, h9, h10⟩ := ha c
  · refine (Cert.Reference3Ideal.Read.val_main_v116_eq _ _).trans ?_
    rw [h0, h1, h2, h3, h4, h5, h9, h10]
    exact funext fun i => Cert.Reference3Ideal.Hand.v116_at Cert.Reference3Ideal.Hand.rd_of i
  · refine (Cert.Reference3Ideal.Read.val_main_v117_eq _ _).trans ?_
    rw [h0, h1, h2, h3, h6, h7, h9, h10]
    exact funext fun i => Cert.Reference3Ideal.Hand.v117_at Cert.Reference3Ideal.Hand.rd_of i
  · refine (Cert.Reference3Ideal.Read.val_main_v118_eq _ _).trans ?_
    rw [h0, h1, h2, h3, h6, h8]
    exact funext fun i => Cert.Reference3Ideal.Hand.v118_at Cert.Reference3Ideal.Hand.rd_of i
  · refine (Cert.Reference3Ideal.Read.val_main_v119_eq _ _ _ _).trans ?_
    rw [h0, h1, h2, h3]
    exact funext fun i => Cert.Reference3Ideal.Hand.v119_at Cert.Reference3Ideal.Hand.rd_of i
  · refine (Cert.Reference3Ideal.Read.val_main_v120_eq _ _ _ _).trans ?_
    rw [h0, h1, h2, h3]
    exact funext fun i => Cert.Reference3Ideal.Hand.v120_at Cert.Reference3Ideal.Hand.rd_of i
  · refine (Cert.Reference3Ideal.Read.val_main_v121_eq _ _ _ _).trans ?_
    rw [h0, h1, h2, h3]
    exact funext fun i => Cert.Reference3Ideal.Hand.v121_at Cert.Reference3Ideal.Hand.rd_of i
  · refine (Cert.Reference3Ideal.Read.val_main_v122_eq _ _).trans ?_
    rw [h0, h1, h2, h3]
    exact funext fun i => Cert.Reference3Ideal.Hand.v122_at Cert.Reference3Ideal.Hand.rd_of i

end Cert.AttIn

end
-- ==== Proof.Sgu.Earlier.lean ====
/- The gating layer without the last norm: the earlier layers' call, by what was shown of the last one's. -/
module

public import Idealize.ShloMosaic.Lib.Pipeline.Value
public import Idealize.ShloMosaic.Lib.Pipeline.ValueKit
public import proofs.«01_k».proof.Defs
public import proofs.«01_k».proof.Proof.Sgu.Spec
public import proofs.«01_k».proof.Proof.Sgu.Block
public import proofs.«01_k».proof.Proof.Sgu.Array
public import proofs.«01_k».proof.Proof.Sgu.Ref
public import proofs.«01_k».proof.Proof.AttIn.Array
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read

@[expose] public section

set_option maxRecDepth 100000

noncomputable section

namespace Cert.SguEarlier

open Cert.Kernel4Ideal Cert.Kernel4Ideal.Gen
open Cert.Sgu (Is In Blk oo oo_from)
open Idealize.ShloMosaic Idealize.ShloMosaic.ValueIdx
open Idealize.ShloMosaic.TcCoe Idealize.SL.Sem
open Idealize.ShloMosaic.Pipeline (Dat)

/-- The reference's stream after the update is the last layer's before its norm. -/
theorem v110_same : @Cert.Reference4Ideal.Read.val_main_v110 Ideal _ = @Cert.Reference2Ideal.Read.val_main_v110 Ideal _ := rfl

/-- The block of rows the body leaves is the stream after the layer's update, which the last layer's body goes on to norm. -/
theorem out_is {p : In} {x0 : Vec Ideal S512x1024 .f32} {x1 x2 : Vec Ideal S512x512 .bf16} {x3 : Vec Ideal S512x1024 .bf16} {x4 : Vec Ideal S8x3072 .f32} {x5 : Vec Ideal S1024x1024 .bf16} {x6 : Vec Ideal S8x3072 .f32} {x7 : Vec Ideal S1x1024 .f32} {x8 : Vec Ideal S1024x6144 .bf16} {x9 x10 : Vec Ideal S1x2048 .f32} {x11 : Vec Ideal S8x128x128 .bf16} {x12 : Vec Ideal S8x128x1 .f32} {x13 : Vec Ideal S2048x1024 .bf16} {x14 : Vec Ideal S1x1024 .f32}
    (B : Blk p x0 x1 x2 x3 x4 x5 x6 x7 x8 x9 x10 x11 x12 x13 x14) : Is (a := 512) (b := 1024) (out0_15 x0 x1 x2 x3 x4 x5 x6 x7 x8 x9 x10 x11 x12 x13 x14) (oo p) := by
  have ho := Cert.Sgu.pay60_is B
  unfold out0_15
  rw [View.canon_cons_unit_lit _ _ _ (fun a => by match a with | ⟨0, _⟩ => rfl | ⟨1, _⟩ => rfl)]
  exact ho

variable (m : (ℓ : Loc nD τ sig) → Buf (Elt Ideal) ℓ) (ρ : Dev nD → PrngReg) (c : Dev nD)

/-- The layer's arrays, from the arguments. -/
def args : In := In.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The blocks at a grid point are the layer's arrays with the rows from there on. -/
theorem blk_args (t : Fin cfg0.N) : Blk ((args m c).from t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) :=
  Cert.Sgu.blk_args m c t

/-- The result array. -/
def val : Vec Ideal S16384x1024 .f32 := fun z => oo (args m c) (z 0).val (z 1).val

/-- The result window's blocks cover its array. -/
theorem covers : (cfg0.win 15).Covers := by decide +kernel

/-- Each grid point's block of the result. -/
theorem block15 (t : Fin cfg0.N) (y : ((cfg0.win 15).xblock (cfg0.grid.coords t)).Idx) :
    _root_.cast (congrArg (Elt Ideal) ((cfg0.win 15).blk t).view.elt_eq.symm) ((dats m 0 c).after 15 t ((cfg0.win 15).xinj (cfg0.grid.coords t) y))
      = val m c (((cfg0.win 15).blk t).view.emb y) := by
  rw [after0_15]
  have ho := out_is (blk_args m c t)
  have h : (cfg0.win 15).index t 0 = t.val ∧ (cfg0.win 15).index t 1 = 0 := (Cert.Sgu.index_eq t).2.2.2.2.2.2.2.2.2.2.2.2.2.2.2
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = o at ho ⊢
  refine (Cert.AttIn.is_at ho ((cfg0.win 15).xinj (cfg0.grid.coords t) y) (y 0).val (y 1).val rfl rfl).trans ((oo_from _ _ _ _).trans ?_)
  exact congrArg₂ (oo (args m c)) (Cert.AttIn.moves h.1) (Cert.AttIn.stays h.2)

/-- At the end the array is the result. -/
theorem final15 : (dats m 0 c).arrAt 15 cfg0.N = val m c :=
  (dats m 0 c).arrAt_eq_of_covers 15 (val m c) covers (fun t _ y => block15 m c t y) (by exact Memref.isWhole_whole _)

/-- The run: the result array at the layer's result, the arguments unchanged. -/
theorem run_val :
    θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ hr c => ⟨(hr c).1.trans (final15 m c), (hr c).2⟩) (Value.run_blocks m ρ)

/-- The two programs of the earlier gated layer end with one result. -/
theorem algebraic : Cert.algebraic_Kernel4Ideal_Reference4Ideal := by
  intro m g m' g' _ ha
  refine ⟨fun c => val m c, run_val m g, ?_⟩
  refine (θ_run Cert.Reference4Ideal.defs _ _).mono (fun r h c => ⟨(h c).1.trans ?_, (h c).2⟩)
    (Cert.Reference4Ideal.Value.run (F := Ideal) m' g')
  obtain ⟨h0, h1, h2, h3, h4, h5, h6, h7, h8, h9, h10, h11, h12, h13, h14⟩ := ha c
  refine (Cert.Reference4Ideal.Read.val_main_v110_eq _ _).trans ?_
  rw [h0, h1, h2, h3, h4, h5, h6, h7, h8, h9, h10, h11, h12, h13, v110_same]
  exact funext fun i => Cert.Reference2Ideal.Hand.v110_at Cert.Reference2Ideal.Hand.rd_of i

end Cert.SguEarlier

end
-- ==== Proof.lean ====
/- The proof of the claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Kernel.Run
public import proofs.«01_k».proof.Proof.KernelIdeal.Run
public import proofs.«01_k».proof.Proof.Equal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Sgu.Equal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_padded_tables
public import proofs.«01_k».proof.Proof.AttIn.Equal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Sgu.Earlier

@[expose] public section

noncomputable section

open Idealize.ShloMosaic Idealize.ShloMosaic.TcCoe Idealize.SL.Sem

/-- The claim. -/
theorem Cert.Proof.claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_scores.Gen.facts, Cert.Pre_padded_tables.Gen.facts,
    fun m g _ => Cert.Kernel.Steps.frame m g, fun m g _ => Cert.KernelIdeal.Steps.frame m g,
    fun m g _ => Cert.KernelIdeal.Steps.frame m g,
    fun m g _ => by
      exact (θ_run Cert.ReferenceIdeal.defs _ _).mono (fun r h => ⟨fun c => (h c).2, sem_eq_zero_of_no_sems (by decide) r.2⟩)
        (Cert.ReferenceIdeal.Value.run (F := Ideal) m g),
    fun m g _ => by
      exact (θ_run Cert.ReferenceIdeal.defs _ _).mono (fun r h => ⟨fun c => (h c).2, sem_eq_zero_of_no_sems (by decide) r.2⟩)
        (Cert.ReferenceIdeal.Value.run (F := Ideal) m g),
    fun m g _ => Cert.Kernel2.Gen.frame m g, fun m g _ => Cert.Kernel2Ideal.Gen.frame m g,
    fun m g _ => by
      exact (θ_run Cert.Reference2Ideal.defs _ _).mono (fun r h => ⟨fun c => (h c).2, sem_eq_zero_of_no_sems (by decide) r.2⟩)
        (Cert.Reference2Ideal.Value.run (F := Ideal) m g),
    fun m g _ => Cert.Kernel3.Gen.frame m g, fun m g _ => Cert.Kernel3Ideal.Gen.frame m g, fun m g _ => Cert.Kernel3Ideal.Gen.frame m g,
    fun m g _ => by
      exact (θ_run Cert.Reference3Ideal.defs _ _).mono (fun r h => ⟨fun c => (h c).2.2.2.2.2.2.2, sem_eq_zero_of_no_sems (by decide) r.2⟩)
        (Cert.Reference3Ideal.Value.run (F := Ideal) m g),
    fun m g _ => by
      exact (θ_run Cert.Reference3Ideal.defs _ _).mono (fun r h => ⟨fun c => (h c).2.2.2.2.2.2.2, sem_eq_zero_of_no_sems (by decide) r.2⟩)
        (Cert.Reference3Ideal.Value.run (F := Ideal) m g),
    fun m g _ => Cert.Kernel4.Gen.frame m g, fun m g _ => Cert.Kernel4Ideal.Gen.frame m g,
    fun m g _ => by
      exact (θ_run Cert.Reference4Ideal.defs _ _).mono (fun r h => ⟨fun c => (h c).2, sem_eq_zero_of_no_sems (by decide) r.2⟩)
        (Cert.Reference4Ideal.Value.run (F := Ideal) m g),
    trivial, Cert.Attn.algebraic, IdealRules.named_const.statement _ _ _ _ _ rfl, Cert.Sgu.algebraic,
    ⟨IdealRules.named_const.statement _ _ _ _ _ rfl, IdealRules.named_const.statement _ _ _ _ _ rfl⟩, Cert.AttIn.algebraic,
    IdealRules.named_const.statement _ _ _ _ _ rfl, Cert.SguEarlier.algebraic⟩

end
